-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def holds_KernelIdeal_near_pre_no_tie [hKernelIdeal : Cert.KernelIdeal.Facts] [hPre_no_tie : Cert.Pre_no_tie.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (r.2.mem ((c.tc : Thread Cert.KernelIdeal.nD Cert.KernelIdeal.τ).loc Cert.KernelIdeal.main_v6))) = (fun _ => 1#1))

def Claim : Prop :=
  ∃ (hKernel : Cert.Kernel.Facts) (hKernelIdeal : Cert.KernelIdeal.Facts) (hReferenceIdeal : Cert.ReferenceIdeal.Facts) (hPre_no_tie : Cert.Pre_no_tie.Facts) (hPost_near : Cert.Post_near.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
    ∧ holds_KernelIdeal_near_pre_no_tie (hKernelIdeal := hKernelIdeal) (hPre_no_tie := hPre_no_tie) (hPost_near := hPost_near)
-- ==== Post_near.lean ====
abbrev S512x2 : Shape := ⟨2, ![512, 2]⟩
abbrev S10000x3 : Shape := ⟨2, ![10000, 3]⟩
abbrev S10000x2 : Shape := ⟨2, ![10000, 2]⟩
abbrev S10000x1 : Shape := ⟨2, ![10000, 1]⟩
abbrev S10000x2x1024 : Shape := ⟨3, ![10000, 2, 1024]⟩
abbrev S512x3 : Shape := ⟨2, ![512, 3]⟩
abbrev S10000x2x16 : Shape := ⟨3, ![10000, 2, 16]⟩
abbrev S_ : Shape := ⟨0, ![]⟩
abbrev S10000x2x16x1 : Shape := ⟨4, ![10000, 2, 16, 1]⟩
abbrev S1 : Shape := ⟨1, ![1]⟩
abbrev S1x1x1x1 : Shape := ⟨4, ![1, 1, 1, 1]⟩
abbrev S512x1x2 : Shape := ⟨3, ![512, 1, 2]⟩
abbrev S1x10000x2 : Shape := ⟨3, ![1, 10000, 2]⟩
abbrev S512x10000x2 : Shape := ⟨3, ![512, 10000, 2]⟩
abbrev S10000 : Shape := ⟨1, ![10000]⟩
abbrev S1x10000 : Shape := ⟨2, ![1, 10000]⟩
abbrev S512x10000x1 : Shape := ⟨3, ![512, 10000, 1]⟩
abbrev S512x10000 : Shape := ⟨2, ![512, 10000]⟩
abbrev S10000x1x16 : Shape := ⟨3, ![10000, 1, 16]⟩
abbrev S10000x16 : Shape := ⟨2, ![10000, 16]⟩
abbrev S1x10000x16 : Shape := ⟨3, ![1, 10000, 16]⟩
abbrev S512x10000x16 : Shape := ⟨3, ![512, 10000, 16]⟩

class Facts : Prop where
  sliceFits_S10000x2x1024_S10000x2x16 : S10000x2x1024.Slices (fun _ => 0) S10000x2x16
  bcast_S_S10000x2x16 : S_.BroadcastsInDim S10000x2x16 (![] : Fin 0 → Fin S10000x2x16.rank)
  shapeCasts_S10000x2x16_S10000x2x16x1 : S10000x2x16.ShapeCasts S10000x2x16x1
  bcast_S_S10000x2x16x1 : S_.BroadcastsInDim S10000x2x16x1 (![] : Fin 0 → Fin S10000x2x16x1.rank)
  bcast_S1_S1x1x1x1_3 : S1.BroadcastsInDim S1x1x1x1 (![3] : Fin 1 → Fin S1x1x1x1.rank)
  bcast_S1x1x1x1_S10000x2x16x1_0_1_2_3 : S1x1x1x1.BroadcastsInDim S10000x2x16x1 (![0, 1, 2, 3] : Fin 4 → Fin S10000x2x16x1.rank)
  reducesTo_S10000x2x16x1_S10000x2x16_d3 : S10000x2x16x1.ReducesTo [3] S10000x2x16
  h_S_ : 0 < S_.numel
  bcast_S512x2_S512x1x2_0_2 : S512x2.BroadcastsInDim S512x1x2 (![0, 2] : Fin 2 → Fin S512x1x2.rank)
  bcast_S10000x2_S1x10000x2_1_2 : S10000x2.BroadcastsInDim S1x10000x2 (![1, 2] : Fin 2 → Fin S1x10000x2.rank)
  bcast_S512x1x2_S512x10000x2_0_1_2 : S512x1x2.BroadcastsInDim S512x10000x2 (![0, 1, 2] : Fin 3 → Fin S512x10000x2.rank)
  bcast_S1x10000x2_S512x10000x2_0_1_2 : S1x10000x2.BroadcastsInDim S512x10000x2 (![0, 1, 2] : Fin 3 → Fin S512x10000x2.rank)
  shapeCasts_S10000x1_S10000 : S10000x1.ShapeCasts S10000
  bcast_S10000_S1x10000_1 : S10000.BroadcastsInDim S1x10000 (![1] : Fin 1 → Fin S1x10000.rank)
  slices_S512x10000x2_S512x10000x1_0_0_0 : S512x10000x2.Slices ![0, 0, 0] S512x10000x1
  shapeCasts_S512x10000x1_S512x10000 : S512x10000x1.ShapeCasts S512x10000
  bcast_S1x10000_S512x10000_0_1 : S1x10000.BroadcastsInDim S512x10000 (![0, 1] : Fin 2 → Fin S512x10000.rank)
  slices_S512x10000x2_S512x10000x1_0_0_1 : S512x10000x2.Slices ![0, 0, 1] S512x10000x1
  slices_S10000x2_S10000x1_0_0 : S10000x2.Slices ![0, 0] S10000x1
  slices_S10000x2_S10000x1_0_1 : S10000x2.Slices ![0, 1] S10000x1
  bcast_S_S512x10000 : S_.BroadcastsInDim S512x10000 (![] : Fin 0 → Fin S512x10000.rank)
  slices_S10000x2x16_S10000x1x16_0_0_0 : S10000x2x16.Slices ![0, 0, 0] S10000x1x16
  shapeCasts_S10000x1x16_S10000x16 : S10000x1x16.ShapeCasts S10000x16
  bcast_S10000x16_S1x10000x16_1_2 : S10000x16.BroadcastsInDim S1x10000x16 (![1, 2] : Fin 2 → Fin S1x10000x16.rank)
  bcast_S_S1x10000x16 : S_.BroadcastsInDim S1x10000x16 (![] : Fin 0 → Fin S1x10000x16.rank)
  bcast_S512x10000_S512x10000x1_0_1 : S512x10000.BroadcastsInDim S512x10000x1 (![0, 1] : Fin 2 → Fin S512x10000x1.rank)
  bcast_S1x10000x16_S512x10000x16_0_1_2 : S1x10000x16.BroadcastsInDim S512x10000x16 (![0, 1, 2] : Fin 3 → Fin S512x10000x16.rank)
  bcast_S512x10000x1_S512x10000x16_0_1_2 : S512x10000x1.BroadcastsInDim S512x10000x16 (![0, 1, 2] : Fin 3 → Fin S512x10000x16.rank)
  reducesTo_S512x10000x16_S512x10000_d2 : S512x10000x16.ReducesTo [2] S512x10000
  slices_S10000x2x16_S10000x1x16_0_1_0 : S10000x2x16.Slices ![0, 1, 0] S10000x1x16
  bcast_S_S512x10000x16 : S_.BroadcastsInDim S512x10000x16 (![] : Fin 0 → Fin S512x10000x16.rank)
  reducesTo_S1x10000x16_S1x10000_d2 : S1x10000x16.ReducesTo [2] S1x10000
  gather_S10000x2x1024_S10000x2x16x1_S10000x2x16_n_2_01_01_2_3_111_wf : GatherDims.WF S10000x2x1024 S10000x2x16x1 S10000x2x16 [] [2] [0, 1] [2] [0, 1] 3 ![1, 1, 1]
  dot_S512x10000_S10000x3_S512x3_1_0_0_1_n_n_wf : DotDims.WF S512x10000 S10000x3 S512x3 [1] [0] [0] [1] [] []

variable [Facts]

def gather_S10000x2x1024_S10000x2x16x1_S10000x2x16_n_2_01_01_2_3_111 : GatherDims S10000x2x1024 S10000x2x16x1 S10000x2x16 where
  offsetDims := []
  collapsedSliceDims := [2]
  operandBatchingDims := [0, 1]
  startIndicesBatchingDims := [0, 1]
  startIndexMap := [2]
  indexVectorDim := 3
  sliceSizes := ![1, 1, 1]
  wf := gather_S10000x2x1024_S10000x2x16x1_S10000x2x16_n_2_01_01_2_3_111_wf
def dot_S512x10000_S10000x3_S512x3_1_0_0_1_n_n : DotDims S512x10000 S10000x3 S512x3 where
  lhsContracting := [1]
  rhsContracting := [0]
  lhsNonContracting := [0]
  rhsNonContracting := [1]
  lhsBatch := []
  rhsBatch := []
  wf := dot_S512x10000_S10000x3_S512x3_1_0_0_1_n_n_wf
def fn_take_along_axis {F : FTy → Type} [FloatOps F] (arg0 : FVec F S10000x2x1024 .f32) (arg1 : IVec S10000x2x16 32) : FVec F S10000x2x16 .f32 :=
  let c : IVec S_ 32 := constantI S_ 32 0#32
  let v0 : IVec S10000x2x16 32 := broadcastInDim S10000x2x16 ![] bcast_S_S10000x2x16 c
  let v1 : IVec S10000x2x16 1 := cmpi .slt arg1 v0
  let c_0 : IVec S_ 32 := constantI S_ 32 1024#32
  let v2 : IVec S10000x2x16 32 := broadcastInDim S10000x2x16 ![] bcast_S_S10000x2x16 c_0
  let v3 : IVec S10000x2x16 32 := addi arg1 v2
  let v4 : IVec S10000x2x16 32 := select v1 v3 arg1
  let v5 : IVec S10000x2x16x1 32 := shapeCast S10000x2x16x1 v4 shapeCasts_S10000x2x16_S10000x2x16x1
  let c_1 : IVec S1 32 := constantI S1 32 1023#32
  let c_2 : IVec S_ 32 := constantI S_ 32 0#32
  let v6 : IVec S10000x2x16x1 32 := broadcastInDim S10000x2x16x1 ![] bcast_S_S10000x2x16x1 c_2
  let v7 : IVec S10000x2x16x1 1 := cmpi .sge v5 v6
  let v8 : IVec S1x1x1x1 32 := broadcastInDim S1x1x1x1 ![3] bcast_S1_S1x1x1x1_3 c_1
  let v9 : IVec S10000x2x16x1 32 := broadcastInDim S10000x2x16x1 ![0, 1, 2, 3] bcast_S1x1x1x1_S10000x2x16x1_0_1_2_3 v8
  let v10 : IVec S10000x2x16x1 1 := cmpi .sle v5 v9
  let v11 : IVec S10000x2x16x1 1 := andi v7 v10
  let c_3 : IVec S_ 1 := constantI S_ 1 1#1
  let v12 : IVec S10000x2x16 1 := (fun x v => Host.reduce IntOp.andi x v reducesTo_S10000x2x16x1_S10000x2x16_d3 h_S_) v11 c_3
  let v13 : FVec F S10000x2x16 .f32 := (fun x i => Host.gather gather_S10000x2x1024_S10000x2x16x1_S10000x2x16_n_2_01_01_2_3_111 x i) arg0 v5
  let cst : FVec F S_ .f32 := constant S_ .f32 0x7FC00000#32
  let v14 : FVec F S10000x2x16 .f32 := broadcastInDim S10000x2x16 ![] bcast_S_S10000x2x16 cst
  let v15 : FVec F S10000x2x16 .f32 := select v12 v13 v14
  v15

def fn_part7 {F : FTy → Type} [FloatOps F] (main_v147 : FVec F S512x3 .f32) (main_v149 : FVec F S512x3 .f32) : IVec S512x3 1 :=
  let main_v150 : IVec S512x3 1 := cmpf .ole main_v149 main_v147
  main_v150

def fn_part6 {F : FTy → Type} [FloatOps F] (main_arg1 : FVec F S10000x3 .f32) (main_arg6 : FVec F S512x3 .f32) (main_v1 : FVec F S10000x2x16 .f32) (main_v89 : FVec F S512x3 .f32) (main_v91 : FVec F S512x10000 .f32) (main_v117 : FVec F S512x10000 .f32) (main_v122 : FVec F S1x10000 .f32) (main_v127 : FVec F S512x10000x16 .f32) (main_v128 : FVec F S512x10000x16 .f32) : IVec S512x3 1 :=
  let main_v129 : FVec F S512x10000x16 .f32 := mulf main_v127 main_v128
  let main_v130 : FVec F S512x10000x16 .f32 := Host.absf main_v129
  let main_v131 : FVec F S10000x1x16 .f32 := (extractStridedSlice S10000x1x16 ![0, 1, 0] · slices_S10000x2x16_S10000x1x16_0_1_0) main_v1
  let main_v132 : FVec F S10000x16 .f32 := shapeCast S10000x16 main_v131 shapeCasts_S10000x1x16_S10000x16
  let main_v133 : FVec F S1x10000x16 .f32 := broadcastInDim S1x10000x16 ![1, 2] bcast_S10000x16_S1x10000x16_1_2 main_v132
  let main_v134 : FVec F S1x10000x16 .f32 := Host.absf main_v133
  let main_cst_12 : FVec F S_ .f32 := constant S_ .f32 0x34800000#32
  let main_v135 : FVec F S512x10000x16 .f32 := broadcastInDim S512x10000x16 ![] bcast_S_S512x10000x16 main_cst_12
  let main_v136 : FVec F S512x10000x16 .f32 := mulf main_v135 main_v130
  let main_cst_13 : FVec F S_ .f32 := constant S_ .f32 0x36800000#32
  let main_v137 : FVec F S512x10000x16 .f32 := broadcastInDim S512x10000x16 ![] bcast_S_S512x10000x16 main_cst_13
  let main_v138 : FVec F S512x10000x16 .f32 := addf main_v137 main_v136
  let main_v139 : FVec F S512x10000x16 .f32 := broadcastInDim S512x10000x16 ![0, 1, 2] bcast_S1x10000x16_S512x10000x16_0_1_2 main_v134
  let main_v140 : FVec F S512x10000x16 .f32 := mulf main_v139 main_v138
  let main_cst_14 : FVec F S_ .f32 := constant S_ .f32 0x00000000#32
  let main_v141 : FVec F S512x10000 .f32 := (fun x v => Host.reduceAdd x v reducesTo_S512x10000x16_S512x10000_d2 h_S_) main_v140 main_cst_14
  let main_v142 : FVec F S512x10000 .f32 := broadcastInDim S512x10000 ![0, 1] bcast_S1x10000_S512x10000_0_1 main_v122
  let main_v143 : FVec F S512x10000 .f32 := mulf main_v142 main_v141
  let main_v144 : FVec F S512x10000 .f32 := addf main_v117 main_v143
  let main_v145 : FVec F S512x10000 .f32 := mulf main_v91 main_v144
  let main_v146 : FVec F S10000x3 .f32 := Host.absf main_arg1
  let main_v147 : FVec F S512x3 .f32 := (fun l r => Host.dotGeneral dot_S512x10000_S10000x3_S512x3_1_0_0_1_n_n none l r) main_v145 main_v146
  let main_v148 : FVec F S512x3 .f32 := subf main_arg6 main_v89
  let main_v149 : FVec F S512x3 .f32 := Host.absf main_v148
  fn_part7 (F := F) main_v147 main_v149

def fn_part5 {F : FTy → Type} [FloatOps F] (main_arg1 : FVec F S10000x3 .f32) (main_arg6 : FVec F S512x3 .f32) (main_v1 : FVec F S10000x2x16 .f32) (main_v6 : FVec F S10000x2x16 .f32) (main_v38 : FVec F S512x10000 .f32) (main_v89 : FVec F S512x3 .f32) (main_v91 : FVec F S512x10000 .f32) (main_v103 : FVec F S1x10000x16 .f32) (main_v107 : FVec F S512x10000x16 .f32) : IVec S512x3 1 :=
  let main_v108 : FVec F S512x10000x16 .f32 := broadcastInDim S512x10000x16 ![0, 1, 2] bcast_S1x10000x16_S512x10000x16_0_1_2 main_v103
  let main_v109 : FVec F S512x10000x16 .f32 := mulf main_v108 main_v107
  let main_cst_9 : FVec F S_ .f32 := constant S_ .f32 0x00000000#32
  let main_v110 : FVec F S512x10000 .f32 := (fun x v => Host.reduceAdd x v reducesTo_S512x10000x16_S512x10000_d2 h_S_) main_v109 main_cst_9
  let main_v111 : FVec F S10000x1x16 .f32 := (extractStridedSlice S10000x1x16 ![0, 1, 0] · slices_S10000x2x16_S10000x1x16_0_1_0) main_v1
  let main_v112 : FVec F S10000x16 .f32 := shapeCast S10000x16 main_v111 shapeCasts_S10000x1x16_S10000x16
  let main_v113 : FVec F S1x10000x16 .f32 := broadcastInDim S1x10000x16 ![1, 2] bcast_S10000x16_S1x10000x16_1_2 main_v112
  let main_v114 : FVec F S1x10000x16 .f32 := Host.absf main_v113
  let main_cst_10 : FVec F S_ .f32 := constant S_ .f32 0x00000000#32
  let main_v115 : FVec F S1x10000 .f32 := (fun x v => Host.reduceAdd x v reducesTo_S1x10000x16_S1x10000_d2 h_S_) main_v114 main_cst_10
  let main_v116 : FVec F S512x10000 .f32 := broadcastInDim S512x10000 ![0, 1] bcast_S1x10000_S512x10000_0_1 main_v115
  let main_v117 : FVec F S512x10000 .f32 := mulf main_v110 main_v116
  let main_v118 : FVec F S10000x1x16 .f32 := (extractStridedSlice S10000x1x16 ![0, 0, 0] · slices_S10000x2x16_S10000x1x16_0_0_0) main_v1
  let main_v119 : FVec F S10000x16 .f32 := shapeCast S10000x16 main_v118 shapeCasts_S10000x1x16_S10000x16
  let main_v120 : FVec F S1x10000x16 .f32 := broadcastInDim S1x10000x16 ![1, 2] bcast_S10000x16_S1x10000x16_1_2 main_v119
  let main_v121 : FVec F S1x10000x16 .f32 := Host.absf main_v120
  let main_cst_11 : FVec F S_ .f32 := constant S_ .f32 0x00000000#32
  let main_v122 : FVec F S1x10000 .f32 := (fun x v => Host.reduceAdd x v reducesTo_S1x10000x16_S1x10000_d2 h_S_) main_v121 main_cst_11
  let main_v123 : FVec F S10000x1x16 .f32 := (extractStridedSlice S10000x1x16 ![0, 1, 0] · slices_S10000x2x16_S10000x1x16_0_1_0) main_v6
  let main_v124 : FVec F S10000x16 .f32 := shapeCast S10000x16 main_v123 shapeCasts_S10000x1x16_S10000x16
  let main_v125 : FVec F S1x10000x16 .f32 := broadcastInDim S1x10000x16 ![1, 2] bcast_S10000x16_S1x10000x16_1_2 main_v124
  let main_v126 : FVec F S512x10000x1 .f32 := broadcastInDim S512x10000x1 ![0, 1] bcast_S512x10000_S512x10000x1_0_1 main_v38
  let main_v127 : FVec F S512x10000x16 .f32 := broadcastInDim S512x10000x16 ![0, 1, 2] bcast_S1x10000x16_S512x10000x16_0_1_2 main_v125
  let main_v128 : FVec F S512x10000x16 .f32 := broadcastInDim S512x10000x16 ![0, 1, 2] bcast_S512x10000x1_S512x10000x16_0_1_2 main_v126
  fn_part6 (F := F) main_arg1 main_arg6 main_v1 main_v89 main_v91 main_v117 main_v122 main_v127 main_v128

def fn_part4 {F : FTy → Type} [FloatOps F] (main_arg1 : FVec F S10000x3 .f32) (main_arg6 : FVec F S512x3 .f32) (main_v1 : FVec F S10000x2x16 .f32) (main_v6 : FVec F S10000x2x16 .f32) (main_v26 : FVec F S512x10000 .f32) (main_v38 : FVec F S512x10000 .f32) (main_v54 : FVec F S512x10000 .f32) (main_v71 : FVec F S512x10000 .f32) (main_v86 : FVec F S512x10000x16 .f32) (main_cst_5 : FVec F S_ .f32) : IVec S512x3 1 :=
  let main_v87 : FVec F S512x10000 .f32 := (fun x v => Host.reduceAdd x v reducesTo_S512x10000x16_S512x10000_d2 h_S_) main_v86 main_cst_5
  let main_v88 : FVec F S512x10000 .f32 := mulf main_v71 main_v87
  let main_v89 : FVec F S512x3 .f32 := (fun l r => Host.dotGeneral dot_S512x10000_S10000x3_S512x3_1_0_0_1_n_n none l r) main_v88 main_arg1
  let main_cst_6 : FVec F S_ .f32 := constant S_ .f32 0x40000000#32
  let main_v90 : FVec F S512x10000 .f32 := broadcastInDim S512x10000 ![] bcast_S_S512x10000 main_cst_6
  let main_v91 : FVec F S512x10000 .f32 := mulf main_v90 main_v54
  let main_v92 : FVec F S10000x1x16 .f32 := (extractStridedSlice S10000x1x16 ![0, 0, 0] · slices_S10000x2x16_S10000x1x16_0_0_0) main_v6
  let main_v93 : FVec F S10000x16 .f32 := shapeCast S10000x16 main_v92 shapeCasts_S10000x1x16_S10000x16
  let main_v94 : FVec F S1x10000x16 .f32 := broadcastInDim S1x10000x16 ![1, 2] bcast_S10000x16_S1x10000x16_1_2 main_v93
  let main_v95 : FVec F S512x10000x1 .f32 := broadcastInDim S512x10000x1 ![0, 1] bcast_S512x10000_S512x10000x1_0_1 main_v26
  let main_v96 : FVec F S512x10000x16 .f32 := broadcastInDim S512x10000x16 ![0, 1, 2] bcast_S1x10000x16_S512x10000x16_0_1_2 main_v94
  let main_v97 : FVec F S512x10000x16 .f32 := broadcastInDim S512x10000x16 ![0, 1, 2] bcast_S512x10000x1_S512x10000x16_0_1_2 main_v95
  let main_v98 : FVec F S512x10000x16 .f32 := mulf main_v96 main_v97
  let main_v99 : FVec F S512x10000x16 .f32 := Host.absf main_v98
  let main_v100 : FVec F S10000x1x16 .f32 := (extractStridedSlice S10000x1x16 ![0, 0, 0] · slices_S10000x2x16_S10000x1x16_0_0_0) main_v1
  let main_v101 : FVec F S10000x16 .f32 := shapeCast S10000x16 main_v100 shapeCasts_S10000x1x16_S10000x16
  let main_v102 : FVec F S1x10000x16 .f32 := broadcastInDim S1x10000x16 ![1, 2] bcast_S10000x16_S1x10000x16_1_2 main_v101
  let main_v103 : FVec F S1x10000x16 .f32 := Host.absf main_v102
  let main_cst_7 : FVec F S_ .f32 := constant S_ .f32 0x34800000#32
  let main_v104 : FVec F S512x10000x16 .f32 := broadcastInDim S512x10000x16 ![] bcast_S_S512x10000x16 main_cst_7
  let main_v105 : FVec F S512x10000x16 .f32 := mulf main_v104 main_v99
  let main_cst_8 : FVec F S_ .f32 := constant S_ .f32 0x36800000#32
  let main_v106 : FVec F S512x10000x16 .f32 := broadcastInDim S512x10000x16 ![] bcast_S_S512x10000x16 main_cst_8
  let main_v107 : FVec F S512x10000x16 .f32 := addf main_v106 main_v105
  fn_part5 (F := F) main_arg1 main_arg6 main_v1 main_v6 main_v38 main_v89 main_v91 main_v103 main_v107

def fn_part3 {F : FTy → Type} [FloatOps F] (main_arg1 : FVec F S10000x3 .f32) (main_arg6 : FVec F S512x3 .f32) (main_v1 : FVec F S10000x2x16 .f32) (main_v6 : FVec F S10000x2x16 .f32) (main_v26 : FVec F S512x10000 .f32) (main_v38 : FVec F S512x10000 .f32) (main_v54 : FVec F S512x10000 .f32) (main_v57 : FVec F S1x10000x16 .f32) (main_v64 : FVec F S512x10000x16 .f32) (main_v65 : FVec F S512x10000x16 .f32) : IVec S512x3 1 :=
  let main_v66 : FVec F S512x10000x16 .f32 := mulf main_v64 main_v65
  let main_v67 : FVec F S512x10000x16 .f32 := Host.cos main_v66
  let main_v68 : FVec F S512x10000x16 .f32 := broadcastInDim S512x10000x16 ![0, 1, 2] bcast_S1x10000x16_S512x10000x16_0_1_2 main_v57
  let main_v69 : FVec F S512x10000x16 .f32 := mulf main_v68 main_v67
  let main_cst_3 : FVec F S_ .f32 := constant S_ .f32 0x00000000#32
  let main_v70 : FVec F S512x10000 .f32 := (fun x v => Host.reduceAdd x v reducesTo_S512x10000x16_S512x10000_d2 h_S_) main_v69 main_cst_3
  let main_v71 : FVec F S512x10000 .f32 := mulf main_v54 main_v70
  let main_v72 : FVec F S10000x1x16 .f32 := (extractStridedSlice S10000x1x16 ![0, 1, 0] · slices_S10000x2x16_S10000x1x16_0_1_0) main_v1
  let main_v73 : FVec F S10000x16 .f32 := shapeCast S10000x16 main_v72 shapeCasts_S10000x1x16_S10000x16
  let main_v74 : FVec F S1x10000x16 .f32 := broadcastInDim S1x10000x16 ![1, 2] bcast_S10000x16_S1x10000x16_1_2 main_v73
  let main_v75 : FVec F S10000x1x16 .f32 := (extractStridedSlice S10000x1x16 ![0, 1, 0] · slices_S10000x2x16_S10000x1x16_0_1_0) main_v6
  let main_v76 : FVec F S10000x16 .f32 := shapeCast S10000x16 main_v75 shapeCasts_S10000x1x16_S10000x16
  let main_v77 : FVec F S1x10000x16 .f32 := broadcastInDim S1x10000x16 ![1, 2] bcast_S10000x16_S1x10000x16_1_2 main_v76
  let main_cst_4 : FVec F S_ .f32 := constant S_ .f32 0x40C90FDB#32
  let main_v78 : FVec F S1x10000x16 .f32 := broadcastInDim S1x10000x16 ![] bcast_S_S1x10000x16 main_cst_4
  let main_v79 : FVec F S1x10000x16 .f32 := mulf main_v78 main_v77
  let main_v80 : FVec F S512x10000x1 .f32 := broadcastInDim S512x10000x1 ![0, 1] bcast_S512x10000_S512x10000x1_0_1 main_v38
  let main_v81 : FVec F S512x10000x16 .f32 := broadcastInDim S512x10000x16 ![0, 1, 2] bcast_S1x10000x16_S512x10000x16_0_1_2 main_v79
  let main_v82 : FVec F S512x10000x16 .f32 := broadcastInDim S512x10000x16 ![0, 1, 2] bcast_S512x10000x1_S512x10000x16_0_1_2 main_v80
  let main_v83 : FVec F S512x10000x16 .f32 := mulf main_v81 main_v82
  let main_v84 : FVec F S512x10000x16 .f32 := Host.cos main_v83
  let main_v85 : FVec F S512x10000x16 .f32 := broadcastInDim S512x10000x16 ![0, 1, 2] bcast_S1x10000x16_S512x10000x16_0_1_2 main_v74
  let main_v86 : FVec F S512x10000x16 .f32 := mulf main_v85 main_v84
  let main_cst_5 : FVec F S_ .f32 := constant S_ .f32 0x00000000#32
  fn_part4 (F := F) main_arg1 main_arg6 main_v1 main_v6 main_v26 main_v38 main_v54 main_v71 main_v86 main_cst_5

def fn_part2 {F : FTy → Type} [FloatOps F] (main_arg1 : FVec F S10000x3 .f32) (main_arg3 : FVec F S10000x2 .f32) (main_arg6 : FVec F S512x3 .f32) (main_v1 : FVec F S10000x2x16 .f32) (main_v6 : FVec F S10000x2x16 .f32) (main_v26 : FVec F S512x10000 .f32) (main_v38 : FVec F S512x10000 .f32) (main_v43 : FVec F S512x10000 .f32) : IVec S512x3 1 :=
  let main_v44 : FVec F S512x10000 .f32 := mulf main_v43 main_v43
  let main_v45 : FVec F S10000x1 .f32 := (extractStridedSlice S10000x1 ![0, 1] · slices_S10000x2_S10000x1_0_1) main_arg3
  let main_v46 : FVec F S10000 .f32 := shapeCast S10000 main_v45 shapeCasts_S10000x1_S10000
  let main_v47 : FVec F S1x10000 .f32 := broadcastInDim S1x10000 ![1] bcast_S10000_S1x10000_1 main_v46
  let main_v48 : FVec F S512x10000 .f32 := broadcastInDim S512x10000 ![0, 1] bcast_S1x10000_S512x10000_0_1 main_v47
  let main_v49 : FVec F S512x10000 .f32 := mulf main_v38 main_v48
  let main_v50 : FVec F S512x10000 .f32 := mulf main_v49 main_v49
  let main_v51 : FVec F S512x10000 .f32 := addf main_v44 main_v50
  let main_cst_1 : FVec F S_ .f32 := constant S_ .f32 0xBF000000#32
  let main_v52 : FVec F S512x10000 .f32 := broadcastInDim S512x10000 ![] bcast_S_S512x10000 main_cst_1
  let main_v53 : FVec F S512x10000 .f32 := mulf main_v52 main_v51
  let main_v54 : FVec F S512x10000 .f32 := Host.exp main_v53
  let main_v55 : FVec F S10000x1x16 .f32 := (extractStridedSlice S10000x1x16 ![0, 0, 0] · slices_S10000x2x16_S10000x1x16_0_0_0) main_v1
  let main_v56 : FVec F S10000x16 .f32 := shapeCast S10000x16 main_v55 shapeCasts_S10000x1x16_S10000x16
  let main_v57 : FVec F S1x10000x16 .f32 := broadcastInDim S1x10000x16 ![1, 2] bcast_S10000x16_S1x10000x16_1_2 main_v56
  let main_v58 : FVec F S10000x1x16 .f32 := (extractStridedSlice S10000x1x16 ![0, 0, 0] · slices_S10000x2x16_S10000x1x16_0_0_0) main_v6
  let main_v59 : FVec F S10000x16 .f32 := shapeCast S10000x16 main_v58 shapeCasts_S10000x1x16_S10000x16
  let main_v60 : FVec F S1x10000x16 .f32 := broadcastInDim S1x10000x16 ![1, 2] bcast_S10000x16_S1x10000x16_1_2 main_v59
  let main_cst_2 : FVec F S_ .f32 := constant S_ .f32 0x40C90FDB#32
  let main_v61 : FVec F S1x10000x16 .f32 := broadcastInDim S1x10000x16 ![] bcast_S_S1x10000x16 main_cst_2
  let main_v62 : FVec F S1x10000x16 .f32 := mulf main_v61 main_v60
  let main_v63 : FVec F S512x10000x1 .f32 := broadcastInDim S512x10000x1 ![0, 1] bcast_S512x10000_S512x10000x1_0_1 main_v26
  let main_v64 : FVec F S512x10000x16 .f32 := broadcastInDim S512x10000x16 ![0, 1, 2] bcast_S1x10000x16_S512x10000x16_0_1_2 main_v62
  let main_v65 : FVec F S512x10000x16 .f32 := broadcastInDim S512x10000x16 ![0, 1, 2] bcast_S512x10000x1_S512x10000x16_0_1_2 main_v63
  fn_part3 (F := F) main_arg1 main_arg6 main_v1 main_v6 main_v26 main_v38 main_v54 main_v57 main_v64 main_v65

def fn_part1 {F : FTy → Type} [FloatOps F] (main_arg1 : FVec F S10000x3 .f32) (main_arg3 : FVec F S10000x2 .f32) (main_arg6 : FVec F S512x3 .f32) (main_v1 : FVec F S10000x2x16 .f32) (main_v6 : FVec F S10000x2x16 .f32) (main_v11 : FVec F S512x10000x2 .f32) (main_v13 : FVec F S10000 .f32) (main_v15 : FVec F S10000 .f32) (main_v18 : FVec F S512x10000 .f32) (main_v19 : FVec F S512x10000 .f32) : IVec S512x3 1 :=
  let main_v20 : FVec F S512x10000 .f32 := mulf main_v19 main_v18
  let main_v21 : FVec F S1x10000 .f32 := broadcastInDim S1x10000 ![1] bcast_S10000_S1x10000_1 main_v15
  let main_v22 : FVec F S512x10000x1 .f32 := (extractStridedSlice S512x10000x1 ![0, 0, 1] · slices_S512x10000x2_S512x10000x1_0_0_1) main_v11
  let main_v23 : FVec F S512x10000 .f32 := shapeCast S512x10000 main_v22 shapeCasts_S512x10000x1_S512x10000
  let main_v24 : FVec F S512x10000 .f32 := broadcastInDim S512x10000 ![0, 1] bcast_S1x10000_S512x10000_0_1 main_v21
  let main_v25 : FVec F S512x10000 .f32 := mulf main_v24 main_v23
  let main_v26 : FVec F S512x10000 .f32 := addf main_v20 main_v25
  let main_v27 : FVec F S1x10000 .f32 := broadcastInDim S1x10000 ![1] bcast_S10000_S1x10000_1 main_v15
  let main_v28 : FVec F S1x10000 .f32 := Host.negf main_v27
  let main_v29 : FVec F S512x10000x1 .f32 := (extractStridedSlice S512x10000x1 ![0, 0, 0] · slices_S512x10000x2_S512x10000x1_0_0_0) main_v11
  let main_v30 : FVec F S512x10000 .f32 := shapeCast S512x10000 main_v29 shapeCasts_S512x10000x1_S512x10000
  let main_v31 : FVec F S512x10000 .f32 := broadcastInDim S512x10000 ![0, 1] bcast_S1x10000_S512x10000_0_1 main_v28
  let main_v32 : FVec F S512x10000 .f32 := mulf main_v31 main_v30
  let main_v33 : FVec F S1x10000 .f32 := broadcastInDim S1x10000 ![1] bcast_S10000_S1x10000_1 main_v13
  let main_v34 : FVec F S512x10000x1 .f32 := (extractStridedSlice S512x10000x1 ![0, 0, 1] · slices_S512x10000x2_S512x10000x1_0_0_1) main_v11
  let main_v35 : FVec F S512x10000 .f32 := shapeCast S512x10000 main_v34 shapeCasts_S512x10000x1_S512x10000
  let main_v36 : FVec F S512x10000 .f32 := broadcastInDim S512x10000 ![0, 1] bcast_S1x10000_S512x10000_0_1 main_v33
  let main_v37 : FVec F S512x10000 .f32 := mulf main_v36 main_v35
  let main_v38 : FVec F S512x10000 .f32 := addf main_v32 main_v37
  let main_v39 : FVec F S10000x1 .f32 := (extractStridedSlice S10000x1 ![0, 0] · slices_S10000x2_S10000x1_0_0) main_arg3
  let main_v40 : FVec F S10000 .f32 := shapeCast S10000 main_v39 shapeCasts_S10000x1_S10000
  let main_v41 : FVec F S1x10000 .f32 := broadcastInDim S1x10000 ![1] bcast_S10000_S1x10000_1 main_v40
  let main_v42 : FVec F S512x10000 .f32 := broadcastInDim S512x10000 ![0, 1] bcast_S1x10000_S512x10000_0_1 main_v41
  let main_v43 : FVec F S512x10000 .f32 := mulf main_v26 main_v42
  fn_part2 (F := F) main_arg1 main_arg3 main_arg6 main_v1 main_v6 main_v26 main_v38 main_v43

def fn {F : FTy → Type} [FloatOps F] (main_arg0 : FVec F S512x2 .f32) (main_arg1 : FVec F S10000x3 .f32) (main_arg2 : FVec F S10000x2 .f32) (main_arg3 : FVec F S10000x2 .f32) (main_arg4 : FVec F S10000x1 .f32) (main_arg5 : FVec F S10000x2x1024 .f32) (main_arg6 : FVec F S512x3 .f32) : IVec S512x3 1 :=
  let main_v0 : FVec F S10000x2x1024 .f32 := Host.absf main_arg5
  let main_values : FVec F S10000x2x16 .f32 := (fun x => (Host.topK S10000x2x16 2 (FloatOps.cmpfTotal .gt) x sliceFits_S10000x2x1024_S10000x2x16).1) main_v0
  let main_indices : IVec S10000x2x16 32 := (fun x => (Host.topK S10000x2x16 2 (FloatOps.cmpfTotal .gt) x sliceFits_S10000x2x1024_S10000x2x16).2) main_v0
  let main_v1 : FVec F S10000x2x16 .f32 := fn_take_along_axis (F := F) main_arg5 main_indices
  let main_v2 : FVec F S10000x2x16 .f32 := sitofp .f32 main_indices
  let main_cst : FVec F S_ .f32 := constant S_ .f32 0x44800000#32
  let main_v3 : FVec F S10000x2x16 .f32 := broadcastInDim S10000x2x16 ![] bcast_S_S10000x2x16 main_cst
  let main_v4 : FVec F S10000x2x16 .f32 := mulf main_v3 main_v2
  let main_cst_0 : FVec F S_ .f32 := constant S_ .f32 0x44800000#32
  let main_v5 : FVec F S10000x2x16 .f32 := broadcastInDim S10000x2x16 ![] bcast_S_S10000x2x16 main_cst_0
  let main_v6 : FVec F S10000x2x16 .f32 := Host.divf main_v4 main_v5
  let main_v7 : FVec F S512x1x2 .f32 := broadcastInDim S512x1x2 ![0, 2] bcast_S512x2_S512x1x2_0_2 main_arg0
  let main_v8 : FVec F S1x10000x2 .f32 := broadcastInDim S1x10000x2 ![1, 2] bcast_S10000x2_S1x10000x2_1_2 main_arg2
  let main_v9 : FVec F S512x10000x2 .f32 := broadcastInDim S512x10000x2 ![0, 1, 2] bcast_S512x1x2_S512x10000x2_0_1_2 main_v7
  let main_v10 : FVec F S512x10000x2 .f32 := broadcastInDim S512x10000x2 ![0, 1, 2] bcast_S1x10000x2_S512x10000x2_0_1_2 main_v8
  let main_v11 : FVec F S512x10000x2 .f32 := subf main_v9 main_v10
  let main_v12 : FVec F S10000 .f32 := shapeCast S10000 main_arg4 shapeCasts_S10000x1_S10000
  let main_v13 : FVec F S10000 .f32 := Host.cos main_v12
  let main_v14 : FVec F S10000 .f32 := shapeCast S10000 main_arg4 shapeCasts_S10000x1_S10000
  let main_v15 : FVec F S10000 .f32 := Host.sin main_v14
  let main_v16 : FVec F S1x10000 .f32 := broadcastInDim S1x10000 ![1] bcast_S10000_S1x10000_1 main_v13
  let main_v17 : FVec F S512x10000x1 .f32 := (extractStridedSlice S512x10000x1 ![0, 0, 0] · slices_S512x10000x2_S512x10000x1_0_0_0) main_v11
  let main_v18 : FVec F S512x10000 .f32 := shapeCast S512x10000 main_v17 shapeCasts_S512x10000x1_S512x10000
  let main_v19 : FVec F S512x10000 .f32 := broadcastInDim S512x10000 ![0, 1] bcast_S1x10000_S512x10000_0_1 main_v16
  fn_part1 (F := F) main_arg1 main_arg3 main_arg6 main_v1 main_v6 main_v11 main_v13 main_v15 main_v18 main_v19
-- ==== Pre_no_tie.lean ====
abbrev S512x2 : Shape := ⟨2, ![512, 2]⟩
abbrev S10000x3 : Shape := ⟨2, ![10000, 3]⟩
abbrev S10000x2 : Shape := ⟨2, ![10000, 2]⟩
abbrev S10000x1 : Shape := ⟨2, ![10000, 1]⟩
abbrev S10000x2x1024 : Shape := ⟨3, ![10000, 2, 1024]⟩
abbrev S10000x2x17 : Shape := ⟨3, ![10000, 2, 17]⟩
abbrev S10000x2x1 : Shape := ⟨3, ![10000, 2, 1]⟩

class Facts : Prop where
  sliceFits_S10000x2x1024_S10000x2x17 : S10000x2x1024.Slices (fun _ => 0) S10000x2x17
  slices_S10000x2x17_S10000x2x1_0_0_15 : S10000x2x17.Slices ![0, 0, 15] S10000x2x1
  shapeCasts_S10000x2x1_S10000x2 : S10000x2x1.ShapeCasts S10000x2
  slices_S10000x2x17_S10000x2x1_0_0_16 : S10000x2x17.Slices ![0, 0, 16] S10000x2x1

variable [Facts]

def fn {F : FTy → Type} [FloatOps F] (main_arg0 : FVec F S512x2 .f32) (main_arg1 : FVec F S10000x3 .f32) (main_arg2 : FVec F S10000x2 .f32) (main_arg3 : FVec F S10000x2 .f32) (main_arg4 : FVec F S10000x1 .f32) (main_arg5 : FVec F S10000x2x1024 .f32) : IVec S10000x2 1 :=
  let main_v0 : FVec F S10000x2x1024 .f32 := Host.absf main_arg5
  let main_values : FVec F S10000x2x17 .f32 := (fun x => (Host.topK S10000x2x17 2 (FloatOps.cmpfTotal .gt) x sliceFits_S10000x2x1024_S10000x2x17).1) main_v0
  let main_indices : IVec S10000x2x17 32 := (fun x => (Host.topK S10000x2x17 2 (FloatOps.cmpfTotal .gt) x sliceFits_S10000x2x1024_S10000x2x17).2) main_v0
  let main_v1 : FVec F S10000x2x1 .f32 := (extractStridedSlice S10000x2x1 ![0, 0, 15] · slices_S10000x2x17_S10000x2x1_0_0_15) main_values
  let main_v2 : FVec F S10000x2 .f32 := shapeCast S10000x2 main_v1 shapeCasts_S10000x2x1_S10000x2
  let main_v3 : FVec F S10000x2x1 .f32 := (extractStridedSlice S10000x2x1 ![0, 0, 16] · slices_S10000x2x17_S10000x2x1_0_0_16) main_values
  let main_v4 : FVec F S10000x2 .f32 := shapeCast S10000x2 main_v3 shapeCasts_S10000x2x1_S10000x2
  let main_v5 : IVec S10000x2 1 := cmpf .ogt main_v2 main_v4
  main_v5
-- ==== Kernel.lean ====
abbrev S512x2 : Shape := ⟨2, ![512, 2]⟩
abbrev S10000x3 : Shape := ⟨2, ![10000, 3]⟩
abbrev S10000x2 : Shape := ⟨2, ![10000, 2]⟩
abbrev S10000x1 : Shape := ⟨2, ![10000, 1]⟩
abbrev S10000x2x1024 : Shape := ⟨3, ![10000, 2, 1024]⟩
abbrev S20000x1024 : Shape := ⟨2, ![20000, 1024]⟩
abbrev S2x512 : Shape := ⟨2, ![2, 512]⟩
abbrev S320000 : Shape := ⟨1, ![320000]⟩
abbrev S2x1024 : Shape := ⟨2, ![2, 1024]⟩
abbrev S10000 : Shape := ⟨1, ![10000]⟩
abbrev S2 : Shape := ⟨1, ![2]⟩
abbrev S2032 : Shape := ⟨1, ![2032]⟩
abbrev S16 : Shape := ⟨1, ![16]⟩
abbrev S1x1024 : Shape := ⟨2, ![1, 1024]⟩
abbrev S1 : Shape := ⟨1, ![1]⟩
abbrev S_ : Shape := ⟨0, ![]⟩
abbrev S1x16 : Shape := ⟨2, ![1, 16]⟩
abbrev S10000x32 : Shape := ⟨2, ![10000, 32]⟩
abbrev S3x512 : Shape := ⟨2, ![3, 512]⟩
abbrev S200x3 : Shape := ⟨2, ![200, 3]⟩
abbrev S200x2 : Shape := ⟨2, ![200, 2]⟩
abbrev S200x1 : Shape := ⟨2, ![200, 1]⟩
abbrev S200x32 : Shape := ⟨2, ![200, 32]⟩
abbrev S1x512 : Shape := ⟨2, ![1, 512]⟩
abbrev S200x512 : Shape := ⟨2, ![200, 512]⟩
abbrev S512 : Shape := ⟨1, ![512]⟩
abbrev S512x3 : Shape := ⟨2, ![512, 3]⟩

abbrev nBuf : Table → Nat
  | .hbm => 14
  | .local .tc .vmem => 14
  | .local .scVector .vmem => 5
  | _ => 0

abbrev bufTy : (tb : Table) → Fin (nBuf tb) → BufTy
  | .hbm, ⟨0, _⟩ => ⟨S512x2, .f32⟩
  | .hbm, ⟨1, _⟩ => ⟨S10000x3, .f32⟩
  | .hbm, ⟨2, _⟩ => ⟨S10000x2, .f32⟩
  | .hbm, ⟨3, _⟩ => ⟨S10000x2, .f32⟩
  | .hbm, ⟨4, _⟩ => ⟨S10000x1, .f32⟩
  | .hbm, ⟨5, _⟩ => ⟨S10000x2x1024, .f32⟩
  | .hbm, ⟨6, _⟩ => ⟨S20000x1024, .f32⟩
  | .hbm, ⟨7, _⟩ => ⟨S2x512, .f32⟩
  | .hbm, ⟨8, _⟩ => ⟨S320000, .f32⟩
  | .hbm, ⟨9, _⟩ => ⟨S320000, .f32⟩
  | .hbm, ⟨10, _⟩ => ⟨S10000x32, .f32⟩
  | .hbm, ⟨11, _⟩ => ⟨S10000x32, .f32⟩
  | .hbm, ⟨12, _⟩ => ⟨S3x512, .f32⟩
  | .hbm, ⟨13, _⟩ => ⟨S512x3, .f32⟩
  | .local .tc .vmem, ⟨0, _⟩ => ⟨S2x512, .f32⟩
  | .local .tc .vmem, ⟨1, _⟩ => ⟨S200x3, .f32⟩
  | .local .tc .vmem, ⟨2, _⟩ => ⟨S200x3, .f32⟩
  | .local .tc .vmem, ⟨3, _⟩ => ⟨S200x2, .f32⟩
  | .local .tc .vmem, ⟨4, _⟩ => ⟨S200x2, .f32⟩
  | .local .tc .vmem, ⟨5, _⟩ => ⟨S200x2, .f32⟩
  | .local .tc .vmem, ⟨6, _⟩ => ⟨S200x2, .f32⟩
  | .local .tc .vmem, ⟨7, _⟩ => ⟨S200x1, .f32⟩
  | .local .tc .vmem, ⟨8, _⟩ => ⟨S200x1, .f32⟩
  | .local .tc .vmem, ⟨9, _⟩ => ⟨S200x32, .f32⟩
  | .local .tc .vmem, ⟨10, _⟩ => ⟨S200x32, .f32⟩
  | .local .tc .vmem, ⟨11, _⟩ => ⟨S200x32, .f32⟩
  | .local .tc .vmem, ⟨12, _⟩ => ⟨S200x32, .f32⟩
  | .local .tc .vmem, ⟨13, _⟩ => ⟨S3x512, .f32⟩
  | .local .scVector .vmem, ⟨0, _⟩ => ⟨S2x1024, .f32⟩
  | .local .scVector .vmem, ⟨1, _⟩ => ⟨S10000, .f32⟩
  | .local .scVector .vmem, ⟨2, _⟩ => ⟨S10000, .f32⟩
  | .local .scVector .vmem, ⟨3, _⟩ => ⟨S2032, .f32⟩
  | .local .scVector .vmem, ⟨4, _⟩ => ⟨S2032, .i32⟩
  | _, _ => ⟨S512x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v0_scv : Ref sig .scVector := ⟨.hbm, 6, rfl⟩
abbrev main_v2_0_scv : Ref sig .scVector := ⟨.hbm, 8, rfl⟩
abbrev main_v2_1_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch4 : Ref sig .scVector := ⟨.vmem, 3, rfl⟩
abbrev cc0_scratch5 : Ref sig .scVector := ⟨.vmem, 4, rfl⟩
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c625_i32 : BitVec 32 := 625#32
  let v2 : BitVec 32 := Scalar.muli v1 c625_i32
  let v3 : BitVec 32 := Scalar.addi c0_i32 v2
  let v5 : BitVec 32 := Scalar.addi v3 c0_i32_0
  let c0_i32_4 : BitVec 32 := 0#32
  ![v5.toNat, 0]
@[reducible] def k0_t1_loop : Scf.Loop 32 :=
  let c0_i32_16 : BitVec 32 := 0#32
  let c313_i32 : BitVec 32 := 313#32
  let v19 : BitVec 32 := Scalar.addi c0_i32_16 c313_i32
  let c1_i32_17 : BitVec 32 := 1#32
  ⟨c0_i32_16, v19, c1_i32_17⟩
def k0_cond1 (k0_t1 : Fin k0_t1_loop.trips) : BitVec 1 :=
  let c0_i32_16 : BitVec 32 := 0#32
  let c1_i32_17 : BitVec 32 := 1#32
  let arg11 : BitVec 32 := Scf.iv c0_i32_16 c1_i32_17 k0_t1
  let c2_i32_19 : BitVec 32 := 2#32
  let v22 : BitVec 32 := Scalar.muli arg11 c2_i32_19
  let c0_i32_20 : BitVec 32 := 0#32
  let v23 : BitVec 32 := Scalar.addi v22 c0_i32_20
  let c625_i32_21 : BitVec 32 := 625#32
  let v24 : BitVec 1 := Scalar.cmpi .slt v23 c625_i32_21
  let v25 : BitVec 32 := Scalar.extui v24
  let c0_i32_22 : BitVec 32 := 0#32
  let v26 : BitVec 1 := Scalar.cmpi .ne v25 c0_i32_22
  v26

def k0_off2 (i : grid0.Coords) (k0_t1 : Fin k0_t1_loop.trips) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c625_i32 : BitVec 32 := 625#32
  let v2 : BitVec 32 := Scalar.muli v1 c625_i32
  let v3 : BitVec 32 := Scalar.addi c0_i32 v2
  let c0_i32_16 : BitVec 32 := 0#32
  let c1_i32_17 : BitVec 32 := 1#32
  let arg11 : BitVec 32 := Scf.iv c0_i32_16 c1_i32_17 k0_t1
  let c2_i32_19 : BitVec 32 := 2#32
  let v22 : BitVec 32 := Scalar.muli arg11 c2_i32_19
  let c0_i32_20 : BitVec 32 := 0#32
  let v23 : BitVec 32 := Scalar.addi v22 c0_i32_20
  let v32 : BitVec 32 := Scalar.addi v3 v23
  let c0_i32_31 : BitVec 32 := 0#32
  ![v32.toNat, 0]
@[reducible] def k0_t2_loop : Scf.Loop 32 :=
  let c0_i32_36 : BitVec 32 := 0#32
  let c64_i32 : BitVec 32 := 64#32
  let v39 : BitVec 32 := Scalar.addi c0_i32_36 c64_i32
  let c1_i32_37 : BitVec 32 := 1#32
  ⟨c0_i32_36, v39, c1_i32_37⟩
def k0_off3 (k0_t2 : Fin k0_t2_loop.trips) : Fin 2 → Nat :=
  let c0_i32_48 : BitVec 32 := 0#32
  let v59 : Index := Scalar.indexCast c0_i32_48
  let c0_i32_36 : BitVec 32 := 0#32
  let c1_i32_37 : BitVec 32 := 1#32
  let arg13 : BitVec 32 := Scf.iv c0_i32_36 c1_i32_37 k0_t2
  let c16_i32_47 : BitVec 32 := 16#32
  let v58 : BitVec 32 := Scalar.muli arg13 c16_i32_47
  let v60 : Index := Scalar.indexCast v58
  ![0, v60.toNat]
def k0_off4 (k0_t2 : Fin k0_t2_loop.trips) : Fin 1 → Nat :=
  let c63_i32_49 : BitVec 32 := 63#32
  let c0_i32_36 : BitVec 32 := 0#32
  let c1_i32_37 : BitVec 32 := 1#32
  let arg13 : BitVec 32 := Scf.iv c0_i32_36 c1_i32_37 k0_t2
  let v63 : BitVec 32 := Scalar.addi c63_i32_49 arg13
  let c16_i32_50 : BitVec 32 := 16#32
  let v64 : BitVec 32 := Scalar.muli v63 c16_i32_50
  let v69 : Index := Scalar.indexCast v64
  ![v69.toNat]
@[reducible] def k0_t3_loop : Scf.Loop 32 :=
  let c0_i32_53 : BitVec 32 := 0#32
  let c16_i32_54 : BitVec 32 := 16#32
  let v74 : BitVec 32 := Scalar.addi c0_i32_53 c16_i32_54
  let c1_i32_55 : BitVec 32 := 1#32
  ⟨c0_i32_53, v74, c1_i32_55⟩

def k0_chk1 (k0_t1 : Fin k0_t1_loop.trips) (v82 : IVec S16 32) : Prop :=
  (∀ (k0_h1 : k0_cond1 k0_t1 = 1#1), ∀ a x, ((![v82] : Fin 1 → IVec S16 32) a x).toNat < S2032.size a)
theorem k0_idx1_inb : ∀ (k0_t1 : Fin k0_t1_loop.trips) (v82 : IVec S16 32) (k0_hw1 : k0_chk1 k0_t1 v82), ∀ (k0_h1 : k0_cond1 k0_t1 = 1#1), ∀ a x, ((![v82] : Fin 1 → IVec S16 32) a x).toNat < S2032.size a := fun k0_t1 v82 k0_hw1 k0_h1 => k0_hw1 k0_h1

def k0_chk2 (k0_t1 : Fin k0_t1_loop.trips) (v77 : IVec S16 32) : Prop :=
  (∀ (k0_h1 : k0_cond1 k0_t1 = 1#1), ∀ a x, ((![v77] : Fin 1 → IVec S16 32) a x).toNat < S2032.size a)
theorem k0_idx2_inb : ∀ (k0_t1 : Fin k0_t1_loop.trips) (v77 : IVec S16 32) (k0_hw2 : k0_chk2 k0_t1 v77), ∀ (k0_h1 : k0_cond1 k0_t1 = 1#1), ∀ a x, ((![v77] : Fin 1 → IVec S16 32) a x).toNat < S2032.size a := fun k0_t1 v77 k0_hw2 k0_h1 => k0_hw2 k0_h1

def k0_chk3 (k0_t1 : Fin k0_t1_loop.trips) (v79 : IVec S16 32) : Prop :=
  (∀ (k0_h1 : k0_cond1 k0_t1 = 1#1), ∀ a x, ((![v79] : Fin 1 → IVec S16 32) a x).toNat < S2032.size a)
theorem k0_idx3_inb : ∀ (k0_t1 : Fin k0_t1_loop.trips) (v79 : IVec S16 32) (k0_hw3 : k0_chk3 k0_t1 v79), ∀ (k0_h1 : k0_cond1 k0_t1 = 1#1), ∀ a x, ((![v79] : Fin 1 → IVec S16 32) a x).toNat < S2032.size a := fun k0_t1 v79 k0_hw3 k0_h1 => k0_hw3 k0_h1
@[reducible] def k0_t4_loop : Scf.Loop 32 :=
  let c0_i32_40 : BitVec 32 := 0#32
  let c63_i32 : BitVec 32 := 63#32
  let v41 : BitVec 32 := Scalar.addi c0_i32_40 c63_i32
  let c1_i32_41 : BitVec 32 := 1#32
  ⟨c0_i32_40, v41, c1_i32_41⟩
def k0_off5 (k0_t4 : Fin k0_t4_loop.trips) : Fin 1 → Nat :=
  let c2_i32_47 : BitVec 32 := 2#32
  let c62_i32 : BitVec 32 := 62#32
  let c0_i32_40 : BitVec 32 := 0#32
  let c1_i32_41 : BitVec 32 := 1#32
  let arg13 : BitVec 32 := Scf.iv c0_i32_40 c1_i32_41 k0_t4
  let v58 : BitVec 32 := Scalar.subi c62_i32 arg13
  let v59 : BitVec 32 := Scalar.muli c2_i32_47 v58
  let c1_i32_48 : BitVec 32 := 1#32
  let v60 : BitVec 32 := Scalar.addi v59 c1_i32_48
  let c16_i32_49 : BitVec 32 := 16#32
  let v61 : BitVec 32 := Scalar.muli v60 c16_i32_49
  let v62 : Index := Scalar.indexCast v61
  ![v62.toNat]

def k0_chk4 (k0_t1 : Fin k0_t1_loop.trips) (v74 : IVec S16 32) : Prop :=
  (∀ (k0_h1 : k0_cond1 k0_t1 = 1#1), ∀ a x, ((![v74] : Fin 1 → IVec S16 32) a x).toNat < S2032.size a) ∧
  (∀ (k0_h1 : k0_cond1 k0_t1 = 1#1), ∀ a x, ((![v74] : Fin 1 → IVec S16 32) a x).toNat < S2032.size a)
theorem k0_idx4_inb : ∀ (k0_t1 : Fin k0_t1_loop.trips) (v74 : IVec S16 32) (k0_hw4 : k0_chk4 k0_t1 v74), ∀ (k0_h1 : k0_cond1 k0_t1 = 1#1), ∀ a x, ((![v74] : Fin 1 → IVec S16 32) a x).toNat < S2032.size a := fun k0_t1 v74 k0_hw4 k0_h1 => k0_hw4.1 k0_h1
theorem k0_idx5_inb : ∀ (k0_t1 : Fin k0_t1_loop.trips) (v74 : IVec S16 32) (k0_hw4 : k0_chk4 k0_t1 v74), ∀ (k0_h1 : k0_cond1 k0_t1 = 1#1), ∀ a x, ((![v74] : Fin 1 → IVec S16 32) a x).toNat < S2032.size a := fun k0_t1 v74 k0_hw4 k0_h1 => k0_hw4.2 k0_h1
def k0_off6 (k0_t4 : Fin k0_t4_loop.trips) : Fin 1 → Nat :=
  let c62_i32 : BitVec 32 := 62#32
  let c0_i32_40 : BitVec 32 := 0#32
  let c1_i32_41 : BitVec 32 := 1#32
  let arg13 : BitVec 32 := Scf.iv c0_i32_40 c1_i32_41 k0_t4
  let v58 : BitVec 32 := Scalar.subi c62_i32 arg13
  let c16_i32_56 : BitVec 32 := 16#32
  let v80 : BitVec 32 := Scalar.muli v58 c16_i32_56
  let v82 : Index := Scalar.indexCast v80
  ![v82.toNat]
@[reducible] def k0_t5_loop : Scf.Loop 32 :=
  let c0_i32_58 : BitVec 32 := 0#32
  let c16_i32_59 : BitVec 32 := 16#32
  let v87 : BitVec 32 := Scalar.addi c0_i32_58 c16_i32_59
  let c1_i32_60 : BitVec 32 := 1#32
  ⟨c0_i32_58, v87, c1_i32_60⟩

def k0_chk5 (k0_t1 : Fin k0_t1_loop.trips) (v95 : IVec S16 32) : Prop :=
  (∀ (k0_h1 : k0_cond1 k0_t1 = 1#1), ∀ a x, ((![v95] : Fin 1 → IVec S16 32) a x).toNat < S2032.size a)
theorem k0_idx6_inb : ∀ (k0_t1 : Fin k0_t1_loop.trips) (v95 : IVec S16 32) (k0_hw5 : k0_chk5 k0_t1 v95), ∀ (k0_h1 : k0_cond1 k0_t1 = 1#1), ∀ a x, ((![v95] : Fin 1 → IVec S16 32) a x).toNat < S2032.size a := fun k0_t1 v95 k0_hw5 k0_h1 => k0_hw5 k0_h1

def k0_chk6 (k0_t1 : Fin k0_t1_loop.trips) (v90 : IVec S16 32) : Prop :=
  (∀ (k0_h1 : k0_cond1 k0_t1 = 1#1), ∀ a x, ((![v90] : Fin 1 → IVec S16 32) a x).toNat < S2032.size a)
theorem k0_idx7_inb : ∀ (k0_t1 : Fin k0_t1_loop.trips) (v90 : IVec S16 32) (k0_hw6 : k0_chk6 k0_t1 v90), ∀ (k0_h1 : k0_cond1 k0_t1 = 1#1), ∀ a x, ((![v90] : Fin 1 → IVec S16 32) a x).toNat < S2032.size a := fun k0_t1 v90 k0_hw6 k0_h1 => k0_hw6 k0_h1

def k0_chk7 (k0_t1 : Fin k0_t1_loop.trips) (v92 : IVec S16 32) : Prop :=
  (∀ (k0_h1 : k0_cond1 k0_t1 = 1#1), ∀ a x, ((![v92] : Fin 1 → IVec S16 32) a x).toNat < S2032.size a)
theorem k0_idx8_inb : ∀ (k0_t1 : Fin k0_t1_loop.trips) (v92 : IVec S16 32) (k0_hw7 : k0_chk7 k0_t1 v92), ∀ (k0_h1 : k0_cond1 k0_t1 = 1#1), ∀ a x, ((![v92] : Fin 1 → IVec S16 32) a x).toNat < S2032.size a := fun k0_t1 v92 k0_hw7 k0_h1 => k0_hw7 k0_h1

def k0_chk8 (k0_t1 : Fin k0_t1_loop.trips) (v43 : IVec S16 32) (v44 : IVec S16 32) : Prop :=
  (∀ (k0_h1 : k0_cond1 k0_t1 = 1#1), ∀ a x, ((![v44, v43] : Fin 2 → IVec S16 32) a x).toNat < S2x1024.size a)
theorem k0_idx9_inb : ∀ (k0_t1 : Fin k0_t1_loop.trips) (v43 : IVec S16 32) (v44 : IVec S16 32) (k0_hw8 : k0_chk8 k0_t1 v43 v44), ∀ (k0_h1 : k0_cond1 k0_t1 = 1#1), ∀ a x, ((![v44, v43] : Fin 2 → IVec S16 32) a x).toNat < S2x1024.size a := fun k0_t1 v43 v44 k0_hw8 k0_h1 => k0_hw8 k0_h1

def k0_chk9 (k0_t1 : Fin k0_t1_loop.trips) (v48 : IVec S16 32) : Prop :=
  (∀ (k0_h1 : k0_cond1 k0_t1 = 1#1), ∀ a x, ((![v48] : Fin 1 → IVec S16 32) a x).toNat < S10000.size a)
theorem k0_idx10_inb : ∀ (k0_t1 : Fin k0_t1_loop.trips) (v48 : IVec S16 32) (k0_hw9 : k0_chk9 k0_t1 v48), ∀ (k0_h1 : k0_cond1 k0_t1 = 1#1), ∀ a x, ((![v48] : Fin 1 → IVec S16 32) a x).toNat < S10000.size a := fun k0_t1 v48 k0_hw9 k0_h1 => k0_hw9 k0_h1

def k0_chk10 (k0_t1 : Fin k0_t1_loop.trips) (v50 : IVec S16 32) : Prop :=
  (∀ (k0_h1 : k0_cond1 k0_t1 = 1#1), ∀ a x, ((![v50] : Fin 1 → IVec S16 32) a x).toNat < S10000.size a)
theorem k0_idx11_inb : ∀ (k0_t1 : Fin k0_t1_loop.trips) (v50 : IVec S16 32) (k0_hw10 : k0_chk10 k0_t1 v50), ∀ (k0_h1 : k0_cond1 k0_t1 = 1#1), ∀ a x, ((![v50] : Fin 1 → IVec S16 32) a x).toNat < S10000.size a := fun k0_t1 v50 k0_hw10 k0_h1 => k0_hw10 k0_h1
def k0_cond2 (k0_t1 : Fin k0_t1_loop.trips) : BitVec 1 :=
  let c0_i32_16 : BitVec 32 := 0#32
  let c1_i32_17 : BitVec 32 := 1#32
  let arg11 : BitVec 32 := Scf.iv c0_i32_16 c1_i32_17 k0_t1
  let c2_i32_19 : BitVec 32 := 2#32
  let v22 : BitVec 32 := Scalar.muli arg11 c2_i32_19
  let c0_i32_20 : BitVec 32 := 0#32
  let v23 : BitVec 32 := Scalar.addi v22 c0_i32_20
  let c2_i32_44 : BitVec 32 := 2#32
  let v54 : BitVec 32 := Scalar.addi v23 c2_i32_44
  let c625_i32_45 : BitVec 32 := 625#32
  let v55 : BitVec 1 := Scalar.cmpi .slt v54 c625_i32_45
  let v56 : BitVec 32 := Scalar.extui v55
  let c0_i32_46 : BitVec 32 := 0#32
  let v57 : BitVec 1 := Scalar.cmpi .ne v56 c0_i32_46
  v57

def k0_off7 (i : grid0.Coords) (k0_t1 : Fin k0_t1_loop.trips) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c625_i32 : BitVec 32 := 625#32
  let v2 : BitVec 32 := Scalar.muli v1 c625_i32
  let v3 : BitVec 32 := Scalar.addi c0_i32 v2
  let c0_i32_16 : BitVec 32 := 0#32
  let c1_i32_17 : BitVec 32 := 1#32
  let arg11 : BitVec 32 := Scf.iv c0_i32_16 c1_i32_17 k0_t1
  let c2_i32_19 : BitVec 32 := 2#32
  let v22 : BitVec 32 := Scalar.muli arg11 c2_i32_19
  let c0_i32_20 : BitVec 32 := 0#32
  let v23 : BitVec 32 := Scalar.addi v22 c0_i32_20
  let c2_i32_47 : BitVec 32 := 2#32
  let v58 : BitVec 32 := Scalar.addi v23 c2_i32_47
  let v59 : BitVec 32 := Scalar.addi v3 v58
  let c0_i32_51 : BitVec 32 := 0#32
  ![v59.toNat, 0]
def k0_cond3 (k0_t1 : Fin k0_t1_loop.trips) : BitVec 1 :=
  let c0_i32_16 : BitVec 32 := 0#32
  let c1_i32_17 : BitVec 32 := 1#32
  let arg11 : BitVec 32 := Scf.iv c0_i32_16 c1_i32_17 k0_t1
  let c2_i32_23 : BitVec 32 := 2#32
  let v27 : BitVec 32 := Scalar.muli arg11 c2_i32_23
  let c1_i32_24 : BitVec 32 := 1#32
  let v28 : BitVec 32 := Scalar.addi v27 c1_i32_24
  let c625_i32_25 : BitVec 32 := 625#32
  let v29 : BitVec 1 := Scalar.cmpi .slt v28 c625_i32_25
  let v30 : BitVec 32 := Scalar.extui v29
  let c0_i32_26 : BitVec 32 := 0#32
  let v31 : BitVec 1 := Scalar.cmpi .ne v30 c0_i32_26
  v31

def k0_off8 (i : grid0.Coords) (k0_t1 : Fin k0_t1_loop.trips) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c625_i32 : BitVec 32 := 625#32
  let v2 : BitVec 32 := Scalar.muli v1 c625_i32
  let v3 : BitVec 32 := Scalar.addi c0_i32 v2
  let c0_i32_16 : BitVec 32 := 0#32
  let c1_i32_17 : BitVec 32 := 1#32
  let arg11 : BitVec 32 := Scf.iv c0_i32_16 c1_i32_17 k0_t1
  let c2_i32_23 : BitVec 32 := 2#32
  let v27 : BitVec 32 := Scalar.muli arg11 c2_i32_23
  let c1_i32_24 : BitVec 32 := 1#32
  let v28 : BitVec 32 := Scalar.addi v27 c1_i32_24
  let v32 : BitVec 32 := Scalar.addi v3 v28
  let c0_i32_31 : BitVec 32 := 0#32
  ![v32.toNat, 0]
@[reducible] def k0_t6_loop : Scf.Loop 32 :=
  let c0_i32_36 : BitVec 32 := 0#32
  let c64_i32 : BitVec 32 := 64#32
  let v39 : BitVec 32 := Scalar.addi c0_i32_36 c64_i32
  let c1_i32_37 : BitVec 32 := 1#32
  ⟨c0_i32_36, v39, c1_i32_37⟩
def k0_off9 (k0_t6 : Fin k0_t6_loop.trips) : Fin 2 → Nat :=
  let c1_i32_48 : BitVec 32 := 1#32
  let v59 : Index := Scalar.indexCast c1_i32_48
  let c0_i32_36 : BitVec 32 := 0#32
  let c1_i32_37 : BitVec 32 := 1#32
  let arg13 : BitVec 32 := Scf.iv c0_i32_36 c1_i32_37 k0_t6
  let c16_i32_47 : BitVec 32 := 16#32
  let v58 : BitVec 32 := Scalar.muli arg13 c16_i32_47
  let v60 : Index := Scalar.indexCast v58
  ![1, v60.toNat]
def k0_off10 (k0_t6 : Fin k0_t6_loop.trips) : Fin 1 → Nat :=
  let c63_i32_49 : BitVec 32 := 63#32
  let c0_i32_36 : BitVec 32 := 0#32
  let c1_i32_37 : BitVec 32 := 1#32
  let arg13 : BitVec 32 := Scf.iv c0_i32_36 c1_i32_37 k0_t6
  let v63 : BitVec 32 := Scalar.addi c63_i32_49 arg13
  let c16_i32_50 : BitVec 32 := 16#32
  let v64 : BitVec 32 := Scalar.muli v63 c16_i32_50
  let v69 : Index := Scalar.indexCast v64
  ![v69.toNat]
@[reducible] def k0_t7_loop : Scf.Loop 32 :=
  let c0_i32_53 : BitVec 32 := 0#32
  let c16_i32_54 : BitVec 32 := 16#32
  let v74 : BitVec 32 := Scalar.addi c0_i32_53 c16_i32_54
  let c1_i32_55 : BitVec 32 := 1#32
  ⟨c0_i32_53, v74, c1_i32_55⟩

def k0_chk11 (k0_t1 : Fin k0_t1_loop.trips) (v82 : IVec S16 32) : Prop :=
  (∀ (k0_h3 : k0_cond3 k0_t1 = 1#1), ∀ a x, ((![v82] : Fin 1 → IVec S16 32) a x).toNat < S2032.size a)
theorem k0_idx12_inb : ∀ (k0_t1 : Fin k0_t1_loop.trips) (v82 : IVec S16 32) (k0_hw11 : k0_chk11 k0_t1 v82), ∀ (k0_h3 : k0_cond3 k0_t1 = 1#1), ∀ a x, ((![v82] : Fin 1 → IVec S16 32) a x).toNat < S2032.size a := fun k0_t1 v82 k0_hw11 k0_h3 => k0_hw11 k0_h3

def k0_chk12 (k0_t1 : Fin k0_t1_loop.trips) (v77 : IVec S16 32) : Prop :=
  (∀ (k0_h3 : k0_cond3 k0_t1 = 1#1), ∀ a x, ((![v77] : Fin 1 → IVec S16 32) a x).toNat < S2032.size a)
theorem k0_idx13_inb : ∀ (k0_t1 : Fin k0_t1_loop.trips) (v77 : IVec S16 32) (k0_hw12 : k0_chk12 k0_t1 v77), ∀ (k0_h3 : k0_cond3 k0_t1 = 1#1), ∀ a x, ((![v77] : Fin 1 → IVec S16 32) a x).toNat < S2032.size a := fun k0_t1 v77 k0_hw12 k0_h3 => k0_hw12 k0_h3

def k0_chk13 (k0_t1 : Fin k0_t1_loop.trips) (v79 : IVec S16 32) : Prop :=
  (∀ (k0_h3 : k0_cond3 k0_t1 = 1#1), ∀ a x, ((![v79] : Fin 1 → IVec S16 32) a x).toNat < S2032.size a)
theorem k0_idx14_inb : ∀ (k0_t1 : Fin k0_t1_loop.trips) (v79 : IVec S16 32) (k0_hw13 : k0_chk13 k0_t1 v79), ∀ (k0_h3 : k0_cond3 k0_t1 = 1#1), ∀ a x, ((![v79] : Fin 1 → IVec S16 32) a x).toNat < S2032.size a := fun k0_t1 v79 k0_hw13 k0_h3 => k0_hw13 k0_h3
@[reducible] def k0_t8_loop : Scf.Loop 32 :=
  let c0_i32_40 : BitVec 32 := 0#32
  let c63_i32 : BitVec 32 := 63#32
  let v41 : BitVec 32 := Scalar.addi c0_i32_40 c63_i32
  let c1_i32_41 : BitVec 32 := 1#32
  ⟨c0_i32_40, v41, c1_i32_41⟩
def k0_off11 (k0_t8 : Fin k0_t8_loop.trips) : Fin 1 → Nat :=
  let c2_i32_47 : BitVec 32 := 2#32
  let c62_i32 : BitVec 32 := 62#32
  let c0_i32_40 : BitVec 32 := 0#32
  let c1_i32_41 : BitVec 32 := 1#32
  let arg13 : BitVec 32 := Scf.iv c0_i32_40 c1_i32_41 k0_t8
  let v58 : BitVec 32 := Scalar.subi c62_i32 arg13
  let v59 : BitVec 32 := Scalar.muli c2_i32_47 v58
  let c1_i32_48 : BitVec 32 := 1#32
  let v60 : BitVec 32 := Scalar.addi v59 c1_i32_48
  let c16_i32_49 : BitVec 32 := 16#32
  let v61 : BitVec 32 := Scalar.muli v60 c16_i32_49
  let v62 : Index := Scalar.indexCast v61
  ![v62.toNat]

def k0_chk14 (k0_t1 : Fin k0_t1_loop.trips) (v74 : IVec S16 32) : Prop :=
  (∀ (k0_h3 : k0_cond3 k0_t1 = 1#1), ∀ a x, ((![v74] : Fin 1 → IVec S16 32) a x).toNat < S2032.size a) ∧
  (∀ (k0_h3 : k0_cond3 k0_t1 = 1#1), ∀ a x, ((![v74] : Fin 1 → IVec S16 32) a x).toNat < S2032.size a)
theorem k0_idx15_inb : ∀ (k0_t1 : Fin k0_t1_loop.trips) (v74 : IVec S16 32) (k0_hw14 : k0_chk14 k0_t1 v74), ∀ (k0_h3 : k0_cond3 k0_t1 = 1#1), ∀ a x, ((![v74] : Fin 1 → IVec S16 32) a x).toNat < S2032.size a := fun k0_t1 v74 k0_hw14 k0_h3 => k0_hw14.1 k0_h3
theorem k0_idx16_inb : ∀ (k0_t1 : Fin k0_t1_loop.trips) (v74 : IVec S16 32) (k0_hw14 : k0_chk14 k0_t1 v74), ∀ (k0_h3 : k0_cond3 k0_t1 = 1#1), ∀ a x, ((![v74] : Fin 1 → IVec S16 32) a x).toNat < S2032.size a := fun k0_t1 v74 k0_hw14 k0_h3 => k0_hw14.2 k0_h3
def k0_off12 (k0_t8 : Fin k0_t8_loop.trips) : Fin 1 → Nat :=
  let c62_i32 : BitVec 32 := 62#32
  let c0_i32_40 : BitVec 32 := 0#32
  let c1_i32_41 : BitVec 32 := 1#32
  let arg13 : BitVec 32 := Scf.iv c0_i32_40 c1_i32_41 k0_t8
  let v58 : BitVec 32 := Scalar.subi c62_i32 arg13
  let c16_i32_56 : BitVec 32 := 16#32
  let v80 : BitVec 32 := Scalar.muli v58 c16_i32_56
  let v82 : Index := Scalar.indexCast v80
  ![v82.toNat]
@[reducible] def k0_t9_loop : Scf.Loop 32 :=
  let c0_i32_58 : BitVec 32 := 0#32
  let c16_i32_59 : BitVec 32 := 16#32
  let v87 : BitVec 32 := Scalar.addi c0_i32_58 c16_i32_59
  let c1_i32_60 : BitVec 32 := 1#32
  ⟨c0_i32_58, v87, c1_i32_60⟩

def k0_chk15 (k0_t1 : Fin k0_t1_loop.trips) (v95 : IVec S16 32) : Prop :=
  (∀ (k0_h3 : k0_cond3 k0_t1 = 1#1), ∀ a x, ((![v95] : Fin 1 → IVec S16 32) a x).toNat < S2032.size a)
theorem k0_idx17_inb : ∀ (k0_t1 : Fin k0_t1_loop.trips) (v95 : IVec S16 32) (k0_hw15 : k0_chk15 k0_t1 v95), ∀ (k0_h3 : k0_cond3 k0_t1 = 1#1), ∀ a x, ((![v95] : Fin 1 → IVec S16 32) a x).toNat < S2032.size a := fun k0_t1 v95 k0_hw15 k0_h3 => k0_hw15 k0_h3

def k0_chk16 (k0_t1 : Fin k0_t1_loop.trips) (v90 : IVec S16 32) : Prop :=
  (∀ (k0_h3 : k0_cond3 k0_t1 = 1#1), ∀ a x, ((![v90] : Fin 1 → IVec S16 32) a x).toNat < S2032.size a)
theorem k0_idx18_inb : ∀ (k0_t1 : Fin k0_t1_loop.trips) (v90 : IVec S16 32) (k0_hw16 : k0_chk16 k0_t1 v90), ∀ (k0_h3 : k0_cond3 k0_t1 = 1#1), ∀ a x, ((![v90] : Fin 1 → IVec S16 32) a x).toNat < S2032.size a := fun k0_t1 v90 k0_hw16 k0_h3 => k0_hw16 k0_h3

def k0_chk17 (k0_t1 : Fin k0_t1_loop.trips) (v92 : IVec S16 32) : Prop :=
  (∀ (k0_h3 : k0_cond3 k0_t1 = 1#1), ∀ a x, ((![v92] : Fin 1 → IVec S16 32) a x).toNat < S2032.size a)
theorem k0_idx19_inb : ∀ (k0_t1 : Fin k0_t1_loop.trips) (v92 : IVec S16 32) (k0_hw17 : k0_chk17 k0_t1 v92), ∀ (k0_h3 : k0_cond3 k0_t1 = 1#1), ∀ a x, ((![v92] : Fin 1 → IVec S16 32) a x).toNat < S2032.size a := fun k0_t1 v92 k0_hw17 k0_h3 => k0_hw17 k0_h3

def k0_chk18 (k0_t1 : Fin k0_t1_loop.trips) (v43 : IVec S16 32) (v44 : IVec S16 32) : Prop :=
  (∀ (k0_h3 : k0_cond3 k0_t1 = 1#1), ∀ a x, ((![v44, v43] : Fin 2 → IVec S16 32) a x).toNat < S2x1024.size a)
theorem k0_idx20_inb : ∀ (k0_t1 : Fin k0_t1_loop.trips) (v43 : IVec S16 32) (v44 : IVec S16 32) (k0_hw18 : k0_chk18 k0_t1 v43 v44), ∀ (k0_h3 : k0_cond3 k0_t1 = 1#1), ∀ a x, ((![v44, v43] : Fin 2 → IVec S16 32) a x).toNat < S2x1024.size a := fun k0_t1 v43 v44 k0_hw18 k0_h3 => k0_hw18 k0_h3

def k0_chk19 (k0_t1 : Fin k0_t1_loop.trips) (v48 : IVec S16 32) : Prop :=
  (∀ (k0_h3 : k0_cond3 k0_t1 = 1#1), ∀ a x, ((![v48] : Fin 1 → IVec S16 32) a x).toNat < S10000.size a)
theorem k0_idx21_inb : ∀ (k0_t1 : Fin k0_t1_loop.trips) (v48 : IVec S16 32) (k0_hw19 : k0_chk19 k0_t1 v48), ∀ (k0_h3 : k0_cond3 k0_t1 = 1#1), ∀ a x, ((![v48] : Fin 1 → IVec S16 32) a x).toNat < S10000.size a := fun k0_t1 v48 k0_hw19 k0_h3 => k0_hw19 k0_h3

def k0_chk20 (k0_t1 : Fin k0_t1_loop.trips) (v50 : IVec S16 32) : Prop :=
  (∀ (k0_h3 : k0_cond3 k0_t1 = 1#1), ∀ a x, ((![v50] : Fin 1 → IVec S16 32) a x).toNat < S10000.size a)
theorem k0_idx22_inb : ∀ (k0_t1 : Fin k0_t1_loop.trips) (v50 : IVec S16 32) (k0_hw20 : k0_chk20 k0_t1 v50), ∀ (k0_h3 : k0_cond3 k0_t1 = 1#1), ∀ a x, ((![v50] : Fin 1 → IVec S16 32) a x).toNat < S10000.size a := fun k0_t1 v50 k0_hw20 k0_h3 => k0_hw20 k0_h3
def k0_cond4 (k0_t1 : Fin k0_t1_loop.trips) : BitVec 1 :=
  let c0_i32_16 : BitVec 32 := 0#32
  let c1_i32_17 : BitVec 32 := 1#32
  let arg11 : BitVec 32 := Scf.iv c0_i32_16 c1_i32_17 k0_t1
  let c2_i32_23 : BitVec 32 := 2#32
  let v27 : BitVec 32 := Scalar.muli arg11 c2_i32_23
  let c1_i32_24 : BitVec 32 := 1#32
  let v28 : BitVec 32 := Scalar.addi v27 c1_i32_24
  let c2_i32_44 : BitVec 32 := 2#32
  let v54 : BitVec 32 := Scalar.addi v28 c2_i32_44
  let c625_i32_45 : BitVec 32 := 625#32
  let v55 : BitVec 1 := Scalar.cmpi .slt v54 c625_i32_45
  let v56 : BitVec 32 := Scalar.extui v55
  let c0_i32_46 : BitVec 32 := 0#32
  let v57 : BitVec 1 := Scalar.cmpi .ne v56 c0_i32_46
  v57

def k0_off13 (i : grid0.Coords) (k0_t1 : Fin k0_t1_loop.trips) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c625_i32 : BitVec 32 := 625#32
  let v2 : BitVec 32 := Scalar.muli v1 c625_i32
  let v3 : BitVec 32 := Scalar.addi c0_i32 v2
  let c0_i32_16 : BitVec 32 := 0#32
  let c1_i32_17 : BitVec 32 := 1#32
  let arg11 : BitVec 32 := Scf.iv c0_i32_16 c1_i32_17 k0_t1
  let c2_i32_23 : BitVec 32 := 2#32
  let v27 : BitVec 32 := Scalar.muli arg11 c2_i32_23
  let c1_i32_24 : BitVec 32 := 1#32
  let v28 : BitVec 32 := Scalar.addi v27 c1_i32_24
  let c2_i32_47 : BitVec 32 := 2#32
  let v58 : BitVec 32 := Scalar.addi v28 c2_i32_47
  let v59 : BitVec 32 := Scalar.addi v3 v58
  let c0_i32_51 : BitVec 32 := 0#32
  ![v59.toNat, 0]
def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v21 : BitVec 32 := Scalar.muli v1 c10000_i32
  ![v21.toNat]
abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S3x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x2 : Shape := ⟨2, ![512, 2]⟩
abbrev S10000x3 : Shape := ⟨2, ![10000, 3]⟩
abbrev S10000x2 : Shape := ⟨2, ![10000, 2]⟩
abbrev S10000x1 : Shape := ⟨2, ![10000, 1]⟩
abbrev S10000x2x1024 : Shape := ⟨3, ![10000, 2, 1024]⟩
abbrev S10000x2x16 : Shape := ⟨3, ![10000, 2, 16]⟩
abbrev S_ : Shape := ⟨0, ![]⟩
abbrev S10000x2x16x1 : Shape := ⟨4, ![10000, 2, 16, 1]⟩
abbrev S1 : Shape := ⟨1, ![1]⟩
abbrev S1x1x1x1 : Shape := ⟨4, ![1, 1, 1, 1]⟩
abbrev S512x1x2 : Shape := ⟨3, ![512, 1, 2]⟩
abbrev S1x10000x2 : Shape := ⟨3, ![1, 10000, 2]⟩
abbrev S512x10000x2 : Shape := ⟨3, ![512, 10000, 2]⟩
abbrev S10000 : Shape := ⟨1, ![10000]⟩
abbrev S1x10000 : Shape := ⟨2, ![1, 10000]⟩
abbrev S512x10000x1 : Shape := ⟨3, ![512, 10000, 1]⟩
abbrev S512x10000 : Shape := ⟨2, ![512, 10000]⟩
abbrev S10000x1x16 : Shape := ⟨3, ![10000, 1, 16]⟩
abbrev S10000x16 : Shape := ⟨2, ![10000, 16]⟩
abbrev S1x10000x16 : Shape := ⟨3, ![1, 10000, 16]⟩
abbrev S512x10000x16 : Shape := ⟨3, ![512, 10000, 16]⟩
abbrev S512x3 : Shape := ⟨2, ![512, 3]⟩

abbrev nBuf : Space → Nat
  | .hbm => 168
  | .vmem => 0
  | .smem => 0
  | _ => 0

abbrev hbmTy0_0 (i : Nat) : BufTy := match i % 128 with
  | 0 => ⟨S512x2, .f32⟩
  | 1 => ⟨S10000x3, .f32⟩
  | 2 => ⟨S10000x2, .f32⟩
  | 3 => ⟨S10000x2, .f32⟩
  | 4 => ⟨S10000x1, .f32⟩
  | 5 => ⟨S10000x2x1024, .f32⟩
  | 6 => ⟨S10000x2x1024, .f32⟩
  | 7 => ⟨S10000x2x16, .f32⟩
  | 8 => ⟨S10000x2x16, .i32⟩
  | 9 => ⟨S_, .i32⟩
  | 10 => ⟨S10000x2x16, .i32⟩
  | 11 => ⟨S10000x2x16, .i1⟩
  | 12 => ⟨S_, .i32⟩
  | 13 => ⟨S10000x2x16, .i32⟩
  | 14 => ⟨S10000x2x16, .i32⟩
  | 15 => ⟨S10000x2x16, .i32⟩
  | 16 => ⟨S10000x2x16x1, .i32⟩
  | 17 => ⟨S1, .i32⟩
  | 18 => ⟨S_, .i32⟩
  | 19 => ⟨S10000x2x16x1, .i32⟩
  | 20 => ⟨S10000x2x16x1, .i1⟩
  | 21 => ⟨S1x1x1x1, .i32⟩
  | 22 => ⟨S10000x2x16x1, .i32⟩
  | 23 => ⟨S10000x2x16x1, .i1⟩
  | 24 => ⟨S10000x2x16x1, .i1⟩
  | 25 => ⟨S_, .i1⟩
  | 26 => ⟨S10000x2x16, .i1⟩
  | 27 => ⟨S10000x2x16, .f32⟩
  | 28 => ⟨S_, .f32⟩
  | 29 => ⟨S10000x2x16, .f32⟩
  | 30 => ⟨S10000x2x16, .f32⟩
  | 31 => ⟨S10000x2x16, .f32⟩
  | 32 => ⟨S_, .f32⟩
  | 33 => ⟨S10000x2x16, .f32⟩
  | 34 => ⟨S10000x2x16, .f32⟩
  | 35 => ⟨S_, .f32⟩
  | 36 => ⟨S10000x2x16, .f32⟩
  | 37 => ⟨S10000x2x16, .f32⟩
  | 38 => ⟨S512x1x2, .f32⟩
  | 39 => ⟨S1x10000x2, .f32⟩
  | 40 => ⟨S512x10000x2, .f32⟩
  | 41 => ⟨S512x10000x2, .f32⟩
  | 42 => ⟨S512x10000x2, .f32⟩
  | 43 => ⟨S10000, .f32⟩
  | 44 => ⟨S10000, .f32⟩
  | 45 => ⟨S10000, .f32⟩
  | 46 => ⟨S10000, .f32⟩
  | 47 => ⟨S1x10000, .f32⟩
  | 48 => ⟨S512x10000x1, .f32⟩
  | 49 => ⟨S512x10000, .f32⟩
  | 50 => ⟨S512x10000, .f32⟩
  | 51 => ⟨S512x10000, .f32⟩
  | 52 => ⟨S1x10000, .f32⟩
  | 53 => ⟨S512x10000x1, .f32⟩
  | 54 => ⟨S512x10000, .f32⟩
  | 55 => ⟨S512x10000, .f32⟩
  | 56 => ⟨S512x10000, .f32⟩
  | 57 => ⟨S512x10000, .f32⟩
  | 58 => ⟨S1x10000, .f32⟩
  | 59 => ⟨S1x10000, .f32⟩
  | 60 => ⟨S512x10000x1, .f32⟩
  | 61 => ⟨S512x10000, .f32⟩
  | 62 => ⟨S512x10000, .f32⟩
  | 63 => ⟨S512x10000, .f32⟩
  | 64 => ⟨S1x10000, .f32⟩
  | 65 => ⟨S512x10000x1, .f32⟩
  | 66 => ⟨S512x10000, .f32⟩
  | 67 => ⟨S512x10000, .f32⟩
  | 68 => ⟨S512x10000, .f32⟩
  | 69 => ⟨S512x10000, .f32⟩
  | 70 => ⟨S10000x1, .f32⟩
  | 71 => ⟨S10000, .f32⟩
  | 72 => ⟨S1x10000, .f32⟩
  | 73 => ⟨S512x10000, .f32⟩
  | 74 => ⟨S512x10000, .f32⟩
  | 75 => ⟨S512x10000, .f32⟩
  | 76 => ⟨S10000x1, .f32⟩
  | 77 => ⟨S10000, .f32⟩
  | 78 => ⟨S1x10000, .f32⟩
  | 79 => ⟨S512x10000, .f32⟩
  | 80 => ⟨S512x10000, .f32⟩
  | 81 => ⟨S512x10000, .f32⟩
  | 82 => ⟨S512x10000, .f32⟩
  | 83 => ⟨S_, .f32⟩
  | 84 => ⟨S512x10000, .f32⟩
  | 85 => ⟨S512x10000, .f32⟩
  | 86 => ⟨S512x10000, .f32⟩
  | 87 => ⟨S10000x1x16, .f32⟩
  | 88 => ⟨S10000x16, .f32⟩
  | 89 => ⟨S1x10000x16, .f32⟩
  | 90 => ⟨S10000x1x16, .f32⟩
  | 91 => ⟨S10000x16, .f32⟩
  | 92 => ⟨S1x10000x16, .f32⟩
  | 93 => ⟨S512x10000x1, .f32⟩
  | 94 => ⟨S512x10000x16, .f32⟩
  | 95 => ⟨S512x10000x16, .f32⟩
  | 96 => ⟨S512x10000x16, .f32⟩
  | 97 => ⟨S512x10000x16, .f32⟩
  | 98 => ⟨S512x10000x16, .f32⟩
  | 99 => ⟨S512x10000x16, .f32⟩
  | 100 => ⟨S_, .f32⟩
  | 101 => ⟨S512x10000x16, .f32⟩
  | 102 => ⟨S512x10000x16, .f32⟩
  | 103 => ⟨S_, .f32⟩
  | 104 => ⟨S512x10000x16, .f32⟩
  | 105 => ⟨S512x10000x16, .f32⟩
  | 106 => ⟨S512x10000x16, .f32⟩
  | 107 => ⟨S_, .f32⟩
  | 108 => ⟨S512x10000x16, .f32⟩
  | 109 => ⟨S512x10000x16, .f32⟩
  | 110 => ⟨S512x10000x16, .f32⟩
  | 111 => ⟨S_, .f32⟩
  | 112 => ⟨S512x10000x16, .f32⟩
  | 113 => ⟨S512x10000x16, .f32⟩
  | 114 => ⟨S512x10000x16, .f32⟩
  | 115 => ⟨S_, .f32⟩
  | 116 => ⟨S512x10000x16, .f32⟩
  | 117 => ⟨S512x10000x16, .f32⟩
  | 118 => ⟨S512x10000x16, .f32⟩
  | 119 => ⟨S_, .f32⟩
  | 120 => ⟨S512x10000x16, .f32⟩
  | 121 => ⟨S512x10000x16, .f32⟩
  | 122 => ⟨S512x10000x16, .f32⟩
  | 123 => ⟨S512x10000x16, .f32⟩
  | 124 => ⟨S_, .f32⟩
  | 125 => ⟨S512x10000, .f32⟩
  | 126 => ⟨S10000x1x16, .f32⟩
  | 127 => ⟨S10000x16, .f32⟩
  | _ => ⟨S512x2, .f32⟩

abbrev hbmTy0_1 (i : Nat) : BufTy := match i % 128 with
  | 0 => ⟨S1x10000x16, .f32⟩
  | 1 => ⟨S10000x1x16, .f32⟩
  | 2 => ⟨S10000x16, .f32⟩
  | 3 => ⟨S1x10000x16, .f32⟩
  | 4 => ⟨S512x10000x1, .f32⟩
  | 5 => ⟨S512x10000x16, .f32⟩
  | 6 => ⟨S512x10000x16, .f32⟩
  | 7 => ⟨S512x10000x16, .f32⟩
  | 8 => ⟨S512x10000x16, .f32⟩
  | 9 => ⟨S512x10000x16, .f32⟩
  | 10 => ⟨S512x10000x16, .f32⟩
  | 11 => ⟨S_, .f32⟩
  | 12 => ⟨S512x10000x16, .f32⟩
  | 13 => ⟨S512x10000x16, .f32⟩
  | 14 => ⟨S_, .f32⟩
  | 15 => ⟨S512x10000x16, .f32⟩
  | 16 => ⟨S512x10000x16, .f32⟩
  | 17 => ⟨S512x10000x16, .f32⟩
  | 18 => ⟨S_, .f32⟩
  | 19 => ⟨S512x10000x16, .f32⟩
  | 20 => ⟨S512x10000x16, .f32⟩
  | 21 => ⟨S512x10000x16, .f32⟩
  | 22 => ⟨S_, .f32⟩
  | 23 => ⟨S512x10000x16, .f32⟩
  | 24 => ⟨S512x10000x16, .f32⟩
  | 25 => ⟨S512x10000x16, .f32⟩
  | 26 => ⟨S_, .f32⟩
  | 27 => ⟨S512x10000x16, .f32⟩
  | 28 => ⟨S512x10000x16, .f32⟩
  | 29 => ⟨S512x10000x16, .f32⟩
  | 30 => ⟨S_, .f32⟩
  | 31 => ⟨S512x10000x16, .f32⟩
  | 32 => ⟨S512x10000x16, .f32⟩
  | 33 => ⟨S512x10000x16, .f32⟩
  | 34 => ⟨S512x10000x16, .f32⟩
  | 35 => ⟨S_, .f32⟩
  | 36 => ⟨S512x10000, .f32⟩
  | 37 => ⟨S512x10000, .f32⟩
  | 38 => ⟨S512x10000, .f32⟩
  | 39 => ⟨S512x3, .f32⟩
  | _ => ⟨S512x2, .f32⟩

abbrev hbmTy (i : Nat) : BufTy := match i / 128 with
  | 0 => hbmTy0_0 i
  | 1 => hbmTy0_1 i
  | _ => ⟨S512x2, .f32⟩

abbrev bufTy : (tb : Table) → Fin (tcTables nBuf tb) → BufTy
  | .hbm, ⟨i, _⟩ => hbmTy i
  | _, _ => ⟨S512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_values : Ref sig .tc := ⟨.hbm, 7, rfl⟩
abbrev main_indices : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_cst : Ref sig .tc := ⟨.hbm, 32, rfl⟩
abbrev main_v3 : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_1 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_2 : Ref sig .tc := ⟨.hbm, 100, rfl⟩
abbrev main_v68 : Ref sig .tc := ⟨.hbm, 101, rfl⟩
abbrev main_v69 : Ref sig .tc := ⟨.hbm, 102, rfl⟩
abbrev main_cst_3 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_4 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_5 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_6 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_7 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_8 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_9 : Ref sig .tc := ⟨.hbm, 139, rfl⟩
abbrev main_v100 : Ref sig .tc := ⟨.hbm, 140, rfl⟩
abbrev main_v101 : Ref sig .tc := ⟨.hbm, 141, rfl⟩
abbrev main_cst_10 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_11 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_12 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_13 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_14 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_15 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩

abbrev nD : Nat := 1
abbrev τ : Topo := Topo.v7x

variable {F : FTy → Type} [FloatOps F]
-- ==== Proof.Spec.lean ====
/-
  What one row's selection leaves, as a function of the row: sixteen keys sorted by their rank, the tree of 127 nodes,
  and the row's sixteen coefficients and frequencies. Everything is stated over any float values.
-/
module

public import proofs.«01_k».proof.KernelIdeal

@[expose] public section

namespace Cert.Proof.Spec

open Cert.KernelIdeal
open Idealize.ShloMosaic

variable {F : FTy → Type}

/-- Lane `j` of a register of sixteen. -/
def lane (j : Fin 16) : S16.Idx := fun _ => ⟨j.val, by
  have := j.isLt
  rename_i a
  match a with
  | 0 => exact this⟩

/-- The number of a lane. -/
def nat (x : S16.Idx) : ℕ := (x 0).val

theorem nat_lt (x : S16.Idx) : nat x < 16 := (x 0).isLt

theorem nat_lane (j : Fin 16) : nat (lane j) = j.val := rfl

theorem lane_nat (x : S16.Idx) : lane ⟨nat x, nat_lt x⟩ = x := by
  funext a
  match a with
  | 0 => rfl

theorem idx_ext {x y : S16.Idx} (h : nat x = nat y) : x = y := by
  rw [← lane_nat x, ← lane_nat y]
  congr 1
  exact Fin.ext h

theorem nat_ofLane (k : Fin 16) : nat (Shape.ofLane (d := ![16]) k) = k.val := rfl

theorem ofLane_eq (k : Fin 16) : Shape.ofLane (d := ![16]) k = lane k := idx_ext rfl

/-! ## Sixteen lanes sorted by rank -/

section Scatter

variable {α : Type}

/-- The lanes of `v` put at the places `r`, over `old`: where two lanes name one place the later one stays. -/
def scat (r : S16.Idx → ℕ) (old v : S16.Idx → α) : S16.Idx → α :=
  (List.finRange 16).foldl (fun g k x => if nat x = r (lane k) then v (lane k) else g x) old

theorem scat_foldl (r : S16.Idx → ℕ) (v : S16.Idx → α) (x : S16.Idx) :
    ∀ (l : List (Fin 16)) (old : S16.Idx → α),
      (l.foldl (fun g k x => if nat x = r (lane k) then v (lane k) else g x) old x = old x ∧ ∀ k ∈ l, nat x ≠ r (lane k))
        ∨ ∃ k ∈ l, nat x = r (lane k) ∧ l.foldl (fun g k x => if nat x = r (lane k) then v (lane k) else g x) old x = v (lane k)
  | [], old => .inl ⟨rfl, by simp⟩
  | k :: l, old => by
    rcases scat_foldl r v x l (fun x => if nat x = r (lane k) then v (lane k) else old x) with ⟨h, hn⟩ | ⟨k', hk', h, e⟩
    · by_cases hx : nat x = r (lane k)
      · exact .inr ⟨k, by simp, hx, by rw [List.foldl_cons, h]; simp [hx]⟩
      · refine .inl ⟨by rw [List.foldl_cons, h]; simp [hx], fun k' hk' => ?_⟩
        rcases List.mem_cons.mp hk' with rfl | hk'
        · exact hx
        · exact hn k' hk'
    · exact .inr ⟨k', by simp [hk'], h, by rw [List.foldl_cons, e]⟩

/-- Every lane left is a lane that was there before or one put there. -/
theorem scat_cases (r : S16.Idx → ℕ) (old v : S16.Idx → α) (x : S16.Idx) :
    (scat r old v x = old x ∧ ∀ k, nat x ≠ r k) ∨ ∃ k, nat x = r k ∧ scat r old v x = v k := by
  rcases scat_foldl r v x (List.finRange 16) old with ⟨h, hn⟩ | ⟨k, -, h, e⟩
  · refine .inl ⟨h, fun k => ?_⟩
    have := hn ⟨nat k, nat_lt k⟩ (List.mem_finRange _)
    rwa [lane_nat] at this
  · exact .inr ⟨lane k, h, e⟩

theorem scat_self_mem (r : S16.Idx → ℕ) (v : S16.Idx → α) (x : S16.Idx) : ∃ k, scat r v v x = v k := by
  rcases scat_cases r v v x with ⟨h, -⟩ | ⟨k, -, h⟩
  · exact ⟨x, h⟩
  · exact ⟨k, h⟩

/-- With different places for different lanes, the place of lane `k` holds lane `k`. -/
theorem scat_of_inj {r : S16.Idx → ℕ} (hr : Function.Injective r) (old v : S16.Idx → α) {x k : S16.Idx} (h : nat x = r k) :
    scat r old v x = v k := by
  rcases scat_cases r old v x with ⟨-, hn⟩ | ⟨k', h', e⟩
  · exact absurd h (hn k)
  · rw [e, hr (h'.symm.trans h)]

end Scatter

variable [FloatOps F]

/-- Whether the key of lane `j` goes before the key of lane `x`: a lane before `x` when it is not above it, a lane after
    `x` when it is below it, never `x` itself. -/
def goes (k : Vec F S16 .f32) (x : S16.Idx) (j : Fin 16) : BitVec 1 :=
  if j.val < nat x then FloatOps.cmpf .ole (k (lane j)) (k x)
  else if nat x < j.val then FloatOps.cmpf .olt (k (lane j)) (k x) else 0#1

/-- How many of the first `n` lanes go before lane `x`. -/
def rank (k : Vec F S16 .f32) (n : ℕ) (x : S16.Idx) : ℕ :=
  (Finset.univ.filter fun j : Fin 16 => j.val < n ∧ goes k x j = 1#1).card

theorem rank_zero (k : Vec F S16 .f32) (x : S16.Idx) : rank k 0 x = 0 := by simp [rank]

theorem rank_succ (k : Vec F S16 .f32) (x : S16.Idx) (j : Fin 16) :
    rank k (j.val + 1) x = rank k j.val x + if goes k x j = 1#1 then 1 else 0 := by
  unfold rank
  by_cases h : goes k x j = 1#1
  · rw [if_pos h, ← Finset.card_insert_of_notMem (s := Finset.univ.filter fun i : Fin 16 => i.val < j.val ∧ goes k x i = 1#1) (a := j) (by simp)]
    congr 1
    ext i
    simp only [Finset.mem_filter, Finset.mem_univ, true_and, Finset.mem_insert]
    constructor
    · rintro ⟨h1, h2⟩
      by_cases e : i = j
      · exact .inl e
      · exact .inr ⟨by have : i.val ≠ j.val := fun e' => e (Fin.ext e'); omega, h2⟩
    · rintro (rfl | ⟨h1, h2⟩)
      · exact ⟨by omega, h⟩
      · exact ⟨by omega, h2⟩
  · rw [if_neg h, add_zero]
    congr 1
    ext i
    simp only [Finset.mem_filter, Finset.mem_univ, true_and]
    constructor
    · rintro ⟨h1, h2⟩
      refine ⟨?_, h2⟩
      have : i.val ≠ j.val := fun e' => h (Fin.ext e' ▸ h2)
      omega
    · rintro ⟨h1, h2⟩
      exact ⟨by omega, h2⟩

theorem rank_lt (k : Vec F S16 .f32) (n : ℕ) (x : S16.Idx) : rank k n x < 16 := by
  have hx : goes k x ⟨nat x, nat_lt x⟩ ≠ 1#1 := by
    unfold goes
    rw [if_neg (lt_irrefl _), if_neg (lt_irrefl _)]
    decide
  unfold rank
  refine lt_of_lt_of_eq (Finset.card_lt_card (Finset.ssubset_univ_iff.mpr fun e => hx ?_)) (Finset.card_fin 16)
  have : (⟨nat x, nat_lt x⟩ : Fin 16) ∈ Finset.univ.filter fun j : Fin 16 => j.val < n ∧ goes k x j = 1#1 := by rw [e]; exact Finset.mem_univ _
  exact (Finset.mem_filter.mp this).2.2

/-- The sixteen keys by growing key, and the values that go with them. -/
def sortK (k : Vec F S16 .f32) : Vec F S16 .f32 := scat (rank k 16) k k
def sortV (k : Vec F S16 .f32) (v : IVec S16 32) : IVec S16 32 := scat (rank k 16) v v

/-! ## The tree -/

/-- Sixteen keys and their values. -/
abbrev Node (F : FTy → Type) : Type := Vec F S16 .f32 × IVec S16 32

def sorted (k : Vec F S16 .f32) (v : IVec S16 32) : Node F := (sortK k, sortV k v)

/-- The lane at the other end. -/
def rev (x : S16.Idx) : S16.Idx := lane ⟨15 - nat x, by omega⟩

/-- The larger key of each pair of lanes of `a` and `b` reversed, and its value. -/
def pickK (a b : Node F) : Vec F S16 .f32 := fun x => if FloatOps.cmpf .ogt (b.1 (rev x)) (a.1 x) = 1 then b.1 (rev x) else a.1 x
def pickV (a b : Node F) : IVec S16 32 := fun x => if FloatOps.cmpf .ogt (b.1 (rev x)) (a.1 x) = 1 then b.2 (rev x) else a.2 x

def merge (a b : Node F) : Node F := sorted (pickK a b) (pickV a b)

/-- A row: its 1024 coefficients. -/
abbrev Row (F : FTy → Type) : Type := Fin 1024 → F .f32

def leafK (row : Row F) (i : ℕ) : Vec F S16 .f32 := fun x => FloatOps.absf (row (Fin.ofNat 1024 (16 * i + nat x)))
def leafV (i : ℕ) : IVec S16 32 := fun x => BitVec.ofNat 32 (16 * i + nat x)
def leaf (row : Row F) (i : ℕ) : Node F := sorted (leafK row i) (leafV i)

/-- Node `n` of the tree: from 63 on the leaves, below 63 the merge of nodes `2n + 1` and `2n + 2`. -/
def node (row : Row F) (n : ℕ) : Node F :=
  if n < 63 then merge (node row (2 * n + 1)) (node row (2 * n + 2)) else leaf row (n - 63)
termination_by 63 - n

theorem node_leaf (row : Row F) {n : ℕ} (h : 63 ≤ n) : node row n = leaf row (n - 63) := by
  rw [node, if_neg (by omega)]

theorem node_merge (row : Row F) {n : ℕ} (h : n < 63) : node row n = merge (node row (2 * n + 1)) (node row (2 * n + 2)) := by
  rw [node, if_pos h]

/-- Every value of a node is a place of the row. -/
theorem node_val_lt (row : Row F) (n : ℕ) (hn : n < 127) (x : S16.Idx) : ((node row n).2 x).toNat < 1024 := by
  induction h : 63 - n using Nat.strong_induction_on generalizing n x with
  | _ N ih =>
    by_cases h63 : n < 63
    · rw [node_merge row h63]
      obtain ⟨k, hk⟩ := scat_self_mem (rank (pickK (node row (2 * n + 1)) (node row (2 * n + 2))) 16) (pickV (node row (2 * n + 1)) (node row (2 * n + 2))) x
      show (sortV _ _ x).toNat < 1024
      unfold sortV
      rw [hk]
      unfold pickV
      split
      · exact ih (63 - (2 * n + 2)) (by omega) _ (by omega) _ rfl
      · exact ih (63 - (2 * n + 1)) (by omega) _ (by omega) _ rfl
    · rw [node_leaf row (by omega)]
      obtain ⟨k, hk⟩ := scat_self_mem (rank (leafK row (n - 63)) 16) (leafV (n - 63)) x
      show (sortV _ _ x).toNat < 1024
      unfold sortV
      rw [hk]
      have := nat_lt k
      show (BitVec.ofNat 32 (16 * (n - 63) + nat k)).toNat < 1024
      rw [BitVec.toNat_ofNat, Nat.mod_eq_of_lt (by omega)]
      omega

/-- The row's sixteen places, by growing magnitude; the coefficients there and the frequencies. -/
def idxs (row : Row F) : IVec S16 32 := (node row 0).2
def coefs (row : Row F) : Vec F S16 .f32 := fun x => row (Fin.ofNat 1024 ((idxs row) x).toNat)
def freqs (row : Row F) : Vec F S16 .f32 := mulf (broadcast S16 (Scalar.ofBits .f32 0x3F800000#32)) (sitofp .f32 (idxs row))

end Cert.Proof.Spec

end
-- ==== Proof.Bufs.lean ====
/-
  The node buffers as 127 registers of sixteen (any `N` as registers of sixteen): what a load, a store, an indexed load and an indexed store of one node
  read and leave.
-/
module

public import proofs.«01_k».proof.Proof.Spec

@[expose] public section

namespace Cert.Proof.Bufs

open Cert.KernelIdeal Cert.Proof.Spec
open Idealize.ShloMosaic

variable {F : FTy → Type} {α : Type} {N : ℕ}

/-- A row of `N`. -/
abbrev Sh (N : ℕ) : Shape := ⟨1, ![N]⟩

/-- Place `x` of node `n`. -/
def nodeIx (n : ℕ) (hn : 16 * n + 16 ≤ N) (x : S16.Idx) : (Sh N).Idx := fun a => ⟨16 * n + nat x, by
  have := nat_lt x
  match a with
  | 0 => show 16 * n + nat x < N; omega⟩

/-- The sixteen lanes of node `n`. -/
def lanes (f : (Sh N).Idx → α) (n : ℕ) (hn : 16 * n + 16 ≤ N) : S16.Idx → α := fun x => f (nodeIx n hn x)

/-- The buffer with node `n` replaced by `w`. -/
def upd (f : (Sh N).Idx → α) (n : ℕ) (w : S16.Idx → α) : (Sh N).Idx → α :=
  fun y => if (y 0).val / 16 = n then w (lane ⟨(y 0).val % 16, Nat.mod_lt _ (by omega)⟩) else f y

theorem lane_mod (n : ℕ) (hn : 16 * n + 16 ≤ N) (x : S16.Idx) :
    lane ⟨(nodeIx n hn x 0).val % 16, Nat.mod_lt _ (by omega)⟩ = x := by
  have hx := nat_lt x
  refine idx_ext ?_
  rw [nat_lane]
  show (16 * n + nat x) % 16 = nat x
  omega

theorem nodeIx_div (n : ℕ) (hn : 16 * n + 16 ≤ N) (x : S16.Idx) : (nodeIx n hn x 0).val / 16 = n := by
  have hx := nat_lt x
  show (16 * n + nat x) / 16 = n
  omega

theorem lanes_upd_self (f : (Sh N).Idx → α) (n : ℕ) (hn : 16 * n + 16 ≤ N) (w : S16.Idx → α) : lanes (upd f n w) n hn = w := by
  funext x
  unfold lanes upd
  rw [if_pos (nodeIx_div n hn x), lane_mod]

theorem lanes_upd_of_ne (f : (Sh N).Idx → α) {n n' : ℕ} (hn : 16 * n' + 16 ≤ N) (h : n' ≠ n) (w : S16.Idx → α) :
    lanes (upd f n w) n' hn = lanes f n' hn := by
  funext x
  unfold lanes upd
  rw [if_neg (by rw [nodeIx_div]; exact h)]

theorem upd_upd (f : (Sh N).Idx → α) (n : ℕ) (w w' : S16.Idx → α) : upd (upd f n w) n w' = upd f n w' := by
  funext y
  unfold upd
  split <;> rfl

theorem idxN_ext {y y' : (Sh N).Idx} (h : (y 0).val = (y' 0).val) : y = y' := by
  funext a
  match a with
  | 0 => exact Fin.ext h

theorem eq_nodeIx (y : (Sh N).Idx) {n : ℕ} (hn : 16 * n + 16 ≤ N) (h : (y 0).val / 16 = n) :
    y = nodeIx n hn (lane ⟨(y 0).val % 16, Nat.mod_lt _ (by omega)⟩) := by
  refine idxN_ext ?_
  show (y 0).val = 16 * n + (y 0).val % 16
  omega

theorem upd_lanes (f : (Sh N).Idx → α) (n : ℕ) (hn : 16 * n + 16 ≤ N) : upd f n (lanes f n hn) = f := by
  funext y
  unfold upd
  split
  · rename_i h
    exact (congrArg f (eq_nodeIx y hn h)).symm
  · rfl

/-! ## Loads and stores -/

theorem rect_idx {off : Fin 1 → ℕ} {n : ℕ} (hn : 16 * n + 16 ≤ N) (ho : off = ![16 * n]) (h : ∀ a, off a + S16.size a ≤ (Sh N).size a) (x : S16.Idx) :
    (Rect.unit (s := (Sh N)) off S16.size h).toLoadRect.idx x = nodeIx n hn x := by
  subst ho
  refine idxN_ext ?_
  rw [LoadRect.idx_apply]
  show 16 * n + 1 * (x 0).val = 16 * n + (x 0).val
  omega

theorem rect_emb {off : Fin 1 → ℕ} {n : ℕ} (hn : 16 * n + 16 ≤ N) (ho : off = ![16 * n]) (h : ∀ a, off a + S16.size a ≤ (Sh N).size a) (x : S16.Idx) :
    (Rect.unit (s := (Sh N)) off S16.size h).emb x = nodeIx n hn x := rect_idx hn ho h x

variable [FloatOps F]

abbrev nkM : Memref sig .scVector .vmem S2032 .f32 := Memref.whole cc0_scratch4
abbrev niM : Memref sig .scVector .vmem S2032 .i32 := Memref.whole cc0_scratch5

omit [FloatOps F] in
theorem nk_read {off : Fin 1 → ℕ} {n : ℕ} (hn : 16 * n + 16 ≤ 2032) (ho : off = ![16 * n]) (h : ∀ a, off a + S16.size a ≤ S2032.size a)
    (f : S2032.Idx → Elt F .f32) :
    nkM.view.readAt (Elt F) (Rect.unit (s := S2032) off S16.size h).toLoadRect f = lanes f n hn := by
  funext x
  show f ((Rect.unit (s := S2032) off S16.size h).toLoadRect.idx x) = _
  rw [rect_idx hn ho]; rfl

omit [FloatOps F] in
theorem ni_read {off : Fin 1 → ℕ} {n : ℕ} (hn : 16 * n + 16 ≤ 2032) (ho : off = ![16 * n]) (h : ∀ a, off a + S16.size a ≤ S2032.size a)
    (f : S2032.Idx → Elt F .i32) :
    niM.view.readAt (Elt F) (Rect.unit (s := S2032) off S16.size h).toLoadRect f = lanes f n hn := by
  funext x
  show f ((Rect.unit (s := S2032) off S16.size h).toLoadRect.idx x) = _
  rw [rect_idx hn ho]; rfl

omit [FloatOps F] in
theorem not_mem_rect {off : Fin 1 → ℕ} {n : ℕ} (hn : 16 * n + 16 ≤ 2032) (ho : off = ![16 * n]) (h : ∀ a, off a + S16.size a ≤ S2032.size a)
    {y : S2032.Idx} (hy : (y 0).val / 16 ≠ n) : y ∉ Finset.univ.map (Rect.unit (s := S2032) off S16.size h).emb := by
  intro hm
  obtain ⟨x, -, rfl⟩ := Finset.mem_map.mp hm
  rw [rect_emb hn ho] at hy
  exact hy (nodeIx_div n hn x)

omit [FloatOps F] in
theorem nk_write {off : Fin 1 → ℕ} {n : ℕ} (hn : 16 * n + 16 ≤ 2032) (ho : off = ![16 * n]) (h : ∀ a, off a + S16.size a ≤ S2032.size a)
    (f : S2032.Idx → Elt F .f32) (w : S16.Idx → Elt F .f32) :
    (nkM.access (Rect.unit (s := S2032) off S16.size h)).write (Elt F) f w Finset.univ = upd f n w := by
  funext y
  by_cases hy : (y 0).val / 16 = n
  · have e := eq_nodeIx y hn hy
    have := View.read_slice_write_emb (v := nkM.view) (Val := Elt F) (Rect.unit (s := S2032) off S16.size h) f w (Finset.mem_univ (lane ⟨(y 0).val % 16, Nat.mod_lt _ (by omega)⟩))
    rw [rect_emb hn ho, ← e] at this
    refine Eq.trans this ?_
    unfold upd; rw [if_pos hy]
  · have := View.read_slice_write_of_not_mem (v := nkM.view) (Val := Elt F) (Rect.unit (s := S2032) off S16.size h) f w Finset.univ (not_mem_rect hn ho h hy)
    refine Eq.trans this ?_
    unfold upd; rw [if_neg hy]; rfl

omit [FloatOps F] in
theorem ni_write {off : Fin 1 → ℕ} {n : ℕ} (hn : 16 * n + 16 ≤ 2032) (ho : off = ![16 * n]) (h : ∀ a, off a + S16.size a ≤ S2032.size a)
    (f : S2032.Idx → Elt F .i32) (w : S16.Idx → Elt F .i32) :
    (niM.access (Rect.unit (s := S2032) off S16.size h)).write (Elt F) f w Finset.univ = upd f n w := by
  funext y
  by_cases hy : (y 0).val / 16 = n
  · have e := eq_nodeIx y hn hy
    have := View.read_slice_write_emb (v := niM.view) (Val := Elt F) (Rect.unit (s := S2032) off S16.size h) f w (Finset.mem_univ (lane ⟨(y 0).val % 16, Nat.mod_lt _ (by omega)⟩))
    rw [rect_emb hn ho, ← e] at this
    refine Eq.trans this ?_
    unfold upd; rw [if_pos hy]
  · have := View.read_slice_write_of_not_mem (v := niM.view) (Val := Elt F) (Rect.unit (s := S2032) off S16.size h) f w Finset.univ (not_mem_rect hn ho h hy)
    refine Eq.trans this ?_
    unfold upd; rw [if_neg hy]; rfl

/-! ## Indexed loads and stores -/

omit [FloatOps F] in
/-- An indexed load at places of node `n`. -/
theorem loadIdx_node {e : EltTy} {n : ℕ} (hn : 16 * n + 16 ≤ N) (f : Vec F (Sh N) e) (v : IVec S16 32) (h : ∀ a x, ((![v] : Fin 1 → IVec S16 32) a x).toNat < (Sh N).size a)
    (p : S16.Idx → S16.Idx) (hv : ∀ x, (v x).toNat = 16 * n + nat (p x)) :
    (loadIdx f ![v] h : Vec F S16 e) = fun x => lanes f n hn (p x) := by
  funext x
  unfold loadIdx lanes
  congr 1
  exact idxN_ext (hv x)

theorem foldl_upd {κ : Type} (f : (Sh N).Idx → α) (n : ℕ) (A : ((Sh N).Idx → α) → κ → ((Sh N).Idx → α)) (B : (S16.Idx → α) → κ → (S16.Idx → α))
    (hAB : ∀ g k, A (upd f n g) k = upd f n (B g k)) : ∀ (l : List κ) (g : S16.Idx → α), l.foldl A (upd f n g) = upd f n (l.foldl B g)
  | [], _ => rfl
  | k :: l, g => by rw [List.foldl_cons, List.foldl_cons, hAB, foldl_upd f n A B hAB l]

/-- An indexed store at places of node `n`. -/
theorem storeIdx_node {e : EltTy} {n : ℕ} (hn : 16 * n + 16 ≤ N) (f : Vec F (Sh N) e) (v : IVec S16 32) (h : ∀ a x, ((![v] : Fin 1 → IVec S16 32) a x).toNat < (Sh N).size a)
    (r : S16.Idx → ℕ) (hr : ∀ x, r x < 16) (hv : ∀ x, (v x).toNat = 16 * n + r x) (w : Vec F S16 e) :
    storeIdx (d := ![16]) f ![v] w (fun _ => 1#1) false h = upd f n (scat r (lanes f n hn) w) := by
  unfold storeIdx scat
  conv_lhs => rw [← upd_lanes f n hn]
  refine foldl_upd f n _ _ (fun g k => ?_) _ _
  funext j
  have hi : (idxAt (s := (Sh N)) (![v] : Fin 1 → IVec S16 32) h (Shape.ofLane (d := ![16]) k) 0).val = 16 * n + r (lane k) := by
    exact (hv (Shape.ofLane (d := ![16]) k)).trans (congrArg (fun z => 16 * n + r z) (ofLane_eq k))
  have hiff : (∀ a, (j a).val = (idxAt (s := (Sh N)) (![v] : Fin 1 → IVec S16 32) h (Shape.ofLane (d := ![16]) k) a).val) ↔ (j 0).val = 16 * n + r (lane k) := by
    rw [← hi]
    constructor
    · intro h; exact h 0
    · intro h a
      match a with
      | 0 => exact h
  have hrk := hr (lane k)
  refine (congrFun (if_pos rfl) j).trans ?_
  simp only [Bool.false_eq_true, if_false]
  by_cases hj : (j 0).val = 16 * n + r (lane k)
  · refine (if_pos (hiff.mpr hj)).trans ?_
    unfold upd
    rw [if_pos (show (j 0).val / 16 = n by omega)]
    exact (congrArg w (ofLane_eq k)).trans (if_pos (show (j 0).val % 16 = r (lane k) by omega)).symm
  · refine (if_neg (fun h => hj (hiff.mp h))).trans ?_
    unfold upd
    by_cases hd : (j 0).val / 16 = n
    · rw [if_pos hd, if_pos hd]
      exact (if_neg (show ¬ (j 0).val % 16 = r (lane k) by omega)).symm
    · rw [if_neg hd, if_neg hd]

end Cert.Proof.Bufs

end
-- ==== Proof.Base.lean ====
/-
  The program as the launch theorem sees it, the algebra of the proof, and a tile's own buffers with the rules of its
  loads and stores.
-/
module

public import proofs.«01_k».proof.Defs
public import proofs.«01_k».proof.Proof.Bufs
public import Idealize.ShloMosaic.Lib.SparseCore.Quiescent
public import Idealize.ShloMosaic.Lib.SparseCore.Ops
public import Idealize.ShloMosaic.Lib.StableHlo.Run
public import Idealize.ShloMosaic.Lib.WriteMode
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the write-mode cells, the pipeline's rounds, the transfers' counters -/

abbrev UH : Type := URounds (GSem nD τ sig) ℕ
abbrev UW (F : FTy → Type) : Type := WmRA nD τ sig (Elt F)
abbrev UP : Type := URounds (GSem nD τ sig) Unit
abbrev UU (F : FTy → Type) : Type := UH × (UW F × (UP × Counters))

local notation "𝕄" => MT nD τ sig (HIx 1) (Elt F) ℕ (UU F) ℕ

abbrev EH : Emb UH (MT nD τ sig (HIx 1) (Elt F) ℕ (UU F) ℕ) := embL
abbrev EW : UEmb (UW F) (UU F) := (UEmb.inl : UEmb (UW F) (UW F × (UP × Counters))).trans UEmb.inr
def EP : Emb UP (MT nD τ sig (HIx 1) (Elt F) ℕ (UU F) ℕ) :=
  ((Emb.inl : Emb UP (UP × Counters)).trans ((Emb.inr : Emb (UP × Counters) (UW F × (UP × Counters))).trans (Emb.inr : Emb (UW F × (UP × Counters)) (UU F)))).trans
    (uEmb (nD := nD) (sig := sig) (Ix := HIx 1) (Val := Elt F) (Name := ℕ) (U := UU F) (Lvl := ℕ)).toEmb
instance EP_landsIn : (EP (F := F)).LandsIn (upEmb : UEmb _ 𝕄) := by unfold EP; infer_instance
abbrev EC : UEmb Counters (MT nD τ sig (HIx 1) (Elt F) ℕ (UU F) ℕ) := countersEmb

/-- The write-mode invariant under some name. -/
def wmI : sProp 𝕄 := iprop(∃ ι, wmInv (Ix := HIx 1) (Name := ℕ) (Lvl := ℕ) (EW (F := F)) ι)

/-! ## A tile and its buffers -/

abbrev cV (L : grid0.Coords) : Fin τ.nSC := (L 0).castLE hcore0
abbrev jV (L : grid0.Coords) : Fin τ.nSub := (L 1).castLE hsub0

abbrev inM : Memref sig .scVector .hbm S20000x1024 .f32 := Memref.whole main_v0_scv
abbrev o0M : Memref sig .scVector .hbm S320000 .f32 := Memref.whole main_v2_0_scv
abbrev o1M : Memref sig .scVector .hbm S320000 .f32 := Memref.whole main_v2_1_scv
abbrev bufM : Memref sig .scVector .vmem S2x1024 .f32 := Memref.whole cc0_scratch0
abbrev vaM : Memref sig .scVector .vmem S10000 .f32 := Memref.whole cc0_scratch1
abbrev faM : Memref sig .scVector .vmem S10000 .f32 := Memref.whole cc0_scratch2

variable [FloatOps F] (d : Dev nD) (i : grid0.Coords)

abbrev nkP (f : S2032.Idx → Elt F .f32) : sProp 𝕄 := (V d (cV i) (jV i)).loc cc0_scratch4 ↦{fullShare} f
abbrev niP (f : S2032.Idx → Elt F .i32) : sProp 𝕄 := (V d (cV i) (jV i)).loc cc0_scratch5 ↦{fullShare} f
abbrev vaP (f : S10000.Idx → Elt F .f32) : sProp 𝕄 := (V d (cV i) (jV i)).loc cc0_scratch1 ↦{fullShare} f
abbrev faP (f : S10000.Idx → Elt F .f32) : sProp 𝕄 := (V d (cV i) (jV i)).loc cc0_scratch2 ↦{fullShare} f

/-- A tile's program meets `Q`. -/
abbrev tw {α : Type} (p : Prog (TpuEff nD τ sig (Elt F) Λ₀ (.scVector ((i 0).castLE hcore0) ((i 1).castLE hsub0))) α) (Q : α → sProp 𝕄) : sProp 𝕄 :=
  wp frame (wpE (defs₀ (F := F)) 𝒱₀ (V d (cV i) (jV i)) none) Set.univ p Q

abbrev TProg (F : FTy → Type) (i : grid0.Coords) (α : Type) : Type 1 := Prog (TpuEff nD τ sig (Elt F) Λ₀ (.scVector ((i 0).castLE hcore0) ((i 1).castLE hsub0))) α

theorem tw_assume {α : Type} {Q : α → sProp 𝕄} {P : Prop} {dP : Decidable P} {k : PLift P → TProg F i α} (h : P) :
    tw d i (.op (.assume P dP) k) Q = tw d i (k ⟨h⟩) Q := wp_assume_of _ _ _ _ h

theorem tw_ret {α : Type} {Q : α → sProp 𝕄} {a : α} : Q a ⊢ tw d i (.ret a) Q := by
  unfold tw
  rw [wp_ret]
  iintro H
  imodintro
  iexact H

section Prim

theorem wp_nkLoad {α : Type} {Q : α → sProp 𝕄} {off : Fin 1 → ℕ} {n : ℕ} (hn : 16 * n + 16 ≤ 2032) (ho : off = ![16 * n]) {h : ∀ a, off a + S16.size a ≤ S2032.size a}
    {hl : (nkM.view).LoadsAt (Rect.unit (s := S2032) off S16.size h).toLoadRect}
    {k : Vec F S16 .f32 → TProg F i α} {f : S2032.Idx → Elt F .f32} :
    nkP d i f ⊢ iprop((nkP d i f -∗ tw d i (k (lanes f n hn)) Q)
      -∗ tw d i (.op (.load nkM (Rect.unit (s := S2032) off S16.size h).toLoadRect hl) k) Q) := by
  have := wp_load (Γ := PendingWaitsCtx.empty) (defs := defs₀ (F := F)) 𝒱₀ (V d (cV i) (jV i)) none Set.univ (m := nkM) (r := (Rect.unit (s := S2032) off S16.size h).toLoadRect) (hl := hl) (k := k) (Q := Q) (S := Finset.univ) (q := fullShare) (f := f)
    (Finset.subset_univ _)
  rw [nk_read hn ho h f] at this
  exact this

theorem wp_niLoad {α : Type} {Q : α → sProp 𝕄} {off : Fin 1 → ℕ} {n : ℕ} (hn : 16 * n + 16 ≤ 2032) (ho : off = ![16 * n]) {h : ∀ a, off a + S16.size a ≤ S2032.size a}
    {hl : (niM.view).LoadsAt (Rect.unit (s := S2032) off S16.size h).toLoadRect}
    {k : Vec F S16 .i32 → TProg F i α} {f : S2032.Idx → Elt F .i32} :
    niP d i f ⊢ iprop((niP d i f -∗ tw d i (k (lanes f n hn)) Q)
      -∗ tw d i (.op (.load niM (Rect.unit (s := S2032) off S16.size h).toLoadRect hl) k) Q) := by
  have := wp_load (Γ := PendingWaitsCtx.empty) (defs := defs₀ (F := F)) 𝒱₀ (V d (cV i) (jV i)) none Set.univ (m := niM) (r := (Rect.unit (s := S2032) off S16.size h).toLoadRect) (hl := hl) (k := k) (Q := Q) (S := Finset.univ) (q := fullShare) (f := f)
    (Finset.subset_univ _)
  rw [ni_read hn ho h f] at this
  exact this

theorem wp_nkStore {α : Type} {Q : α → sProp 𝕄} {off : Fin 1 → ℕ} {n : ℕ} (hn : 16 * n + 16 ≤ 2032) (ho : off = ![16 * n]) {h : ∀ a, off a + S16.size a ≤ S2032.size a}
    {w : Vec F S16 .f32} {hx : (nkM.access (Rect.unit (s := S2032) off S16.size h)).Stores Finset.univ} {hm}
    {k : PUnit → TProg F i α} {f : S2032.Idx → Elt F .f32} :
    nkP d i f ⊢ iprop((nkP d i (upd f n w) -∗ tw d i (k ⟨⟩) Q)
      -∗ tw d i (.op (.store nkM (Rect.unit (s := S2032) off S16.size h) w Finset.univ hx hm) k) Q) := by
  have := wp_store (Γ := PendingWaitsCtx.empty) (defs := defs₀ (F := F)) 𝒱₀ (V d (cV i) (jV i)) none Set.univ (m := nkM) (r := Rect.unit (s := S2032) off S16.size h) (w := w) (Mk := Finset.univ) (hx := hx) (hm := hm) (k := k) (Q := Q)
    (S := Finset.univ) (f := f) (Finset.subset_univ _)
  rw [nk_write hn ho h f w] at this
  exact this

theorem wp_niStore {α : Type} {Q : α → sProp 𝕄} {off : Fin 1 → ℕ} {n : ℕ} (hn : 16 * n + 16 ≤ 2032) (ho : off = ![16 * n]) {h : ∀ a, off a + S16.size a ≤ S2032.size a}
    {w : Vec F S16 .i32} {hx : (niM.access (Rect.unit (s := S2032) off S16.size h)).Stores Finset.univ} {hm}
    {k : PUnit → TProg F i α} {f : S2032.Idx → Elt F .i32} :
    niP d i f ⊢ iprop((niP d i (upd f n w) -∗ tw d i (k ⟨⟩) Q)
      -∗ tw d i (.op (.store niM (Rect.unit (s := S2032) off S16.size h) w Finset.univ hx hm) k) Q) := by
  have := wp_store (Γ := PendingWaitsCtx.empty) (defs := defs₀ (F := F)) 𝒱₀ (V d (cV i) (jV i)) none Set.univ (m := niM) (r := Rect.unit (s := S2032) off S16.size h) (w := w) (Mk := Finset.univ) (hx := hx) (hm := hm) (k := k) (Q := Q)
    (S := Finset.univ) (f := f) (Finset.subset_univ _)
  rw [ni_write hn ho h f w] at this
  exact this

theorem wp_nkGather {α : Type} {Q : α → sProp 𝕄} {n : ℕ} (hn : 16 * n + 16 ≤ 2032) {v : IVec S16 32} {h : ∀ a x, ((![v] : Fin 1 → IVec S16 32) a x).toNat < S2032.size a}
    {hl : (nkM.view).Loads} {k : Vec F S16 .f32 → TProg F i α} {f : S2032.Idx → Elt F .f32}
    (p : S16.Idx → S16.Idx) (hv : ∀ x, (v x).toNat = 16 * n + nat (p x)) :
    nkP d i f ⊢ iprop((nkP d i f -∗ tw d i (k fun x => lanes f n hn (p x)) Q)
      -∗ tw d i (SparseCore.vectorLoadIdx nkM ![v] h hl >>= k) Q) := by
  have := SparseCore.wp_vectorLoadIdx (defs := defs₀ (F := F)) 𝒱₀ (V d (cV i) (jV i)) none Set.univ (base := nkM) (idxs := ![v]) (h := h) (hl := hl) (k := k) (Q := Q) (S := Finset.univ) (q := fullShare) (f := f)
    (Finset.subset_univ _)
  have e : ((nkM : Memref sig .scVector .vmem S2032 .f32).access (.whole S2032)).read (Elt F) f = f := by
    funext x; exact congrArg f (by funext a; match a with | 0 => exact Fin.ext (by show 0 + 1 * (x 0).val = (x 0).val; omega))
  rw [e, loadIdx_node hn f v h p hv] at this
  exact this

theorem wp_niGather {α : Type} {Q : α → sProp 𝕄} {n : ℕ} (hn : 16 * n + 16 ≤ 2032) {v : IVec S16 32} {h : ∀ a x, ((![v] : Fin 1 → IVec S16 32) a x).toNat < S2032.size a}
    {hl : (niM.view).Loads} {k : Vec F S16 .i32 → TProg F i α} {f : S2032.Idx → Elt F .i32}
    (p : S16.Idx → S16.Idx) (hv : ∀ x, (v x).toNat = 16 * n + nat (p x)) :
    niP d i f ⊢ iprop((niP d i f -∗ tw d i (k fun x => lanes f n hn (p x)) Q)
      -∗ tw d i (SparseCore.vectorLoadIdx niM ![v] h hl >>= k) Q) := by
  have := SparseCore.wp_vectorLoadIdx (defs := defs₀ (F := F)) 𝒱₀ (V d (cV i) (jV i)) none Set.univ (base := niM) (idxs := ![v]) (h := h) (hl := hl) (k := k) (Q := Q) (S := Finset.univ) (q := fullShare) (f := f)
    (Finset.subset_univ _)
  have e : ((niM : Memref sig .scVector .vmem S2032 .i32).access (.whole S2032)).read (Elt F) f = f := by
    funext x; exact congrArg f (by funext a; match a with | 0 => exact Fin.ext (by show 0 + 1 * (x 0).val = (x 0).val; omega))
  rw [e, loadIdx_node hn f v h p hv] at this
  exact this

/-- An indexed store through a whole buffer of `N` at places of register `n`. -/
theorem wp_scatter {α : Type} {Q : α → sProp 𝕄} {N : ℕ} {e : EltTy} {m : Memref sig .scVector .vmem (Sh N) e} {n : ℕ} (hn : 16 * n + 16 ≤ N) {v : IVec S16 32}
    {h : ∀ a x, ((![v] : Fin 1 → IVec S16 32) a x).toNat < (Sh N).size a} {w : Vec F S16 e}
    {hs : (m.access (.whole (Sh N))).Stores Finset.univ} {k : PUnit → TProg F i α}
    (f : Buf (Elt F) ((m.access (.whole (Sh N))).loc (V d (cV i) (jV i)))) (f' f'' : Vec F (Sh N) e)
    (hr : (m.access (.whole (Sh N))).read (Elt F) f = f')
    (r : S16.Idx → ℕ) (hr16 : ∀ x, r x < 16) (hv : ∀ x, (v x).toNat = 16 * n + r x) (hf : f'' = upd f' n (scat r (lanes f' n hn) w)) :
    ((m.access (.whole (Sh N))).loc (V d (cV i) (jV i)) ↦[(m.access (.whole (Sh N))).set]{fullShare} f)
      ⊢ iprop((((m.access (.whole (Sh N))).loc (V d (cV i) (jV i)) ↦[(m.access (.whole (Sh N))).set]{fullShare}
          ((m.access (.whole (Sh N))).write (Elt F) f f'' Finset.univ)) -∗ tw d i (k ⟨⟩) Q)
      -∗ tw d i (SparseCore.vectorStoreIdx m ![v] w (fun _ => 1#1) false h hs >>= k) Q) := by
  have := SparseCore.wp_vectorStoreIdx (defs := defs₀ (F := F)) 𝒱₀ (V d (cV i) (jV i)) none Set.univ (base := m) (idxs := ![v]) (v := w) (mask := fun _ => 1#1) (add := false) (h := h) (hs := hs) (k := k) (Q := Q) (f := f)
  rw [hr, storeIdx_node hn f' v h r hr16 hv w, ← hf] at this
  exact this

theorem wp_nkScatter {α : Type} {Q : α → sProp 𝕄} {n : ℕ} (hn : 16 * n + 16 ≤ 2032) {v : IVec S16 32} {h : ∀ a x, ((![v] : Fin 1 → IVec S16 32) a x).toNat < S2032.size a}
    {w : Vec F S16 .f32} {hs : (nkM.access (.whole S2032)).Stores Finset.univ} {k : PUnit → TProg F i α} {f : S2032.Idx → Elt F .f32}
    (r : S16.Idx → ℕ) (hr16 : ∀ x, r x < 16) (hv : ∀ x, (v x).toNat = 16 * n + r x) :
    nkP d i f ⊢ iprop((nkP d i (upd f n (scat r (lanes f n hn) w)) -∗ tw d i (k ⟨⟩) Q)
      -∗ tw d i (SparseCore.vectorStoreIdx nkM ![v] w (fun _ => 1#1) false h hs >>= k) Q) := by
  have := wp_scatter d i (m := nkM) hn (v := v) (h := h) (w := w) (hs := hs) (k := k) (Q := Q) f f (upd f n (scat r (lanes f n hn) w))
    (Memref.read_access_whole (Elt F) cc0_scratch4 f) r hr16 hv rfl
  rw [show (nkM.access (Rect.whole (Sh 2032))).set = Finset.univ from Memref.set_access_whole cc0_scratch4,
    show View.write (Elt F) (nkM.access (Rect.whole (Sh 2032))) f (upd f n (scat r (lanes f n hn) w)) Finset.univ = upd f n (scat r (lanes f n hn) w)
      from Memref.write_access_whole_univ (Elt F) cc0_scratch4 f _] at this
  exact this

theorem wp_niScatter {α : Type} {Q : α → sProp 𝕄} {n : ℕ} (hn : 16 * n + 16 ≤ 2032) {v : IVec S16 32} {h : ∀ a x, ((![v] : Fin 1 → IVec S16 32) a x).toNat < S2032.size a}
    {w : Vec F S16 .i32} {hs : (niM.access (.whole S2032)).Stores Finset.univ} {k : PUnit → TProg F i α} {f : S2032.Idx → Elt F .i32}
    (r : S16.Idx → ℕ) (hr16 : ∀ x, r x < 16) (hv : ∀ x, (v x).toNat = 16 * n + r x) :
    niP d i f ⊢ iprop((niP d i (upd f n (scat r (lanes f n hn) w)) -∗ tw d i (k ⟨⟩) Q)
      -∗ tw d i (SparseCore.vectorStoreIdx niM ![v] w (fun _ => 1#1) false h hs >>= k) Q) := by
  have := wp_scatter d i (m := niM) hn (v := v) (h := h) (w := w) (hs := hs) (k := k) (Q := Q) f f (upd f n (scat r (lanes f n hn) w))
    (Memref.read_access_whole (Elt F) cc0_scratch5 f) r hr16 hv rfl
  rw [show (niM.access (Rect.whole (Sh 2032))).set = Finset.univ from Memref.set_access_whole cc0_scratch5,
    show View.write (Elt F) (niM.access (Rect.whole (Sh 2032))) f (upd f n (scat r (lanes f n hn) w)) Finset.univ = upd f n (scat r (lanes f n hn) w)
      from Memref.write_access_whole_univ (Elt F) cc0_scratch5 f _] at this
  exact this

theorem wp_vaScatter {α : Type} {Q : α → sProp 𝕄} {n : ℕ} (hn : 16 * n + 16 ≤ 10000) {v : IVec S16 32} {h : ∀ a x, ((![v] : Fin 1 → IVec S16 32) a x).toNat < S10000.size a}
    {w : Vec F S16 .f32} {hs : (vaM.access (.whole S10000)).Stores Finset.univ} {k : PUnit → TProg F i α} {f : S10000.Idx → Elt F .f32}
    (r : S16.Idx → ℕ) (hr16 : ∀ x, r x < 16) (hv : ∀ x, (v x).toNat = 16 * n + r x) :
    vaP d i f ⊢ iprop((vaP d i (upd f n (scat r (lanes f n hn) w)) -∗ tw d i (k ⟨⟩) Q)
      -∗ tw d i (SparseCore.vectorStoreIdx vaM ![v] w (fun _ => 1#1) false h hs >>= k) Q) := by
  have := wp_scatter d i (m := vaM) hn (v := v) (h := h) (w := w) (hs := hs) (k := k) (Q := Q) f f (upd f n (scat r (lanes f n hn) w))
    (Memref.read_access_whole (Elt F) cc0_scratch1 f) r hr16 hv rfl
  rw [show (vaM.access (Rect.whole (Sh 10000))).set = Finset.univ from Memref.set_access_whole cc0_scratch1,
    show View.write (Elt F) (vaM.access (Rect.whole (Sh 10000))) f (upd f n (scat r (lanes f n hn) w)) Finset.univ = upd f n (scat r (lanes f n hn) w)
      from Memref.write_access_whole_univ (Elt F) cc0_scratch1 f _] at this
  exact this

theorem wp_faScatter {α : Type} {Q : α → sProp 𝕄} {n : ℕ} (hn : 16 * n + 16 ≤ 10000) {v : IVec S16 32} {h : ∀ a x, ((![v] : Fin 1 → IVec S16 32) a x).toNat < S10000.size a}
    {w : Vec F S16 .f32} {hs : (faM.access (.whole S10000)).Stores Finset.univ} {k : PUnit → TProg F i α} {f : S10000.Idx → Elt F .f32}
    (r : S16.Idx → ℕ) (hr16 : ∀ x, r x < 16) (hv : ∀ x, (v x).toNat = 16 * n + r x) :
    faP d i f ⊢ iprop((faP d i (upd f n (scat r (lanes f n hn) w)) -∗ tw d i (k ⟨⟩) Q)
      -∗ tw d i (SparseCore.vectorStoreIdx faM ![v] w (fun _ => 1#1) false h hs >>= k) Q) := by
  have := wp_scatter d i (m := faM) hn (v := v) (h := h) (w := w) (hs := hs) (k := k) (Q := Q) f f (upd f n (scat r (lanes f n hn) w))
    (Memref.read_access_whole (Elt F) cc0_scratch2 f) r hr16 hv rfl
  rw [show (faM.access (Rect.whole (Sh 10000))).set = Finset.univ from Memref.set_access_whole cc0_scratch2,
    show View.write (Elt F) (faM.access (Rect.whole (Sh 10000))) f (upd f n (scat r (lanes f n hn) w)) Finset.univ = upd f n (scat r (lanes f n hn) w)
      from Memref.write_access_whole_univ (Elt F) cc0_scratch2 f _] at this
  exact this

end Prim

end Cert.Proof.Tile

end
-- ==== Proof.Sort.lean ====
/-
  Sixteen lanes sorted by rank, and the leaf and the merge of one node: the four printed regions (two row slots) are
  two programs, each proved once.
-/
module

public import proofs.«01_k».proof.Proof.Base

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- A side condition of sixteen places of a node buffer. -/
structure Chk where
  P : IVec S16 32 → Prop
  dec : ∀ v, Decidable (P v)
  inb : ∀ v, P v → ∀ a x, ((![v] : Fin 1 → IVec S16 32) a x).toNat < S2032.size a
  ok : ∀ v, (∀ x, (v x).toNat < 2032) → P v

theorem inb_of {v : IVec S16 32} (h : ∀ x, (v x).toNat < 2032) : ∀ a x, ((![v] : Fin 1 → IVec S16 32) a x).toNat < S2032.size a :=
  fun a x => match a with | 0 => h x

abbrev L16 : Scf.Loop 32 := k0_t3_loop

theorem trips16 : L16.trips = 16 := by decide

section Prog
variable (i : grid0.Coords)

def rankBody (c : Chk) (idx : IVec S16 32) (step : IVec S16 32 → Vec F S16 .f32 → IVec S16 32) (acc : IVec S16 32) :
    TProg F i (IVec S16 32) := do
  have hw : c.P idx := (← Prog.lift (TpuEff.assume (c.P idx) (c.dec idx))).down
  let v : Vec F S16 .f32 ← SparseCore.vectorLoadIdx nkM ![idx] (c.inb idx hw) (View.loads_vmem h_S2032)
  pure (step acc v)

def sortProg {α : Type} (hok : Scf.OK L16.lb L16.ub L16.st) (init : IVec S16 32) (c1 c2 c3 : Chk) (idx : Fin L16.trips → IVec S16 32)
    (step : Fin L16.trips → IVec S16 32 → Vec F S16 .f32 → IVec S16 32) (at1 at2 : IVec S16 32 → IVec S16 32)
    (w : Vec F S16 .f32) (u : IVec S16 32) (ret : α) : TProg F i α := do
  let r : IVec S16 32 ← Scf.Loop.for L16 hok init (fun j acc => rankBody i c1 (idx j) (step j) acc)
  have hw2 : c2.P (at1 r) := (← Prog.lift (TpuEff.assume (c2.P (at1 r)) (c2.dec (at1 r)))).down
  SparseCore.vectorStoreIdx nkM ![at1 r] w (fun _ => 1#1) false (c2.inb _ hw2) (View.stores_vmem_bits_univ h_S2032 rfl)
  have hw3 : c3.P (at2 r) := (← Prog.lift (TpuEff.assume (c3.P (at2 r)) (c3.dec (at2 r)))).down
  SparseCore.vectorStoreIdx niM ![at2 r] u (fun _ => 1#1) false (c3.inb _ hw3) (View.stores_vmem_bits_univ h_S2032 rfl)
  pure ret

def leafProg {α : Type} (offb : Fin 2 → ℕ) (hb : ∀ a, offb a + S1x16.size a ≤ S2x1024.size a) (off : Fin 1 → ℕ) (ho : ∀ a, off a + S16.size a ≤ S2032.size a)
    (hok : Scf.OK L16.lb L16.ub L16.st) (init : IVec S16 32) (c1 c2 c3 : Chk) (idx : Fin L16.trips → IVec S16 32)
    (step : Vec F S1x16 .f32 → Fin L16.trips → IVec S16 32 → Vec F S16 .f32 → IVec S16 32) (at1 at2 : IVec S16 32 → IVec S16 32)
    (w : Vec F S1x16 .f32 → Vec F S16 .f32) (u : IVec S16 32) (ret : α) : TProg F i α := do
  let v : Vec F S1x16 .f32 ← Prog.lift (.load bufM (Rect.unit (s := S2x1024) offb S1x16.size hb).toLoadRect (View.loadsAt_vmem h_S1x16))
  let _ : Vec F S16 .f32 ← Prog.lift (.load nkM (Rect.unit (s := S2032) off S16.size ho).toLoadRect (View.loadsAt_vmem h_S16))
  Prog.lift (.store nkM (Rect.unit (s := S2032) off S16.size ho) (w v) Finset.univ (View.stores_vmem_bits_univ h_S16 rfl) (.inl rfl))
  let _ : Vec F S16 .i32 ← Prog.lift (.load niM (Rect.unit (s := S2032) off S16.size ho).toLoadRect (View.loadsAt_vmem h_S16))
  Prog.lift (.store niM (Rect.unit (s := S2032) off S16.size ho) u Finset.univ (View.stores_vmem_bits_univ h_S16 rfl) (.inl rfl))
  sortProg i hok init c1 c2 c3 idx (step v) at1 at2 (w v) u ret

def mergeProg {α : Type} (offa : Fin 1 → ℕ) (ha : ∀ a, offa a + S16.size a ≤ S2032.size a) (off : Fin 1 → ℕ) (ho : ∀ a, off a + S16.size a ≤ S2032.size a)
    (c0 : Chk) (inb' : ∀ v, c0.P v → ∀ a x, ((![v] : Fin 1 → IVec S16 32) a x).toNat < S2032.size a) (vi : IVec S16 32)
    (hok : Scf.OK L16.lb L16.ub L16.st) (init : IVec S16 32) (c1 c2 c3 : Chk) (idx : Fin L16.trips → IVec S16 32)
    (step : Vec F S16 .f32 → Vec F S16 .f32 → Fin L16.trips → IVec S16 32 → Vec F S16 .f32 → IVec S16 32) (at1 at2 : IVec S16 32 → IVec S16 32)
    (w : Vec F S16 .f32 → Vec F S16 .f32 → Vec F S16 .f32)
    (u : Vec F S16 .f32 → Vec F S16 .i32 → Vec F S16 .f32 → Vec F S16 .i32 → Vec F S16 .i32) (ret : α) : TProg F i α := do
  let a : Vec F S16 .f32 ← Prog.lift (.load nkM (Rect.unit (s := S2032) offa S16.size ha).toLoadRect (View.loadsAt_vmem h_S16))
  let av : Vec F S16 .i32 ← Prog.lift (.load niM (Rect.unit (s := S2032) offa S16.size ha).toLoadRect (View.loadsAt_vmem h_S16))
  have hw : c0.P vi := (← Prog.lift (TpuEff.assume (c0.P vi) (c0.dec vi))).down
  let b : Vec F S16 .f32 ← SparseCore.vectorLoadIdx nkM ![vi] (c0.inb vi hw) (View.loads_vmem h_S2032)
  let bv : Vec F S16 .i32 ← SparseCore.vectorLoadIdx niM ![vi] (inb' vi hw) (View.loads_vmem h_S2032)
  let _ : Vec F S16 .f32 ← Prog.lift (.load nkM (Rect.unit (s := S2032) off S16.size ho).toLoadRect (View.loadsAt_vmem h_S16))
  Prog.lift (.store nkM (Rect.unit (s := S2032) off S16.size ho) (w a b) Finset.univ (View.stores_vmem_bits_univ h_S16 rfl) (.inl rfl))
  let _ : Vec F S16 .i32 ← Prog.lift (.load niM (Rect.unit (s := S2032) off S16.size ho).toLoadRect (View.loadsAt_vmem h_S16))
  Prog.lift (.store niM (Rect.unit (s := S2032) off S16.size ho) (u a av b bv) Finset.univ (View.stores_vmem_bits_univ h_S16 rfl) (.inl rfl))
  sortProg i hok init c1 c2 c3 idx (step a b) at1 at2 (w a b) (u a av b bv) ret

end Prog

variable (d : Dev nD) (i : grid0.Coords)

/-- The counting loop: from zero counts to the ranks. -/
theorem wp_rank {n : ℕ} (hn : 16 * n + 16 ≤ 2032) {hok : Scf.OK L16.lb L16.ub L16.st} {init : IVec S16 32} {c1 : Chk} {idx : Fin L16.trips → IVec S16 32}
    {step : Fin L16.trips → IVec S16 32 → Vec F S16 .f32 → IVec S16 32} {f : S2032.Idx → Elt F .f32} {w : Vec F S16 .f32}
    (hw : lanes f n hn = w) (h0 : ∀ x, init x = 0#32) (hidx : ∀ j x, (idx j x).toNat = 16 * n + j.val)
    (hstep : ∀ j acc, (∀ x, acc x = BitVec.ofNat 32 (rank w j.val x)) → ∀ x, step j acc (fun _ => w (lane (Fin.cast trips16 j))) x = BitVec.ofNat 32 (rank w (j.val + 1) x))
    {β : Type} {kk : IVec S16 32 → TProg F i β} {Q : β → sProp 𝕄} :
    nkP d i f ⊢ iprop((∀ acc, (nkP d i f ∗ ⌜∀ x, acc x = BitVec.ofNat 32 (rank w 16 x)⌝) -∗ tw d i (kk acc) Q)
      -∗ tw d i (Scf.Loop.for L16 hok init (fun j acc => rankBody i c1 (idx j) (step j) acc) >>= kk) Q) := by
  have hbody : ∀ (j : Fin L16.trips) (acc : IVec S16 32),
      iprop(nkP d i f ∗ ⌜∀ x, acc x = BitVec.ofNat 32 (rank w j.val x)⌝)
        ⊢ tw d i (rankBody i c1 (idx j) (step j) acc) (fun acc' => iprop(nkP d i f ∗ ⌜∀ x, acc' x = BitVec.ofNat 32 (rank w (j.val + 1) x)⌝)) := by
    intro j acc
    have hj : j.val < 16 := lt_of_lt_of_eq j.isLt trips16
    have hP : c1.P (idx j) := c1.ok _ fun x => by rw [hidx]; omega
    unfold rankBody
    simp only [Prog.lift, Prog.bind_op, Prog.bind_ret, Prog.pure_eq_ret]
    rw [tw_assume d i hP]
    iintro ⟨H, %ha⟩
    iapply (wp_nkGather d i hn (fun _ => lane (Fin.cast trips16 j)) (fun x => hidx j x)) $$ H
    iintro H
    rw [hw]
    iapply (tw_ret d i)
    isplitl [H]; · iexact H
    ipureintro
    exact hstep j acc ha
  have := Scf.wp_for_bind frame (wpE (defs₀ (F := F)) 𝒱₀ (V d (cV i) (jV i)) none) Set.univ L16.lb L16.ub L16.st hok init
    (fun j acc => rankBody i c1 (idx j) (step j) acc) (fun t acc => iprop(nkP d i f ∗ ⌜∀ x, acc x = BitVec.ofNat 32 (rank w t x)⌝)) hbody (kk := kk) (Q := Q)
  iintro H Hk
  iapply this $$ [H]
  · isplitl [H]; · iexact H
    ipureintro
    intro x
    rw [h0, rank_zero]
  iintro %acc ⟨H, %ha⟩
  iapply Hk $$ %acc
  isplitl [H]; · iexact H
  ipureintro
  intro x
  rw [ha x]
  exact congrArg (fun t => BitVec.ofNat 32 (rank w t x)) trips16

theorem wp_sort {α : Type} {n : ℕ} (hn : 16 * n + 16 ≤ 2032) {hok : Scf.OK L16.lb L16.ub L16.st} {init : IVec S16 32} {c1 c2 c3 : Chk} {idx : Fin L16.trips → IVec S16 32}
    {step : Fin L16.trips → IVec S16 32 → Vec F S16 .f32 → IVec S16 32} {at1 at2 : IVec S16 32 → IVec S16 32}
    {f : S2032.Idx → Elt F .f32} {g : S2032.Idx → Elt F .i32} {w : Vec F S16 .f32} {u : IVec S16 32} {ret : α}
    (hw : lanes f n hn = w) (hu : lanes g n hn = u) (h0 : ∀ x, init x = 0#32) (hidx : ∀ j x, (idx j x).toNat = 16 * n + j.val)
    (hstep : ∀ j acc, (∀ x, acc x = BitVec.ofNat 32 (rank w j.val x)) → ∀ x, step j acc (fun _ => w (lane (Fin.cast trips16 j))) x = BitVec.ofNat 32 (rank w (j.val + 1) x))
    (hat1 : ∀ acc x, acc x = BitVec.ofNat 32 (rank w 16 x) → (at1 acc x).toNat = 16 * n + rank w 16 x)
    (hat2 : ∀ acc x, acc x = BitVec.ofNat 32 (rank w 16 x) → (at2 acc x).toNat = 16 * n + rank w 16 x) {Q : α → sProp 𝕄} :
    iprop(nkP d i f ∗ niP d i g) ⊢ iprop(((nkP d i (upd f n (sortK w)) ∗ niP d i (upd g n (sortV w u))) -∗ Q ret)
      -∗ tw d i (sortProg i hok init c1 c2 c3 idx step at1 at2 w u ret) Q) := by
  unfold sortProg
  iintro ⟨Hk, Hi⟩ HQ
  iapply (wp_rank d i hn hw h0 hidx hstep) $$ Hk
  iintro %acc ⟨Hk, %ha⟩
  simp only [Prog.lift, Prog.bind_op, Prog.bind_ret, Prog.pure_eq_ret]
  have hP2 : c2.P (at1 acc) := c2.ok _ fun x => by rw [hat1 acc x (ha x)]; have := rank_lt w 16 x; omega
  have hP3 : c3.P (at2 acc) := c3.ok _ fun x => by rw [hat2 acc x (ha x)]; have := rank_lt w 16 x; omega
  rw [tw_assume d i hP2]
  iapply (wp_nkScatter d i hn (rank w 16) (rank_lt w 16) (fun x => hat1 acc x (ha x))) $$ Hk
  iintro Hk
  rw [tw_assume d i hP3]
  iapply (wp_niScatter d i hn (rank w 16) (rank_lt w 16) (fun x => hat2 acc x (ha x))) $$ Hi
  iintro Hi
  rw [hw, hu]
  iapply (tw_ret d i)
  iapply HQ
  isplitl [Hk]
  · iexact Hk
  · iexact Hi

abbrev bufPt (S : Finset S2x1024.Idx) (q : PosShare TreeShare) (f : S2x1024.Idx → Elt F .f32) : sProp 𝕄 :=
  (V d (cV i) (jV i)).loc cc0_scratch0 ↦[S]{q} f

/-- One leaf: sixteen coefficients of the row sorted into a node. -/
theorem wp_leaf {α : Type} {n : ℕ} (hn : 16 * n + 16 ≤ 2032) {offb : Fin 2 → ℕ} {hb : ∀ a, offb a + S1x16.size a ≤ S2x1024.size a}
    {off : Fin 1 → ℕ} {ho : ∀ a, off a + S16.size a ≤ S2032.size a} (hoff : off = ![16 * n])
    {hok : Scf.OK L16.lb L16.ub L16.st} {init : IVec S16 32} {c1 c2 c3 : Chk} {idx : Fin L16.trips → IVec S16 32}
    {step : Vec F S1x16 .f32 → Fin L16.trips → IVec S16 32 → Vec F S16 .f32 → IVec S16 32} {at1 at2 : IVec S16 32 → IVec S16 32}
    {f : S2032.Idx → Elt F .f32} {g : S2032.Idx → Elt F .i32} {w : Vec F S1x16 .f32 → Vec F S16 .f32} {u : IVec S16 32} {ret : α}
    {S : Finset S2x1024.Idx} {q : PosShare TreeShare} {fb : S2x1024.Idx → Elt F .f32} {lk : Vec F S16 .f32}
    (hS : bufM.view.setOn (Rect.unit (s := S2x1024) offb S1x16.size hb).toLoadRect.set ⊆ S)
    (hlk : w (bufM.view.readAt (Elt F) (Rect.unit (s := S2x1024) offb S1x16.size hb).toLoadRect fb) = lk)
    (h0 : ∀ x, init x = 0#32) (hidx : ∀ j x, (idx j x).toNat = 16 * n + j.val)
    (hstep : ∀ v j acc, (∀ x, acc x = BitVec.ofNat 32 (rank (w v) j.val x)) → ∀ x, step v j acc (fun _ => w v (lane (Fin.cast trips16 j))) x = BitVec.ofNat 32 (rank (w v) (j.val + 1) x))
    (hat1 : ∀ acc x r, r < 16 → acc x = BitVec.ofNat 32 r → (at1 acc x).toNat = 16 * n + r)
    (hat2 : ∀ acc x r, r < 16 → acc x = BitVec.ofNat 32 r → (at2 acc x).toNat = 16 * n + r) {Q : α → sProp 𝕄} :
    iprop(bufPt d i S q fb ∗ nkP d i f ∗ niP d i g) ⊢ iprop(((bufPt d i S q fb ∗ nkP d i (upd f n (sortK lk)) ∗ niP d i (upd g n (sortV lk u))) -∗ Q ret)
      -∗ tw d i (leafProg i offb hb off ho hok init c1 c2 c3 idx step at1 at2 w u ret) Q) := by
  unfold leafProg
  simp only [Prog.lift, Prog.bind_op, Prog.bind_ret, Prog.pure_eq_ret]
  iintro ⟨Hb, Hk, Hi⟩ HQ
  iapply (wp_load (Γ := PendingWaitsCtx.empty) (defs := defs₀ (F := F)) 𝒱₀ (V d (cV i) (jV i)) none Set.univ (m := bufM) (S := S) (q := q) (f := fb) hS) $$ Hb
  iintro Hb
  iapply (wp_nkLoad d i hn hoff) $$ Hk
  iintro Hk
  iapply (wp_nkStore d i hn hoff) $$ Hk
  iintro Hk
  iapply (wp_niLoad d i hn hoff) $$ Hi
  iintro Hi
  iapply (wp_niStore d i hn hoff) $$ Hi
  iintro Hi
  rw [hlk]
  have e1 := hstep (bufM.view.readAt (Elt F) (Rect.unit (s := S2x1024) offb S1x16.size hb).toLoadRect fb)
  rw [hlk] at e1
  iapply (wp_sort d i hn (lanes_upd_self f n hn lk) (lanes_upd_self g n hn u) h0 hidx e1
    (fun acc x h => hat1 acc x _ (rank_lt _ _ _) h) (fun acc x h => hat2 acc x _ (rank_lt _ _ _) h)) $$ [Hk Hi]
  · isplitl [Hk]
    · iexact Hk
    · iexact Hi
  rw [upd_upd, upd_upd]
  iintro ⟨Hk, Hi⟩
  iapply HQ
  isplitl [Hb]; · iexact Hb
  isplitl [Hk]
  · iexact Hk
  · iexact Hi

/-- One merge: of two sorted nodes, into a node before them. -/
theorem wp_merge {α : Type} {n a b : ℕ} (hn : 16 * n + 16 ≤ 2032) (ha : 16 * a + 16 ≤ 2032) (hb : 16 * b + 16 ≤ 2032)
    {offa : Fin 1 → ℕ} {hoa : ∀ a, offa a + S16.size a ≤ S2032.size a} (hoffa : offa = ![16 * a])
    {off : Fin 1 → ℕ} {ho : ∀ a, off a + S16.size a ≤ S2032.size a} (hoff : off = ![16 * n])
    {c0 : Chk} {inb' : ∀ v, c0.P v → ∀ a x, ((![v] : Fin 1 → IVec S16 32) a x).toNat < S2032.size a} {vi : IVec S16 32}
    (hvi : ∀ x, (vi x).toNat = 16 * b + nat (rev x))
    {hok : Scf.OK L16.lb L16.ub L16.st} {init : IVec S16 32} {c1 c2 c3 : Chk} {idx : Fin L16.trips → IVec S16 32}
    {step : Vec F S16 .f32 → Vec F S16 .f32 → Fin L16.trips → IVec S16 32 → Vec F S16 .f32 → IVec S16 32} {at1 at2 : IVec S16 32 → IVec S16 32}
    {f : S2032.Idx → Elt F .f32} {g : S2032.Idx → Elt F .i32} {w : Vec F S16 .f32 → Vec F S16 .f32 → Vec F S16 .f32}
    {u : Vec F S16 .f32 → Vec F S16 .i32 → Vec F S16 .f32 → Vec F S16 .i32 → Vec F S16 .i32} {ret : α} {A B : Node F}
    (hAk : lanes f a ha = A.1) (hAv : lanes g a ha = A.2) (hBk : lanes f b hb = B.1) (hBv : lanes g b hb = B.2)
    (hw : w A.1 (fun x => B.1 (rev x)) = pickK A B) (hu : u A.1 A.2 (fun x => B.1 (rev x)) (fun x => B.2 (rev x)) = pickV A B)
    (h0 : ∀ x, init x = 0#32) (hidx : ∀ j x, (idx j x).toNat = 16 * n + j.val)
    (hstep : ∀ v v' j acc, (∀ x, acc x = BitVec.ofNat 32 (rank (w v v') j.val x)) →
      ∀ x, step v v' j acc (fun _ => w v v' (lane (Fin.cast trips16 j))) x = BitVec.ofNat 32 (rank (w v v') (j.val + 1) x))
    (hat1 : ∀ acc x r, r < 16 → acc x = BitVec.ofNat 32 r → (at1 acc x).toNat = 16 * n + r)
    (hat2 : ∀ acc x r, r < 16 → acc x = BitVec.ofNat 32 r → (at2 acc x).toNat = 16 * n + r) {Q : α → sProp 𝕄} :
    iprop(nkP d i f ∗ niP d i g) ⊢ iprop(((nkP d i (upd f n (merge A B).1) ∗ niP d i (upd g n (merge A B).2)) -∗ Q ret)
      -∗ tw d i (mergeProg i offa hoa off ho c0 inb' vi hok init c1 c2 c3 idx step at1 at2 w u ret) Q) := by
  have hP : c0.P vi := c0.ok _ fun x => by rw [hvi]; have := nat_lt (rev x); omega
  unfold mergeProg
  simp only [Prog.lift, Prog.bind_op, Prog.bind_ret, Prog.pure_eq_ret]
  iintro ⟨Hk, Hi⟩ HQ
  iapply (wp_nkLoad d i ha hoffa) $$ Hk
  iintro Hk
  iapply (wp_niLoad d i ha hoffa) $$ Hi
  iintro Hi
  rw [tw_assume d i hP]
  iapply (wp_nkGather d i hb rev hvi) $$ Hk
  iintro Hk
  iapply (wp_niGather d i hb rev hvi) $$ Hi
  iintro Hi
  rw [hAk, hAv, hBk, hBv]
  iapply (wp_nkLoad d i hn hoff) $$ Hk
  iintro Hk
  iapply (wp_nkStore d i hn hoff) $$ Hk
  iintro Hk
  iapply (wp_niLoad d i hn hoff) $$ Hi
  iintro Hi
  iapply (wp_niStore d i hn hoff) $$ Hi
  iintro Hi
  have e1 := hstep A.1 (fun x => B.1 (rev x))
  rw [hw] at e1
  rw [hw, hu]
  iapply (wp_sort d i hn (lanes_upd_self f n hn _) (lanes_upd_self g n hn _) h0 hidx e1
    (fun acc x h => hat1 acc x _ (rank_lt _ _ _) h) (fun acc x h => hat2 acc x _ (rank_lt _ _ _) h)) $$ [Hk Hi]
  · isplitl [Hk]
    · iexact Hk
    · iexact Hi
  rw [upd_upd, upd_upd]
  iintro ⟨Hk, Hi⟩
  iapply HQ
  isplitl [Hk]
  · iexact Hk
  · iexact Hi

end Cert.Proof.Tile

end
-- ==== Proof.Nodes.lean ====
/-
  The two loops over a row slot's node buffers: sixty-four leaves, then sixty-three merges.
-/
module

public import proofs.«01_k».proof.Proof.Sort

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## Words -/

theorem sgt_lane : ∀ m j : Fin 16, IntOp.cmpi .sgt (BitVec.ofNat 32 m.val) (Scf.iv 0#32 1#32 j.val) = if j.val < m.val then 1#1 else 0#1 := by decide +kernel
theorem slt_lane : ∀ m j : Fin 16, IntOp.cmpi .slt (BitVec.ofNat 32 m.val) (Scf.iv 0#32 1#32 j.val) = if m.val < j.val then 1#1 else 0#1 := by decide +kernel
theorem and_zero : ∀ b : BitVec 1, IntOp.andi 0#1 b = 0#1 := by decide
theorem and_one : ∀ b : BitVec 1, IntOp.andi 1#1 b = b := by decide

/-- One comparison of the counting loop. -/
theorem rank_step (w : Vec F S16 .f32) (j : Fin 16) (x : S16.Idx) (a : BitVec 32) (ha : a = BitVec.ofNat 32 (rank w j.val x)) :
    IntOp.addi a (Scalar.select (Scalar.select (IntOp.cmpi .sgt (BitVec.ofNat 32 (nat x)) (Scf.iv 0#32 1#32 j.val)) (FloatOps.cmpf .ole (w (lane j)) (w x))
      (IntOp.andi (IntOp.cmpi .slt (BitVec.ofNat 32 (nat x)) (Scf.iv 0#32 1#32 j.val)) (FloatOps.cmpf .olt (w (lane j)) (w x)))) 1#32 0#32)
      = BitVec.ofNat 32 (rank w (j.val + 1) x) := by
  have h1 := sgt_lane ⟨nat x, nat_lt x⟩ j
  have h2 := slt_lane ⟨nat x, nat_lt x⟩ j
  simp only at h1 h2
  have hg : Scalar.select (IntOp.cmpi .sgt (BitVec.ofNat 32 (nat x)) (Scf.iv 0#32 1#32 j.val)) (FloatOps.cmpf .ole (w (lane j)) (w x))
      (IntOp.andi (IntOp.cmpi .slt (BitVec.ofNat 32 (nat x)) (Scf.iv 0#32 1#32 j.val)) (FloatOps.cmpf .olt (w (lane j)) (w x))) = goes w x j := by
    rw [h1, h2]
    unfold goes Scalar.select
    by_cases h : j.val < nat x
    · rw [if_pos h, if_pos h]; rfl
    · rw [if_neg h, if_neg h]
      by_cases h' : nat x < j.val
      · rw [if_pos h', if_pos h', and_one]; rfl
      · rw [if_neg h', if_neg h', and_zero]; rfl
  rw [hg, rank_succ, ha]
  unfold Scalar.select IntOp.addi
  by_cases h : goes w x j = 1#1
  · rw [if_pos (show goes w x j = 1 from h), if_pos h, BitVec.ofNat_add]
  · rw [if_neg (show ¬goes w x j = 1 from h), if_neg h]
    simp

theorem leaf_idx : ∀ (t : Fin 64) (j : Fin 16), (IntOp.addi (Scalar.muli (Scalar.addi 63#32 (Scf.iv 0#32 1#32 t.val)) 16#32) (Scf.iv 0#32 1#32 j.val)).toNat = 16 * (63 + t.val) + j.val := by
  decide +kernel
theorem leaf_at : ∀ (t : Fin 64) (r : Fin 16), (IntOp.addi (Scalar.muli (Scalar.addi 63#32 (Scf.iv 0#32 1#32 t.val)) 16#32) (BitVec.ofNat 32 r.val)).toNat = 16 * (63 + t.val) + r.val := by
  decide +kernel
theorem leaf_val : ∀ (t : Fin 64) (r : Fin 16), IntOp.addi (BitVec.ofNat 32 r.val) (Scalar.muli (Scf.iv 0#32 1#32 t.val) 16#32) = BitVec.ofNat 32 (16 * t.val + r.val) := by
  decide +kernel
theorem merge_idx : ∀ (t : Fin 63) (j : Fin 16), (IntOp.addi (Scalar.muli (Scalar.subi 62#32 (Scf.iv 0#32 1#32 t.val)) 16#32) (Scf.iv 0#32 1#32 j.val)).toNat = 16 * (62 - t.val) + j.val := by
  decide +kernel
theorem merge_at : ∀ (t : Fin 63) (r : Fin 16), (IntOp.addi (Scalar.muli (Scalar.subi 62#32 (Scf.iv 0#32 1#32 t.val)) 16#32) (BitVec.ofNat 32 r.val)).toNat = 16 * (62 - t.val) + r.val := by
  decide +kernel
theorem merge_rev : ∀ (t : Fin 63) (r : Fin 16),
    (IntOp.subi (Scalar.addi (Scalar.muli (Scalar.addi (Scalar.muli 2#32 (Scalar.subi 62#32 (Scf.iv 0#32 1#32 t.val))) 2#32) 16#32) 15#32) (BitVec.ofNat 32 r.val)).toNat
      = 16 * (2 * (62 - t.val) + 2) + (15 - r.val) := by
  decide +kernel

theorem iota_eq (x : S16.Idx) : (iota .scVector S16 32 [0] iota_S16_d0_w32_scVector : IVec S16 32) x = BitVec.ofNat 32 (nat x) :=
  congrArg (BitVec.ofNat 32) (show 0 * S16.size 0 + (x 0).val = nat x by rw [Nat.zero_mul, Nat.zero_add]; rfl)

/-! ## A row of the row buffer -/

def bufIx (b : Fin 2) (j : Fin 1024) : S2x1024.Idx := fun a => match a with | 0 => b | 1 => j

theorem bufIx_ext {y : S2x1024.Idx} {b : Fin 2} {j : Fin 1024} (h0 : (y 0).val = b.val) (h1 : (y 1).val = j.val) : y = bufIx b j := by
  funext a
  match a with
  | 0 => exact Fin.ext h0
  | 1 => exact Fin.ext h1

def rowSet (b : Fin 2) : Finset S2x1024.Idx := Finset.univ.filter fun y => (y 0).val = b.val

theorem mem_rowSet {b : Fin 2} {y : S2x1024.Idx} : y ∈ rowSet b ↔ (y 0).val = b.val := by simp [rowSet]

def rowOf (b : Fin 2) (f : S2x1024.Idx → Elt F .f32) : Row F := fun j => f (bufIx b j)

theorem cast_ix : ∀ j : Fin 16, (Shape.reshapeEquiv shapeCasts_S1x16_S16 (lane j) 1).val = j.val := by decide +kernel

theorem leaf_set {b : Fin 2} {t : ℕ} {offb : Fin 2 → ℕ} (hoff : offb = ![b.val, 16 * t]) (hb : ∀ a, offb a + S1x16.size a ≤ S2x1024.size a) :
    bufM.view.setOn (Rect.unit (s := S2x1024) offb S1x16.size hb).toLoadRect.set ⊆ rowSet b := by
  subst hoff
  intro y hy
  obtain ⟨z, hz, rfl⟩ := Finset.mem_map.mp hy
  obtain ⟨k, hk, e⟩ := (LoadRect.mem_set _).mp hz 0
  rw [mem_rowSet]
  have hk1 : k < 1 := hk
  have e' : (z 0).val = b.val + 1 * k := e
  show (z 0).val = b.val
  omega

theorem leaf_read {b : Fin 2} {t : ℕ} (ht : t < 64) {offb : Fin 2 → ℕ} (hoff : offb = ![b.val, 16 * t]) (hb : ∀ a, offb a + S1x16.size a ≤ S2x1024.size a)
    (f : S2x1024.Idx → Elt F .f32) :
    (absf (shapeCast S16 (bufM.view.readAt (Elt F) (Rect.unit (s := S2x1024) offb S1x16.size hb).toLoadRect f : Vec F S1x16 .f32) shapeCasts_S1x16_S16) : FVec F S16 .f32)
      = leafK (rowOf b f) t := by
  subst hoff
  funext x
  refine congrArg (fun z => FloatOps.absf (f z)) (bufIx_ext ?_ ?_)
  · have : (Shape.reshapeEquiv shapeCasts_S1x16_S16 x 0).val < 1 := (Shape.reshapeEquiv shapeCasts_S1x16_S16 x 0).isLt
    show b.val + 1 * (Shape.reshapeEquiv shapeCasts_S1x16_S16 x 0).val = b.val
    omega
  · have e := cast_ix ⟨nat x, nat_lt x⟩
    rw [lane_nat] at e
    have hx := nat_lt x
    show 16 * t + 1 * (Shape.reshapeEquiv shapeCasts_S1x16_S16 x 1).val = (16 * t + nat x) % 1024
    rw [e, Nat.mod_eq_of_lt (by omega)]
    simp

/-- Nodes `lo` to `hi` of the tree are in the node buffers. -/
def Nodes (row : Row F) (lo hi : ℕ) (f : S2032.Idx → Elt F .f32) (g : S2032.Idx → Elt F .i32) : Prop :=
  ∀ n (hn : 16 * n + 16 ≤ 2032), lo ≤ n → n < hi → lanes f n hn = (node row n).1 ∧ lanes g n hn = (node row n).2

def nodesP (d : Dev nD) (i : grid0.Coords) (row : Row F) (lo hi : ℕ) : sProp 𝕄 := iprop(∃ f g, ⌜Nodes row lo hi f g⌝ ∗ nkP d i f ∗ niP d i g)

theorem nodes_leaf {row : Row F} {t : ℕ} {f : S2032.Idx → Elt F .f32} {g : S2032.Idx → Elt F .i32} (h : Nodes row 63 (63 + t) f g) :
    Nodes row 63 (63 + t + 1) (upd f (63 + t) (sortK (leafK row t))) (upd g (63 + t) (sortV (leafK row t) (leafV t))) := by
  intro n hn hlo hhi
  by_cases e : n = 63 + t
  · subst e
    rw [lanes_upd_self, lanes_upd_self, node_leaf row (by omega), Nat.add_sub_cancel_left]
    exact ⟨rfl, rfl⟩
  · rw [lanes_upd_of_ne _ hn e, lanes_upd_of_ne _ hn e]
    exact h n hn hlo (by omega)

theorem nodes_merge {row : Row F} {t : ℕ} (ht : t < 63) {f : S2032.Idx → Elt F .f32} {g : S2032.Idx → Elt F .i32} (h : Nodes row (63 - t) 127 f g) :
    Nodes row (63 - (t + 1)) 127
      (upd f (62 - t) (merge (node row (2 * (62 - t) + 1)) (node row (2 * (62 - t) + 2))).1)
      (upd g (62 - t) (merge (node row (2 * (62 - t) + 1)) (node row (2 * (62 - t) + 2))).2) := by
  intro n hn hlo hhi
  by_cases e : n = 62 - t
  · subst e
    rw [lanes_upd_self, lanes_upd_self, show node row (62 - t) = merge _ _ from node_merge row (by omega)]
    exact ⟨rfl, rfl⟩
  · rw [lanes_upd_of_ne _ hn e, lanes_upd_of_ne _ hn e]
    exact h n hn (by omega) hhi

theorem rev_nat (x : S16.Idx) : nat (rev x) = 15 - nat x := rfl

variable (d : Dev nD) (i : grid0.Coords)

abbrev aIn : Memref sig .scVector .hbm S20000x1024 .f32 := inM

/-! ## Slot 0 -/

section Slot0
variable (t1 : Fin k0_t1_loop.trips) (h1 : k0_cond1 t1 = 1#1)

abbrev leafBody0 : Fin k0_t2_loop.trips → BitVec 32 → TProg F i (BitVec 32) :=
  k0_t2_body i (Memref.whole main_v0_scv) (Memref.isWhole_whole main_v0_scv) (Memref.whole main_v2_0_scv) (Memref.isWhole_whole main_v2_0_scv) (Memref.whole main_v2_1_scv) (Memref.isWhole_whole main_v2_1_scv)
    (Memref.whole cc0_scratch0) (Memref.isWhole_whole cc0_scratch0) (Memref.whole cc0_scratch1) (Memref.isWhole_whole cc0_scratch1) (Memref.whole cc0_scratch2) (Memref.isWhole_whole cc0_scratch2)
    cc0_scratch3 (Memref.whole cc0_scratch4) (Memref.isWhole_whole cc0_scratch4) (Memref.whole cc0_scratch5) (Memref.isWhole_whole cc0_scratch5) cc0_scoped0 cc0_scoped1 t1 h1

abbrev mergeBody0 : Fin k0_t4_loop.trips → BitVec 32 → TProg F i (BitVec 32) :=
  k0_t4_body i (Memref.whole main_v0_scv) (Memref.isWhole_whole main_v0_scv) (Memref.whole main_v2_0_scv) (Memref.isWhole_whole main_v2_0_scv) (Memref.whole main_v2_1_scv) (Memref.isWhole_whole main_v2_1_scv)
    (Memref.whole cc0_scratch0) (Memref.isWhole_whole cc0_scratch0) (Memref.whole cc0_scratch1) (Memref.isWhole_whole cc0_scratch1) (Memref.whole cc0_scratch2) (Memref.isWhole_whole cc0_scratch2)
    cc0_scratch3 (Memref.whole cc0_scratch4) (Memref.isWhole_whole cc0_scratch4) (Memref.whole cc0_scratch5) (Memref.isWhole_whole cc0_scratch5) cc0_scoped0 cc0_scoped1
    (iota .scVector S16 32 [0] iota_S16_d0_w32_scVector) t1 h1

def chkL1_0 : Chk := ⟨k0_chk1 t1, k0_chk1.dec t1, fun v h => k0_idx1_inb t1 v h h1, fun _ h _ => inb_of h⟩
def chkL2_0 : Chk := ⟨k0_chk2 t1, k0_chk2.dec t1, fun v h => k0_idx2_inb t1 v h h1, fun _ h _ => inb_of h⟩
def chkL3_0 : Chk := ⟨k0_chk3 t1, k0_chk3.dec t1, fun v h => k0_idx3_inb t1 v h h1, fun _ h _ => inb_of h⟩
def chkM0_0 : Chk := ⟨k0_chk4 t1, k0_chk4.dec t1, fun v h => k0_idx4_inb t1 v h h1, fun _ h => ⟨fun _ => inb_of h, fun _ => inb_of h⟩⟩
def chkM1_0 : Chk := ⟨k0_chk5 t1, k0_chk5.dec t1, fun v h => k0_idx6_inb t1 v h h1, fun _ h _ => inb_of h⟩
def chkM2_0 : Chk := ⟨k0_chk6 t1, k0_chk6.dec t1, fun v h => k0_idx7_inb t1 v h h1, fun _ h _ => inb_of h⟩
def chkM3_0 : Chk := ⟨k0_chk7 t1, k0_chk7.dec t1, fun v h => k0_idx8_inb t1 v h h1, fun _ h _ => inb_of h⟩

theorem leafBody0_eq (t : Fin k0_t2_loop.trips) (a : BitVec 32) : leafBody0 (F := F) i t1 h1 t a
    = leafProg i (k0_off3 t) (k0_off3_inb t1 t h1) (k0_off4 t) (k0_off4_inb t1 t h1) (k0_t3_ok t1 h1) k0_pay21
        (chkL1_0 t1 h1) (chkL2_0 t1 h1) (chkL3_0 t1 h1) (k0_pay22 t) (fun v j acc u => k0_pay23 v j acc u) (k0_pay24 t) (k0_pay25 t) k0_pay19 (k0_pay20 t) 0#32 := by
  unfold leafBody0 k0_t2_body leafProg sortProg rankBody
  rfl

theorem mergeBody0_eq (t : Fin k0_t4_loop.trips) (a : BitVec 32) : mergeBody0 (F := F) i t1 h1 t a
    = (mergeProg i (k0_off5 t) (k0_off5_inb t1 t h1) (k0_off6 t) (k0_off6_inb t1 t h1) (chkM0_0 t1 h1) (fun v h => k0_idx5_inb t1 v h h1)
        (k0_pay1 (iota .scVector S16 32 [0] iota_S16_d0_w32_scVector) 0#32 1#32 t) (k0_t5_ok t1 h1) k0_pay5
        (chkM1_0 t1 h1) (chkM2_0 t1 h1) (chkM3_0 t1 h1) (k0_pay6 0#32 1#32 t) (fun v v' j acc u => k0_pay7 v v' j acc u) (k0_pay8 0#32 1#32 t) (k0_pay9 0#32 1#32 t) k0_pay3 k0_pay4 PUnit.unit
        >>= fun _ => pure 0#32) := by
  unfold mergeBody0 k0_t4_body
  rw [k0_part1_eq_skeleton]
  unfold k0_part1_skel mergeProg sortProg rankBody
  rfl

/-- Every leaf of the row. -/
theorem wp_leaves0 {hok : Scf.OK k0_t2_loop.lb k0_t2_loop.ub k0_t2_loop.st} {q : PosShare TreeShare} {fb : S2x1024.Idx → Elt F .f32} {f : S2032.Idx → Elt F .f32} {g : S2032.Idx → Elt F .i32}
    {β : Type} {kk : BitVec 32 → TProg F i β} {Q : β → sProp 𝕄} :
    iprop(bufPt d i (rowSet 0) q fb ∗ nkP d i f ∗ niP d i g)
      ⊢ iprop((∀ acc, (bufPt d i (rowSet 0) q fb ∗ nodesP d i (rowOf 0 fb) 63 127) -∗ tw d i (kk acc) Q)
        -∗ tw d i (Scf.Loop.for k0_t2_loop hok 0#32 (leafBody0 i t1 h1) >>= kk) Q) := by
  have htr : k0_t2_loop.trips = 64 := by decide
  have hbody : ∀ (t : Fin k0_t2_loop.trips) (acc : BitVec 32),
      iprop(bufPt d i (rowSet 0) q fb ∗ nodesP d i (rowOf 0 fb) 63 (63 + t.val))
        ⊢ tw d i (leafBody0 i t1 h1 t acc) (fun _ => iprop(bufPt d i (rowSet 0) q fb ∗ nodesP d i (rowOf 0 fb) 63 (63 + (t.val + 1)))) := by
    intro t acc
    have ht : t.val < 64 := lt_of_lt_of_eq t.isLt htr
    rw [leafBody0_eq]
    unfold nodesP
    iintro ⟨Hb, %f, %g, %hN, Hk, Hi⟩
    iapply (wp_leaf d i (n := 63 + t.val) (by omega) (by rw [k0_off4_eq]; congr 1; omega) (leaf_set (b := 0) (t := t.val) (k0_off3_eq t) _) (leaf_read (b := 0) ht (k0_off3_eq t) _ fb)
      (fun _ => rfl) (fun j x => leaf_idx ⟨t.val, ht⟩ (Fin.cast trips16 j))
      (fun v j acc ha x => by
        have := rank_step (k0_pay19 v) (Fin.cast trips16 j) x (acc x) (ha x)
        rw [← iota_eq] at this
        exact this)
      (fun acc x r hr ha => by have := leaf_at ⟨t.val, ht⟩ ⟨r, hr⟩; rw [← ha] at this; exact this)
      (fun acc x r hr ha => by have := leaf_at ⟨t.val, ht⟩ ⟨r, hr⟩; rw [← ha] at this; exact this)) $$ [Hb Hk Hi]
    · isplitl [Hb]; · iexact Hb
      isplitl [Hk]
      · iexact Hk
      · iexact Hi
    iintro ⟨Hb, Hk, Hi⟩
    isplitl [Hb]; · iexact Hb
    iexists (upd f (63 + t.val) (sortK (leafK (rowOf 0 fb) t.val))), (upd g (63 + t.val) (sortV (leafK (rowOf 0 fb) t.val) (leafV t.val)))
    isplitr
    · ipureintro; exact nodes_leaf hN
    isplitl [Hk]
    · iexact Hk
    have e : k0_pay20 t = leafV t.val := by
      funext x
      have := leaf_val ⟨t.val, ht⟩ ⟨nat x, nat_lt x⟩
      simp only at this
      rw [← iota_eq] at this
      exact this
    rw [e]
    iexact Hi
  have := Scf.wp_for_bind frame (wpE (defs₀ (F := F)) 𝒱₀ (V d (cV i) (jV i)) none) Set.univ k0_t2_loop.lb k0_t2_loop.ub k0_t2_loop.st hok 0#32
    (leafBody0 i t1 h1) (fun t _ => iprop(bufPt d i (rowSet 0) q fb ∗ nodesP d i (rowOf 0 fb) 63 (63 + t))) hbody (kk := kk) (Q := Q)
  iintro ⟨Hb, Hk, Hi⟩ HK
  iapply this $$ [Hb Hk Hi]
  · isplitl [Hb]; · iexact Hb
    unfold nodesP
    iexists f, g
    isplitr
    · ipureintro; intro n hn h h'; omega
    isplitl [Hk]
    · iexact Hk
    · iexact Hi
  rw [show Scf.trips k0_t2_loop.lb k0_t2_loop.ub k0_t2_loop.st = 64 from htr]
  iexact HK

/-- Every merge of the row. -/
theorem wp_merges0 {hok : Scf.OK k0_t4_loop.lb k0_t4_loop.ub k0_t4_loop.st} {row : Row F}
    {β : Type} {kk : BitVec 32 → TProg F i β} {Q : β → sProp 𝕄} :
    nodesP d i row 63 127
      ⊢ iprop((∀ acc, nodesP d i row 0 127 -∗ tw d i (kk acc) Q)
        -∗ tw d i (Scf.Loop.for k0_t4_loop hok 0#32 (mergeBody0 i t1 h1) >>= kk) Q) := by
  have htr : k0_t4_loop.trips = 63 := by decide
  have hbody : ∀ (t : Fin k0_t4_loop.trips) (acc : BitVec 32),
      nodesP d i row (63 - t.val) 127 ⊢ tw d i (mergeBody0 i t1 h1 t acc) (fun _ => nodesP d i row (63 - (t.val + 1)) 127) := by
    intro t acc
    have ht : t.val < 63 := lt_of_lt_of_eq t.isLt htr
    rw [mergeBody0_eq]
    unfold tw
    rw [wp_bind]
    unfold nodesP
    iintro ⟨%f, %g, %hN, Hk, Hi⟩
    iapply (wp_merge d i (n := 62 - t.val) (a := 2 * (62 - t.val) + 1) (b := 2 * (62 - t.val) + 2) (by omega) (by omega) (by omega)
      (by rw [k0_off5_eq]; congr 1; omega) (by rw [k0_off6_eq]; congr 1; omega)
      (fun x => by
        have := merge_rev ⟨t.val, ht⟩ ⟨nat x, nat_lt x⟩
        simp only at this
        rw [← iota_eq] at this
        exact this)
      (A := node row (2 * (62 - t.val) + 1)) (B := node row (2 * (62 - t.val) + 2))
      (hN _ _ (by omega) (by omega)).1 (hN _ _ (by omega) (by omega)).2 (hN _ _ (by omega) (by omega)).1 (hN _ _ (by omega) (by omega)).2 rfl rfl
      (fun _ => rfl) (fun j x => merge_idx ⟨t.val, ht⟩ (Fin.cast trips16 j))
      (fun v v' j acc ha x => by
        have := rank_step (k0_pay3 v v') (Fin.cast trips16 j) x (acc x) (ha x)
        rw [← iota_eq] at this
        exact this)
      (fun acc x r hr ha => by have := merge_at ⟨t.val, ht⟩ ⟨r, hr⟩; rw [← ha] at this; exact this)
      (fun acc x r hr ha => by have := merge_at ⟨t.val, ht⟩ ⟨r, hr⟩; rw [← ha] at this; exact this)) $$ [Hk Hi]
    · isplitl [Hk]
      · iexact Hk
      · iexact Hi
    iintro ⟨Hk, Hi⟩
    iapply (tw_ret d i)
    iexists _, _
    isplitr
    · ipureintro; exact nodes_merge ht hN
    isplitl [Hk]
    · iexact Hk
    · iexact Hi
  have := Scf.wp_for_bind frame (wpE (defs₀ (F := F)) 𝒱₀ (V d (cV i) (jV i)) none) Set.univ k0_t4_loop.lb k0_t4_loop.ub k0_t4_loop.st hok 0#32
    (mergeBody0 i t1 h1) (fun t _ => nodesP d i row (63 - t) 127) hbody (kk := kk) (Q := Q)
  iintro H HK
  iapply this $$ [H]
  · iexact H
  rw [show Scf.trips k0_t4_loop.lb k0_t4_loop.ub k0_t4_loop.st = 63 from htr]
  iexact HK

end Slot0

/-! ## Slot 1 -/

section Slot1
variable (t1 : Fin k0_t1_loop.trips) (h1 : k0_cond3 t1 = 1#1)

abbrev leafBody1 : Fin k0_t6_loop.trips → BitVec 32 → TProg F i (BitVec 32) :=
  k0_t6_body i (Memref.whole main_v0_scv) (Memref.isWhole_whole main_v0_scv) (Memref.whole main_v2_0_scv) (Memref.isWhole_whole main_v2_0_scv) (Memref.whole main_v2_1_scv) (Memref.isWhole_whole main_v2_1_scv)
    (Memref.whole cc0_scratch0) (Memref.isWhole_whole cc0_scratch0) (Memref.whole cc0_scratch1) (Memref.isWhole_whole cc0_scratch1) (Memref.whole cc0_scratch2) (Memref.isWhole_whole cc0_scratch2)
    cc0_scratch3 (Memref.whole cc0_scratch4) (Memref.isWhole_whole cc0_scratch4) (Memref.whole cc0_scratch5) (Memref.isWhole_whole cc0_scratch5) cc0_scoped0 cc0_scoped1 t1 h1

abbrev mergeBody1 : Fin k0_t8_loop.trips → BitVec 32 → TProg F i (BitVec 32) :=
  k0_t8_body i (Memref.whole main_v0_scv) (Memref.isWhole_whole main_v0_scv) (Memref.whole main_v2_0_scv) (Memref.isWhole_whole main_v2_0_scv) (Memref.whole main_v2_1_scv) (Memref.isWhole_whole main_v2_1_scv)
    (Memref.whole cc0_scratch0) (Memref.isWhole_whole cc0_scratch0) (Memref.whole cc0_scratch1) (Memref.isWhole_whole cc0_scratch1) (Memref.whole cc0_scratch2) (Memref.isWhole_whole cc0_scratch2)
    cc0_scratch3 (Memref.whole cc0_scratch4) (Memref.isWhole_whole cc0_scratch4) (Memref.whole cc0_scratch5) (Memref.isWhole_whole cc0_scratch5) cc0_scoped0 cc0_scoped1
    (iota .scVector S16 32 [0] iota_S16_d0_w32_scVector) t1 h1

def chkL1_1 : Chk := ⟨k0_chk11 t1, k0_chk11.dec t1, fun v h => k0_idx12_inb t1 v h h1, fun _ h _ => inb_of h⟩
def chkL2_1 : Chk := ⟨k0_chk12 t1, k0_chk12.dec t1, fun v h => k0_idx13_inb t1 v h h1, fun _ h _ => inb_of h⟩
def chkL3_1 : Chk := ⟨k0_chk13 t1, k0_chk13.dec t1, fun v h => k0_idx14_inb t1 v h h1, fun _ h _ => inb_of h⟩
def chkM0_1 : Chk := ⟨k0_chk14 t1, k0_chk14.dec t1, fun v h => k0_idx15_inb t1 v h h1, fun _ h => ⟨fun _ => inb_of h, fun _ => inb_of h⟩⟩
def chkM1_1 : Chk := ⟨k0_chk15 t1, k0_chk15.dec t1, fun v h => k0_idx17_inb t1 v h h1, fun _ h _ => inb_of h⟩
def chkM2_1 : Chk := ⟨k0_chk16 t1, k0_chk16.dec t1, fun v h => k0_idx18_inb t1 v h h1, fun _ h _ => inb_of h⟩
def chkM3_1 : Chk := ⟨k0_chk17 t1, k0_chk17.dec t1, fun v h => k0_idx19_inb t1 v h h1, fun _ h _ => inb_of h⟩

theorem leafBody1_eq (t : Fin k0_t6_loop.trips) (a : BitVec 32) : leafBody1 (F := F) i t1 h1 t a
    = leafProg i (k0_off9 t) (k0_off9_inb t1 t h1) (k0_off10 t) (k0_off10_inb t1 t h1) (k0_t7_ok t1 h1) k0_pay31
        (chkL1_1 t1 h1) (chkL2_1 t1 h1) (chkL3_1 t1 h1) (k0_pay32 t) (fun v j acc u => k0_pay33 v j acc u) (k0_pay34 t) (k0_pay35 t) k0_pay29 (k0_pay30 t) 0#32 := by
  unfold leafBody1 k0_t6_body leafProg sortProg rankBody
  rfl

theorem mergeBody1_eq (t : Fin k0_t8_loop.trips) (a : BitVec 32) : mergeBody1 (F := F) i t1 h1 t a
    = (mergeProg i (k0_off11 t) (k0_off11_inb t1 t h1) (k0_off12 t) (k0_off12_inb t1 t h1) (chkM0_1 t1 h1) (fun v h => k0_idx16_inb t1 v h h1)
        (k0_pay10 (iota .scVector S16 32 [0] iota_S16_d0_w32_scVector) 0#32 1#32 t) (k0_t9_ok t1 h1) k0_pay14
        (chkM1_1 t1 h1) (chkM2_1 t1 h1) (chkM3_1 t1 h1) (k0_pay15 0#32 1#32 t) (fun v v' j acc u => k0_pay16 v v' j acc u) (k0_pay17 0#32 1#32 t) (k0_pay18 0#32 1#32 t) k0_pay12 k0_pay13 PUnit.unit
        >>= fun _ => pure 0#32) := by
  unfold mergeBody1 k0_t8_body
  rw [k0_part2_eq_skeleton]
  unfold k0_part2_skel mergeProg sortProg rankBody
  rfl

/-- Every leaf of the row. -/
theorem wp_leaves1 {hok : Scf.OK k0_t6_loop.lb k0_t6_loop.ub k0_t6_loop.st} {q : PosShare TreeShare} {fb : S2x1024.Idx → Elt F .f32} {f : S2032.Idx → Elt F .f32} {g : S2032.Idx → Elt F .i32}
    {β : Type} {kk : BitVec 32 → TProg F i β} {Q : β → sProp 𝕄} :
    iprop(bufPt d i (rowSet 1) q fb ∗ nkP d i f ∗ niP d i g)
      ⊢ iprop((∀ acc, (bufPt d i (rowSet 1) q fb ∗ nodesP d i (rowOf 1 fb) 63 127) -∗ tw d i (kk acc) Q)
        -∗ tw d i (Scf.Loop.for k0_t6_loop hok 0#32 (leafBody1 i t1 h1) >>= kk) Q) := by
  have htr : k0_t6_loop.trips = 64 := by decide
  have hbody : ∀ (t : Fin k0_t6_loop.trips) (acc : BitVec 32),
      iprop(bufPt d i (rowSet 1) q fb ∗ nodesP d i (rowOf 1 fb) 63 (63 + t.val))
        ⊢ tw d i (leafBody1 i t1 h1 t acc) (fun _ => iprop(bufPt d i (rowSet 1) q fb ∗ nodesP d i (rowOf 1 fb) 63 (63 + (t.val + 1)))) := by
    intro t acc
    have ht : t.val < 64 := lt_of_lt_of_eq t.isLt htr
    rw [leafBody1_eq]
    unfold nodesP
    iintro ⟨Hb, %f, %g, %hN, Hk, Hi⟩
    iapply (wp_leaf d i (n := 63 + t.val) (by omega) (by rw [k0_off10_eq]; congr 1; omega) (leaf_set (b := 1) (t := t.val) (k0_off9_eq t) _) (leaf_read (b := 1) ht (k0_off9_eq t) _ fb)
      (fun _ => rfl) (fun j x => leaf_idx ⟨t.val, ht⟩ (Fin.cast trips16 j))
      (fun v j acc ha x => by
        have := rank_step (k0_pay29 v) (Fin.cast trips16 j) x (acc x) (ha x)
        rw [← iota_eq] at this
        exact this)
      (fun acc x r hr ha => by have := leaf_at ⟨t.val, ht⟩ ⟨r, hr⟩; rw [← ha] at this; exact this)
      (fun acc x r hr ha => by have := leaf_at ⟨t.val, ht⟩ ⟨r, hr⟩; rw [← ha] at this; exact this)) $$ [Hb Hk Hi]
    · isplitl [Hb]; · iexact Hb
      isplitl [Hk]
      · iexact Hk
      · iexact Hi
    iintro ⟨Hb, Hk, Hi⟩
    isplitl [Hb]; · iexact Hb
    iexists (upd f (63 + t.val) (sortK (leafK (rowOf 1 fb) t.val))), (upd g (63 + t.val) (sortV (leafK (rowOf 1 fb) t.val) (leafV t.val)))
    isplitr
    · ipureintro; exact nodes_leaf hN
    isplitl [Hk]
    · iexact Hk
    have e : k0_pay30 t = leafV t.val := by
      funext x
      have := leaf_val ⟨t.val, ht⟩ ⟨nat x, nat_lt x⟩
      simp only at this
      rw [← iota_eq] at this
      exact this
    rw [e]
    iexact Hi
  have := Scf.wp_for_bind frame (wpE (defs₀ (F := F)) 𝒱₀ (V d (cV i) (jV i)) none) Set.univ k0_t6_loop.lb k0_t6_loop.ub k0_t6_loop.st hok 0#32
    (leafBody1 i t1 h1) (fun t _ => iprop(bufPt d i (rowSet 1) q fb ∗ nodesP d i (rowOf 1 fb) 63 (63 + t))) hbody (kk := kk) (Q := Q)
  iintro ⟨Hb, Hk, Hi⟩ HK
  iapply this $$ [Hb Hk Hi]
  · isplitl [Hb]; · iexact Hb
    unfold nodesP
    iexists f, g
    isplitr
    · ipureintro; intro n hn h h'; omega
    isplitl [Hk]
    · iexact Hk
    · iexact Hi
  rw [show Scf.trips k0_t6_loop.lb k0_t6_loop.ub k0_t6_loop.st = 64 from htr]
  iexact HK

/-- Every merge of the row. -/
theorem wp_merges1 {hok : Scf.OK k0_t8_loop.lb k0_t8_loop.ub k0_t8_loop.st} {row : Row F}
    {β : Type} {kk : BitVec 32 → TProg F i β} {Q : β → sProp 𝕄} :
    nodesP d i row 63 127
      ⊢ iprop((∀ acc, nodesP d i row 0 127 -∗ tw d i (kk acc) Q)
        -∗ tw d i (Scf.Loop.for k0_t8_loop hok 0#32 (mergeBody1 i t1 h1) >>= kk) Q) := by
  have htr : k0_t8_loop.trips = 63 := by decide
  have hbody : ∀ (t : Fin k0_t8_loop.trips) (acc : BitVec 32),
      nodesP d i row (63 - t.val) 127 ⊢ tw d i (mergeBody1 i t1 h1 t acc) (fun _ => nodesP d i row (63 - (t.val + 1)) 127) := by
    intro t acc
    have ht : t.val < 63 := lt_of_lt_of_eq t.isLt htr
    rw [mergeBody1_eq]
    unfold tw
    rw [wp_bind]
    unfold nodesP
    iintro ⟨%f, %g, %hN, Hk, Hi⟩
    iapply (wp_merge d i (n := 62 - t.val) (a := 2 * (62 - t.val) + 1) (b := 2 * (62 - t.val) + 2) (by omega) (by omega) (by omega)
      (by rw [k0_off11_eq]; congr 1; omega) (by rw [k0_off12_eq]; congr 1; omega)
      (fun x => by
        have := merge_rev ⟨t.val, ht⟩ ⟨nat x, nat_lt x⟩
        simp only at this
        rw [← iota_eq] at this
        exact this)
      (A := node row (2 * (62 - t.val) + 1)) (B := node row (2 * (62 - t.val) + 2))
      (hN _ _ (by omega) (by omega)).1 (hN _ _ (by omega) (by omega)).2 (hN _ _ (by omega) (by omega)).1 (hN _ _ (by omega) (by omega)).2 rfl rfl
      (fun _ => rfl) (fun j x => merge_idx ⟨t.val, ht⟩ (Fin.cast trips16 j))
      (fun v v' j acc ha x => by
        have := rank_step (k0_pay12 v v') (Fin.cast trips16 j) x (acc x) (ha x)
        rw [← iota_eq] at this
        exact this)
      (fun acc x r hr ha => by have := merge_at ⟨t.val, ht⟩ ⟨r, hr⟩; rw [← ha] at this; exact this)
      (fun acc x r hr ha => by have := merge_at ⟨t.val, ht⟩ ⟨r, hr⟩; rw [← ha] at this; exact this)) $$ [Hk Hi]
    · isplitl [Hk]
      · iexact Hk
      · iexact Hi
    iintro ⟨Hk, Hi⟩
    iapply (tw_ret d i)
    iexists _, _
    isplitr
    · ipureintro; exact nodes_merge ht hN
    isplitl [Hk]
    · iexact Hk
    · iexact Hi
  have := Scf.wp_for_bind frame (wpE (defs₀ (F := F)) 𝒱₀ (V d (cV i) (jV i)) none) Set.univ k0_t8_loop.lb k0_t8_loop.ub k0_t8_loop.st hok 0#32
    (mergeBody1 i t1 h1) (fun t _ => nodesP d i row (63 - t) 127) hbody (kk := kk) (Q := Q)
  iintro H HK
  iapply this $$ [H]
  · iexact H
  rw [show Scf.trips k0_t8_loop.lb k0_t8_loop.ub k0_t8_loop.st = 63 from htr]
  iexact HK

end Slot1

end Cert.Proof.Tile

end
-- ==== Proof.Copy.lean ====
/-
  The row slots of a tile: a row copied in while both slots are read. A slot being written is in write mode; the copy
  holds one half of it, the tile keeps the other half, through which it may read the whole buffer.
-/
module

public import proofs.«01_k».proof.Proof.Nodes

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

variable [FloatOps F] (d : Dev nD) (i : grid0.Coords)

/-- The row of the input a tile reads at its step `r`. -/
def rowN (r : ℕ) : ℕ := 1250 * (i 1).val + 625 * (i 0).val + r

/-- An element of the input by its row and column. -/
def inIx (n : ℕ) (j : Fin 1024) : S20000x1024.Idx := fun a => match a with
  | 0 => ⟨n % 20000, Nat.mod_lt _ (by decide)⟩
  | 1 => j

theorem inIx_ext {y : S20000x1024.Idx} {n : ℕ} {j : Fin 1024} (h0 : (y 0).val = n) (h1 : (y 1).val = j.val) : y = inIx n j := by
  funext a
  match a with
  | 0 =>
    refine Fin.ext ?_
    show (y 0).val = n % 20000
    have : (y 0).val < 20000 := (y 0).isLt
    omega
  | 1 => exact Fin.ext h1

/-- Row `n` of the input's contents. -/
def inRow (n : ℕ) (fin : S20000x1024.Idx → Elt F .f32) : Row F := fun j => fin (inIx n j)

/-- The elements of row `n` of the input. -/
def rowIn (n : ℕ) : Finset S20000x1024.Idx := Finset.univ.filter fun y => (y 0).val = n
/-- The elements of the rows of tile `i`. -/
def tileIn : Finset S20000x1024.Idx := Finset.univ.filter fun y => rowN i 0 ≤ (y 0).val ∧ (y 0).val < rowN i 625

theorem rowIn_subset {r : ℕ} (hr : r < 625) : rowIn (rowN i r) ⊆ tileIn i := by
  intro y hy
  have h : (y 0).val = 1250 * (i 1).val + 625 * (i 0).val + r := (Finset.mem_filter.mp hy).2
  refine Finset.mem_filter.mpr ⟨Finset.mem_univ _, ?_⟩
  unfold rowN
  omega

/-- What the row buffer is to hold once row `n` is in. -/
def tgt (n : ℕ) (fin : S20000x1024.Idx → Elt F .f32) : S2x1024.Idx → Elt F .f32 := fun y => fin (inIx n (y 1))

theorem rowOf_tgt (b : Fin 2) (n : ℕ) (fin : S20000x1024.Idx → Elt F .f32) : rowOf b (tgt n fin) = inRow n fin := rfl

abbrev srcM (off : Fin 2 → ℕ) (h : ∀ a, off a + S1x1024.size a ≤ S20000x1024.size a) : Memref sig .scVector .hbm S1x1024 .f32 :=
  inM.slice (Rect.unit (s := S20000x1024) off S1x1024.size h) (fun _ => rfl)
abbrev dstM (off : Fin 2 → ℕ) (h : ∀ a, off a + S1x1024.size a ≤ S2x1024.size a) : Memref sig .scVector .vmem S1x1024 .f32 :=
  bufM.slice (Rect.unit (s := S2x1024) off S1x1024.size h) (fun _ => rfl)

theorem src_set {off : Fin 2 → ℕ} {h : ∀ a, off a + S1x1024.size a ≤ S20000x1024.size a} {n : ℕ} (ho : off = ![n, 0]) :
    (srcM off h).view.set = rowIn n := by
  subst ho
  refine (View.set_slice_whole _ _).trans ?_
  ext y
  rw [Rect.mem_set_unit]
  have h0 := (y 0).isLt
  have h1 : (y 1).val < 1024 := (y 1).isLt
  simp only [rowIn, Finset.mem_filter, Finset.mem_univ, true_and]
  constructor
  · intro H
    have a0 : n ≤ (y 0).val ∧ (y 0).val < n + 1 := H 0
    omega
  · intro H a
    match a with
    | 0 => show n ≤ (y 0).val ∧ (y 0).val < n + 1; omega
    | 1 => show 0 ≤ (y 1).val ∧ (y 1).val < 0 + 1024; omega

theorem dst_set {off : Fin 2 → ℕ} {h : ∀ a, off a + S1x1024.size a ≤ S2x1024.size a} {b : Fin 2} (ho : off = ![b.val, 0]) :
    (dstM off h).view.set = rowSet b := by
  subst ho
  refine (View.set_slice_whole _ _).trans ?_
  ext y
  rw [Rect.mem_set_unit, mem_rowSet]
  have h1 : (y 1).val < 1024 := (y 1).isLt
  constructor
  · intro H
    have a0 : b.val ≤ (y 0).val ∧ (y 0).val < b.val + 1 := H 0
    omega
  · intro H a
    match a with
    | 0 => show b.val ≤ (y 0).val ∧ (y 0).val < b.val + 1; omega
    | 1 => show 0 ≤ (y 1).val ∧ (y 1).val < 0 + 1024; omega

theorem copy_admitted {off : Fin 2 → ℕ} {h : ∀ a, off a + S1x1024.size a ≤ S20000x1024.size a} {n : ℕ} (ho : off = ![n, 0])
    {offd : Fin 2 → ℕ} {hd : ∀ a, offd a + S1x1024.size a ≤ S2x1024.size a} {b : ℕ} (hod : offd = ![b, 0]) (fin : S20000x1024.Idx → Elt F .f32) :
    (dstM offd hd).view.Admitted (Elt F) (fun y => some (tgt n fin y)) ((srcM off h).view.read (Elt F) fin) Finset.univ := by
  subst ho hod
  intro x _ u hu
  have e : some (tgt n fin ((Rect.unit (s := S2x1024) ![b, 0] S1x1024.size hd).emb x)) = some u := hu
  rw [← Option.some.inj e]
  show fin ((Rect.unit (s := S20000x1024) ![n, 0] S1x1024.size h).emb x) = fin (inIx n ((Rect.unit (s := S2x1024) ![b, 0] S1x1024.size hd).emb x 1))
  congr 1
  refine inIx_ext ?_ ?_
  · show n + 1 * (x 0).val = n
    have : (x 0).val < 1 := (x 0).isLt
    omega
  · rfl

/-! ## Write mode -/

abbrev wb (S : Finset S2x1024.Idx) (q : PosShare TreeShare) (f : S2x1024.Idx → Elt F .f32) (g : S2x1024.Idx → Option (Elt F .f32)) (W : Finset S2x1024.Idx) : sProp 𝕄 :=
  willBeTo (Ix := HIx 1) (Name := ℕ) (Lvl := ℕ) (EW (F := F)) ((V d (cV i) (jV i)).loc cc0_scratch0) S q f g W

theorem wb_halves {S W₁ W₂ : Finset S2x1024.Idx} {f : S2x1024.Idx → Elt F .f32} {g : S2x1024.Idx → Option (Elt F .f32)} :
    wb d i S fullShare f g (W₁ ∪ W₂) ⊣⊢ iprop(wb d i S fullShare.left f g W₁ ∗ wb d i S fullShare.right f g W₂) := by
  have e : wb d i S fullShare f g (W₁ ∪ W₂)
      = BI.Region.held (wmEmb (HIx 1) (EW (F := F))).toEmb ((V d (cV i) (jV i)).loc cc0_scratch0) S fullShare
        (fun y => Idealize.SL.RA.Region.WB.mk (f y) (g y) (decide (y ∈ W₁) || decide (y ∈ W₂))) := by
    refine BI.Region.held_congr fun y _ => ?_
    congr 1
    rw [← Bool.decide_or]
    exact decide_eq_decide.mpr Finset.mem_union
  rw [e]
  exact BI.Region.held_share (PosShare.mem_left_op_right _) fun y _ => Idealize.SL.RA.Region.WB.mem_mk_op_mk _ _ _ _

/-- The input's elements in `S`, at share `q`. -/
abbrev inPt (S : Finset S20000x1024.Idx) (q : PosShare TreeShare) (fin : S20000x1024.Idx → Elt F .f32) : sProp 𝕄 :=
  (V d (cV i) (jV i)).loc main_v0_scv ↦[S]{q} fin

theorem inb0 : ∀ a, (![0, 0] : Fin 2 → ℕ) a + S1x1024.size a ≤ S2x1024.size a := by decide

/-- The bytes one row copy signals. -/
abbrev rowN4 : ℕ := (dstM ![0, 0] inb0).view.dmaCredit

/-- Row `n` is on its way to slot `b`, signalled on `sm`. -/
def Fly (b : Fin 2) (sm : DmaSem sig) (n : ℕ) (q : PosShare TreeShare) (fin : S20000x1024.Idx → Elt F .f32) : sProp 𝕄 :=
  iprop(∃ f : S2x1024.Idx → Elt F .f32,
    Transfers.Flight (EC (F := F)) (V d (cV i) (jV i)) (.dma sm) (default : HIx 1) rowN4
      iprop(wb d i (rowSet b) fullShare.left f (fun y => some (tgt n fin y)) (∅ ∪ rowSet b) ∗ inPt d i (rowIn n) q fin)
    ∗ wb d i (rowSet b) fullShare.right f (fun y => some (tgt n fin y)) ∅ ∗ inPt d i (tileIn i \ rowIn n) q fin)

theorem wp_fly {α : Type} {Q : α → sProp 𝕄} {offs : Fin 2 → ℕ} {hs : ∀ a, offs a + S1x1024.size a ≤ S20000x1024.size a} {r : ℕ} (hr : r < 625)
    (hos : offs = ![rowN i r, 0]) {offd : Fin 2 → ℕ} {hd : ∀ a, offd a + S1x1024.size a ≤ S2x1024.size a} {b : Fin 2} (hod : offd = ![b.val, 0])
    {sm : DmaSem sig} {hsrc : (srcM offs hs).view.WordExact} {hdst : (dstM offd hd).view.WordExact}
    {hsem : DmaTarget.Typed (nD := nD) .hbm (.dma sm) (DmaTarget.here (p := .scVector ((i 0).castLE hcore0) ((i 1).castLE hsub0)) (dstM offd hd))}
    {k : PUnit → TProg F i α} {q : PosShare TreeShare} {fin : S20000x1024.Idx → Elt F .f32} {f : S2x1024.Idx → Elt F .f32} :
    iprop(wmI ∗ bufPt d i (rowSet b) fullShare f ∗ inPt d i (tileIn i) q fin ∗ semVal (V d (cV i) (jV i), .dma sm) 0)
      ⊢ iprop((Fly d i b sm (rowN i r) q fin -∗ tw d i (k ⟨⟩) Q)
        -∗ tw d i (.op (.enqueueDma (srcM offs hs) (.here (dstM offd hd)) (.dma sm) hsrc hdst hsem) k) Q) := by
  unfold wmI
  iintro ⟨⟨%ι, #Hwm⟩, Hf, Hin, Hv⟩ Hk
  ihave Hin2 := (pointsTo_split_subset (rowIn_subset i hr)).1 $$ Hin
  icases Hin2 with ⟨Hrow, Hrest⟩
  imod (pointsTo_castIn (ℓ := (V d (cV i) (jV i)).loc cc0_scratch0) (I := rowSet b) (f := f) (ιwm := ι) (E := Set.univ) (emb := EW (F := F)) (fun y => some (tgt (rowN i r) fin y))) $$ [Hf] with Hw
  · isplitr; · iexact Hwm
    iexact Hf
  ihave Hw2 := (Entails.of_eq (show wb d i (rowSet b) fullShare f (fun y => some (tgt (rowN i r) fin y)) ∅
    = wb d i (rowSet b) fullShare f (fun y => some (tgt (rowN i r) fin y)) (∅ ∪ ∅) by rw [Finset.empty_union])) $$ Hw
  ihave Hw3 := (wb_halves d i).1 $$ Hw2
  icases Hw3 with ⟨Hl, Hr⟩
  have hN0 : 0 < rowN4 := by decide
  imod (Transfers.flight_alloc (EC (F := F)) hN0
      iprop(wb d i (rowSet b) fullShare.left f (fun y => some (tgt (rowN i r) fin y)) (∅ ∪ rowSet b) ∗ inPt d i (rowIn (rowN i r)) q fin)
      (g := (V d (cV i) (jV i), SemLoc.dma sm))) $$ Hv with ⟨%γ, %δ, %κ, #Hinv, Hγ, Hδ⟩
  have hu := willBeTo_writeUpdate (Ix := HIx 1) (Name := ℕ) (Lvl := ℕ) (emb := EW (F := F)) (ιwm := ι) (V d (cV i) (jV i)) (v := (dstM offd hd).view)
    (w := (srcM offs hs).view.read (Elt F) fin) (S := rowSet b) (q := fullShare.left) (f := f) (g := fun y => some (tgt (rowN i r) fin y)) (W := ∅)
    (by rw [dst_set hod]) (copy_admitted hos hod fin)
  rw [dst_set hod] at hu
  iapply (wp_enqueueDma 𝒱₀ (V d (cV i) (jV i)) none Set.univ (default : HIx 1) rowN4 (q := q) (fs := fin)
    (R := wb d i (rowSet b) fullShare.left f (fun y => some (tgt (rowN i r) fin y)) (∅ ∪ rowSet b)) rfl) $$ [Hrow Hl] [Hγ]
  · isplitl [Hrow]
    · rw [src_set hos]; iexact Hrow
    · iapply hu
      isplitr; · iexact Hwm
      iexact Hl
  · rw [src_set hos]
    iapply (Transfers.flight_creditUpdate (EC (F := F)) (δ := δ))
    isplitr; · iexact Hinv
    iexact Hγ
  iintro Hcred
  iapply Hk
  unfold Fly
  iexists f
  isplitr [Hr Hrest]
  · iapply (Transfers.flight_intro (EC (F := F)) (V d (cV i) (jV i)) (κ := κ))
    isplitr; · iexact Hinv
    isplitl [Hδ] <;> iassumption
  isplitl [Hr]; · iexact Hr
  iexact Hrest

theorem bufPt_piecewise (S W : Finset S2x1024.Idx) (h : S ⊆ W) (g f : S2x1024.Idx → Elt F .f32) :
    bufPt d i S fullShare (W.piecewise g f) ⊢ bufPt d i S fullShare g :=
  Entails.of_eq (pointsTo_congr fun y hy => Finset.piecewise_eq_of_mem _ _ _ (h hy))

theorem bufPt_piecewise_self (S W : Finset S2x1024.Idx) (g : S2x1024.Idx → Elt F .f32) :
    bufPt d i S fullShare (W.piecewise g g) ⊢ bufPt d i S fullShare g :=
  Entails.of_eq (pointsTo_congr fun y _ => by simp [Finset.piecewise])

theorem wp_land {α : Type} {Q : α → sProp 𝕄} {r : ℕ} (hr : r < 625) {offs : Fin 2 → ℕ} {hs : ∀ a, offs a + S1x1024.size a ≤ S20000x1024.size a}
    {offd : Fin 2 → ℕ} {hd : ∀ a, offd a + S1x1024.size a ≤ S2x1024.size a} {b : Fin 2}
    {sm : DmaSem sig} {hsrc : (srcM offs hs).view.WordExact} {hdst : (dstM offd hd).view.WordExact}
    {k : PUnit → TProg F i α} {q : PosShare TreeShare} {fin : S20000x1024.Idx → Elt F .f32}
    {O : CellTallies nD τ sig (HIx 1)} {W : Waits sig (HIx 1)} :
    iprop(wmI ∗ Fly d i b sm (rowN i r) q fin ∗ owes (V d (cV i) (jV i)) O W ∗ MayWait (V d (cV i) (jV i)) (.dma sm) (default : HIx 1) O)
      ⊢ iprop((iprop(bufPt d i (rowSet b) fullShare (tgt (rowN i r) fin) ∗ inPt d i (tileIn i) q fin ∗ semVal (V d (cV i) (jV i), .dma sm) 0
            ∗ owes (V d (cV i) (jV i)) O (insert (SemLoc.dma sm, (default : HIx 1)) W)) -∗ tw d i (k ⟨⟩) Q)
        -∗ tw d i (.op (.waitDma2 sm (srcM offs hs) (dstM offd hd) hsrc hdst) k) Q) := by
  unfold Fly wmI
  iintro ⟨⟨%ι, #Hwm⟩, ⟨%f, Hfl, Hr, Hrest⟩, HO, Hmw⟩ Hk
  iapply (Transfers.wp_waitLocalO (EC (F := F)) 𝒱₀ (V d (cV i) (jV i)) none (default : HIx 1) (show (dstM offd hd).view.dmaCredit = rowN4 from rfl)) $$ [Hfl HO Hmw]
  · isplitl [Hfl]; · iexact Hfl
    isplitl [HO]; · iexact HO
    iexact Hmw
  iintro ⟨⟨Hl, Hrow⟩, Hv, HO⟩
  ihave Hw := (wb_halves d i).2 $$ [Hl Hr]
  · isplitl [Hl]; · iexact Hl
    iexact Hr
  imod (willBeTo_castOut_some (ιwm := ι) (E := Set.univ) (emb := EW (F := F))) $$ [Hw] with Hf
  · isplitr; · iexact Hwm
    iexact Hw
  iapply Hk
  isplitl [Hf]
  · iapply (bufPt_piecewise d i (rowSet b) (∅ ∪ rowSet b ∪ ∅) (by simp) (tgt (rowN i r) fin) f)
    iexact Hf
  isplitl [Hrow Hrest]
  · iapply (pointsTo_split_subset (rowIn_subset i hr)).2
    isplitl [Hrow]; · iexact Hrow
    iexact Hrest
  isplitl [Hv]; · iexact Hv
  iexact HO

/-- A row gathered from one slot while the other is in write mode. -/
theorem wp_gather {α : Type} {Q : α → sProp 𝕄} {b b' : Fin 2} (hb : b' ≠ b) {idxs : Fin S2x1024.rank → IVec S16 32}
    {hidx : ∀ a x, (idxs a x).toNat < S2x1024.size a} {hl : (bufM).view.Loads} {k : Vec F S16 .f32 → TProg F i α} {fb f : S2x1024.Idx → Elt F .f32}
    {g : S2x1024.Idx → Option (Elt F .f32)} {W : Finset S2x1024.Idx} (h0 : ∀ x, (idxs 0 x).toNat = b.val) :
    iprop(wmI ∗ bufPt d i (rowSet b) fullShare fb ∗ wb d i (rowSet b') fullShare.right f g W)
      ⊢ iprop((iprop(bufPt d i (rowSet b) fullShare fb ∗ wb d i (rowSet b') fullShare.right f g W)
          -∗ tw d i (k (fun x => rowOf b fb ⟨(idxs 1 x).toNat, hidx 1 x⟩)) Q)
        -∗ tw d i (SparseCore.vectorLoadIdx bufM idxs hidx hl >>= k) Q) := by
  classical
  unfold wmI
  iintro ⟨⟨%ι, #Hwm⟩, Hf, Ho⟩ Hk
  imod (pointsTo_castIn (ℓ := (V d (cV i) (jV i)).loc cc0_scratch0) (I := rowSet b) (f := fb) (ιwm := ι) (E := Set.univ) (emb := EW (F := F)) (fun y => some (fb y))) $$ [Hf] with Hw
  · isplitr; · iexact Hwm
    iexact Hf
  ihave Hw2 := (Entails.of_eq (show wb d i (rowSet b) fullShare fb (fun y => some (fb y)) ∅
    = wb d i (rowSet b) fullShare fb (fun y => some (fb y)) (∅ ∪ ∅) by rw [Finset.empty_union])) $$ Hw
  ihave Hw3 := (wb_halves d i).1 $$ Hw2
  icases Hw3 with ⟨Hl, Hr⟩
  have hdis : Disjoint (rowSet b) (rowSet b') := by
    rw [Finset.disjoint_left]
    intro y h1 h2
    rw [mem_rowSet] at h1 h2
    exact hb (Fin.ext (h2.symm.trans h1))
  have hne : ∀ y ∈ rowSet b', y ∉ rowSet b := fun y h1 h2 => Finset.disjoint_left.mp hdis h2 h1
  let ff : S2x1024.Idx → Elt F .f32 := (rowSet b).piecewise fb f
  let gg : S2x1024.Idx → Option (Elt F .f32) := (rowSet b).piecewise (fun y => some (fb y)) g
  let WW : Finset S2x1024.Idx := W \ rowSet b
  have e1 : wb d i (rowSet b) fullShare.right fb (fun y => some (fb y)) ∅ = wb d i (rowSet b) fullShare.right ff gg WW :=
    BI.Region.willBe_congr (fun y hy => (Finset.piecewise_eq_of_mem (rowSet b) fb f hy).symm)
      (fun y hy => (Finset.piecewise_eq_of_mem (rowSet b) (fun y => some (fb y)) g hy).symm) (fun y hy => by simp [WW, hy])
  have e2 : wb d i (rowSet b') fullShare.right f g W = wb d i (rowSet b') fullShare.right ff gg WW :=
    BI.Region.willBe_congr (fun y hy => (Finset.piecewise_eq_of_notMem (rowSet b) fb f (hne y hy)).symm)
      (fun y hy => (Finset.piecewise_eq_of_notMem (rowSet b) (fun y => some (fb y)) g (hne y hy)).symm) (fun y hy => by simp [WW, hne y hy])
  have eu : wb d i (rowSet b ∪ rowSet b') fullShare.right ff gg WW
      ⊣⊢ iprop(wb d i (rowSet b) fullShare.right ff gg WW ∗ wb d i (rowSet b') fullShare.right ff gg WW) := BI.Region.held_union hdis
  ihave Hr2 := (Entails.of_eq e1) $$ Hr
  ihave Ho2 := (Entails.of_eq e2) $$ Ho
  ihave Hu := eu.2 $$ [Hr2 Ho2]
  · isplitl [Hr2] <;> iassumption
  iapply (Entails.of_eq (show tw d i (.op (.load bufM (.whole S2x1024) (View.loadsAt_whole hl)) fun f' => k (loadIdx f' idxs hidx)) Q
    = tw d i (SparseCore.vectorLoadIdx bufM idxs hidx hl >>= k) Q from rfl))
  have hall : (bufM).view.setOn (LoadRect.whole S2x1024).set ⊆ rowSet b ∪ rowSet b' := by
    intro y _
    have hy : (y 0).val < 2 := (y 0).isLt
    have h1 := b.isLt
    have h2 := b'.isLt
    have h3 : b'.val ≠ b.val := fun h => hb (Fin.ext h)
    rw [Finset.mem_union, mem_rowSet, mem_rowSet]
    omega
  iapply (wp_load_willBeTo (ιwm := ι) (emb := EW (F := F)) 𝒱₀ (V d (cV i) (jV i)) none Set.univ (m := bufM) (S := rowSet b ∪ rowSet b') (q := fullShare.right) (f := ff) (g := gg) (W := WW) hall) $$ [Hu]
  · isplitr; · iexact Hwm
    iexact Hu
  iintro %cur %W' %hcur Hu
  ihave Hu2 := eu.1 $$ Hu
  icases Hu2 with ⟨Hr, Ho⟩
  ihave Hr2 := (Entails.of_eq e1.symm) $$ Hr
  ihave Ho2 := (Entails.of_eq e2.symm) $$ Ho
  ihave Hw := (wb_halves d i).2 $$ [Hl Hr2]
  · isplitl [Hl] <;> iassumption
  imod (willBeTo_castOut_some (ιwm := ι) (E := Set.univ) (emb := EW (F := F))) $$ [Hw] with Hf
  · isplitr; · iexact Hwm
    iexact Hw
  have hval : loadIdx (bufM.view.readAt (Elt F) (LoadRect.whole S2x1024) cur) idxs hidx = fun x => rowOf b fb ⟨(idxs 1 x).toNat, hidx 1 x⟩ := by
    funext x
    have hy : idxAt idxs hidx x = bufIx b ⟨(idxs 1 x).toNat, hidx 1 x⟩ := bufIx_ext (h0 x) rfl
    have hm : bufIx b ⟨(idxs 1 x).toNat, hidx 1 x⟩ ∈ rowSet b := mem_rowSet.mpr rfl
    have hc := hcur.2 _ (Finset.mem_union_left _ hm)
    have hcc : cur (bufIx b ⟨(idxs 1 x).toNat, hidx 1 x⟩) = fb (bufIx b ⟨(idxs 1 x).toNat, hidx 1 x⟩) := by
      by_cases hw : bufIx b ⟨(idxs 1 x).toNat, hidx 1 x⟩ ∈ W'
      · exact hc.2 hw _ (Finset.piecewise_eq_of_mem (rowSet b) (fun y => some (fb y)) g hm)
      · exact (hc.1 hw).trans (Finset.piecewise_eq_of_mem (rowSet b) fb f hm)
    show (bufM.view.readAt (Elt F) (LoadRect.whole S2x1024) cur) (idxAt idxs hidx x) = _
    rw [show bufM.view.readAt (Elt F) (LoadRect.whole S2x1024) cur = cur from Memref.readAt_whole (Elt F) cc0_scratch0 cur, hy, hcc]
    rfl
  iapply (Entails.of_eq (show tw d i (k (fun x => rowOf b fb ⟨(idxs 1 x).toNat, hidx 1 x⟩)) Q
    = tw d i (k (loadIdx (bufM.view.readAt (Elt F) (LoadRect.whole S2x1024) cur) idxs hidx)) Q by rw [hval]))
  iapply Hk
  isplitl [Hf]
  · iapply (bufPt_piecewise_self d i (rowSet b) (∅ ∪ ∅) fb)
    iexact Hf
  iexact Ho2

/-! ## A slot between its copies -/

/-- Slot `b` before the step that reads row `r`: the row is on its way, or there is no such row and the slot is idle. -/
def Slot (b : Fin 2) (sm : DmaSem sig) (r : ℕ) (q : PosShare TreeShare) (fin : S20000x1024.Idx → Elt F .f32) : sProp 𝕄 :=
  if r < 625 then Fly d i b sm (rowN i r) q fin
  else iprop(∃ f : S2x1024.Idx → Elt F .f32, bufPt d i (rowSet b) fullShare f ∗ inPt d i (tileIn i) q fin ∗ semVal (V d (cV i) (jV i), .dma sm) 0)

theorem wp_gatherSlot {α : Type} {Q : α → sProp 𝕄} {b b' : Fin 2} (hb : b' ≠ b) {idxs : Fin S2x1024.rank → IVec S16 32}
    {hidx : ∀ a x, (idxs a x).toNat < S2x1024.size a} {hl : (bufM).view.Loads} {k : Vec F S16 .f32 → TProg F i α} {fb : S2x1024.Idx → Elt F .f32}
    {sm : DmaSem sig} {r : ℕ} {q : PosShare TreeShare} {fin : S20000x1024.Idx → Elt F .f32} (h0 : ∀ x, (idxs 0 x).toNat = b.val) :
    iprop(wmI ∗ bufPt d i (rowSet b) fullShare fb ∗ Slot d i b' sm r q fin)
      ⊢ iprop((iprop(bufPt d i (rowSet b) fullShare fb ∗ Slot d i b' sm r q fin)
          -∗ tw d i (k (fun x => rowOf b fb ⟨(idxs 1 x).toNat, hidx 1 x⟩)) Q)
        -∗ tw d i (SparseCore.vectorLoadIdx bufM idxs hidx hl >>= k) Q) := by
  by_cases hr : r < 625
  · have e : Slot d i b' sm r q fin = Fly d i b' sm (rowN i r) q fin := if_pos hr
    rw [e]
    unfold Fly
    iintro ⟨Hwm, Hf, ⟨%f, Hfl, Ho, Hrest⟩⟩ Hk
    iapply (wp_gather d i hb h0) $$ [Hwm Hf Ho]
    · isplitl [Hwm]; · iexact Hwm
      isplitl [Hf]; · iexact Hf
      iexact Ho
    iintro ⟨Hf, Ho⟩
    iapply Hk
    isplitl [Hf]; · iexact Hf
    iexists f
    isplitl [Hfl]; · iexact Hfl
    isplitl [Ho] <;> iassumption
  · have e : Slot d i b' sm r q fin = iprop(∃ f : S2x1024.Idx → Elt F .f32, bufPt d i (rowSet b') fullShare f ∗ inPt d i (tileIn i) q fin
        ∗ semVal (V d (cV i) (jV i), .dma sm) 0) := if_neg hr
    rw [e]
    unfold wmI
    iintro ⟨⟨%ι, #Hwm⟩, Hf, ⟨%f, Ho, Hrest⟩⟩ Hk
    imod (pointsTo_castIn (ℓ := (V d (cV i) (jV i)).loc cc0_scratch0) (I := rowSet b') (f := f) (ιwm := ι) (E := Set.univ) (emb := EW (F := F)) (fun y => some (f y))) $$ [Ho] with Hw
    · isplitr; · iexact Hwm
      iexact Ho
    ihave Hw2 := (Entails.of_eq (show wb d i (rowSet b') fullShare f (fun y => some (f y)) ∅
      = wb d i (rowSet b') fullShare f (fun y => some (f y)) (∅ ∪ ∅) by rw [Finset.empty_union])) $$ Hw
    ihave Hw3 := (wb_halves d i).1 $$ Hw2
    icases Hw3 with ⟨Hl, Hr⟩
    iapply (wp_gather d i hb h0) $$ [Hf Hr]
    · isplitr
      · unfold wmI; iexists ι; iexact Hwm
      isplitl [Hf]; · iexact Hf
      iexact Hr
    iintro ⟨Hf, Hr⟩
    ihave Hw := (wb_halves d i).2 $$ [Hl Hr]
    · isplitl [Hl] <;> iassumption
    imod (willBeTo_castOut_some (ιwm := ι) (E := Set.univ) (emb := EW (F := F))) $$ [Hw] with Ho
    · isplitr; · iexact Hwm
      iexact Hw
    iapply Hk
    isplitl [Hf]; · iexact Hf
    iexists f
    isplitl [Ho]
    · iapply (bufPt_piecewise_self d i (rowSet b') (∅ ∪ ∅) f)
      iexact Ho
    iexact Hrest

end Cert.Proof.Tile
-- ==== Proof.Trip.lean ====
/-
  One trip of a tile's outer loop: a row through each slot.
-/
module

public import proofs.«01_k».proof.Proof.Copy

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

variable [FloatOps F] (d : Dev nD) (i : grid0.Coords)

abbrev tripBody : Fin k0_t1_loop.trips → BitVec 32 → TProg F i (BitVec 32) :=
  k0_t1_body i (Memref.whole main_v0_scv) (Memref.isWhole_whole main_v0_scv) (Memref.whole main_v2_0_scv) (Memref.isWhole_whole main_v2_0_scv) (Memref.whole main_v2_1_scv) (Memref.isWhole_whole main_v2_1_scv)
    (Memref.whole cc0_scratch0) (Memref.isWhole_whole cc0_scratch0) (Memref.whole cc0_scratch1) (Memref.isWhole_whole cc0_scratch1) (Memref.whole cc0_scratch2) (Memref.isWhole_whole cc0_scratch2)
    cc0_scratch3 (Memref.whole cc0_scratch4) (Memref.isWhole_whole cc0_scratch4) (Memref.whole cc0_scratch5) (Memref.isWhole_whole cc0_scratch5) cc0_scoped0 cc0_scoped1
    (iota .scVector S16 32 [0] iota_S16_d0_w32_scVector)

abbrev sm0 : DmaSem sig := ((cc0_scratch3.slice (Rect.unit (s := S2) ![0] S1.size inb_S2_S1_0)).squeeze S_ squeezes_S1_S_).sem
abbrev sm1 : DmaSem sig := ((cc0_scratch3.slice (Rect.unit (s := S2) ![1] S1.size inb_S2_S1_1)).squeeze S_ squeezes_S1_S_).sem

/-! ## What a tile carries through the loop -/

instance wmI_persistent : BI.Persistent (wmI (F := F)) := by unfold wmI; infer_instance

/-- The first `r` rows of the tile's two results are those of its first `r` input rows. -/
def Done (fin : S20000x1024.Idx → Elt F .f32) (r : ℕ) (f g : S10000.Idx → Elt F .f32) : Prop :=
  ∀ n (hn : 16 * n + 16 ≤ 10000), n < r → lanes f n hn = coefs (inRow (rowN i n) fin) ∧ lanes g n hn = freqs (inRow (rowN i n) fin)

def Acc (fin : S20000x1024.Idx → Elt F .f32) (r : ℕ) : sProp 𝕄 := iprop(∃ f g, ⌜Done i fin r f g⌝ ∗ vaP d i f ∗ faP d i g)
/-- The node buffers, at anything. -/
def scrP : sProp 𝕄 := iprop(∃ f g, nkP d i f ∗ niP d i g)
/-- What the tile owes the launch, its waits so far recorded. -/
def owesP (O : CellTallies nD τ sig (HIx 1)) (W : Waits sig (HIx 1)) : sProp 𝕄 :=
  iprop(∃ W', ⌜∀ p ∈ W', p ∈ W ∨ p.2 = none⌝ ∗ owes (V d (cV i) (jV i)) O W')

theorem done_succ {fin : S20000x1024.Idx → Elt F .f32} {r : ℕ} {f g : S10000.Idx → Elt F .f32} (h : Done i fin r f g) :
    Done i fin (r + 1) (upd f r (coefs (inRow (rowN i r) fin))) (upd g r (freqs (inRow (rowN i r) fin))) := by
  intro n hn hlt
  by_cases e : n = r
  · subst e
    rw [lanes_upd_self, lanes_upd_self]
    exact ⟨rfl, rfl⟩
  · rw [lanes_upd_of_ne _ hn e, lanes_upd_of_ne _ hn e]
    exact h n hn (by omega)

theorem root_le : 16 * 0 + 16 ≤ 2032 := by decide
theorem root_idxs {row : Row F} {f : S2032.Idx → Elt F .f32} {g : S2032.Idx → Elt F .i32} (h : Nodes row 0 127 f g) :
    lanes g 0 root_le = idxs row := (h 0 root_le (Nat.le_refl 0) (by decide)).2
theorem idxs_lt (row : Row F) (x : S16.Idx) : (idxs row x).toNat < 1024 := node_val_lt row 0 (by decide) x
theorem gather_coefs (row : Row F) (h : ∀ x, (idxs row x).toNat < 1024) : (fun x => row ⟨(idxs row x).toNat, h x⟩) = coefs row := by
  funext x
  unfold coefs
  congr 1
  exact Fin.ext (Nat.mod_eq_of_lt (h x)).symm

theorem scat_nat {α : Type} (f w : S16.Idx → α) : scat nat f w = w := by
  funext x
  exact scat_of_inj (fun a b h => by rw [← lane_nat a, ← lane_nat b]; exact congrArg lane (Fin.ext h)) f w rfl

theorem cond1_all : ∀ t : Fin k0_t1_loop.trips, k0_cond1 t = 1#1 := by decide +kernel
theorem cond2_iff : ∀ t : Fin k0_t1_loop.trips, k0_cond2 t = 1#1 ↔ 2 * t.val + 0 + 2 < 625 := by decide +kernel
theorem cond3_iff : ∀ t : Fin k0_t1_loop.trips, k0_cond3 t = 1#1 ↔ 2 * t.val + 1 < 625 := by decide +kernel
theorem cond4_iff : ∀ t : Fin k0_t1_loop.trips, k0_cond4 t = 1#1 ↔ 2 * t.val + 1 + 2 < 625 := by decide +kernel

theorem acc_at0 : ∀ (t : Fin 313) (r : Fin 16), (IntOp.addi (Scalar.muli (Scalar.addi (Scalar.muli (Scf.iv 0#32 1#32 t.val) 2#32) 0#32) 16#32) (BitVec.ofNat 32 r.val)).toNat = 16 * (2 * t.val + 0) + r.val := by
  decide +kernel
theorem acc_at1 : ∀ (t : Fin 313) (r : Fin 16), (IntOp.addi (Scalar.muli (Scalar.addi (Scalar.muli (Scf.iv 0#32 1#32 t.val) 2#32) 1#32) 16#32) (BitVec.ofNat 32 r.val)).toNat = 16 * (2 * t.val + 1) + r.val := by
  decide +kernel

theorem trips1 : k0_t1_loop.trips = 313 := by decide +kernel

theorem off7_at (t : Fin k0_t1_loop.trips) : k0_off7 i t = ![rowN i (2 * t.val + 0 + 2), 0] := (k0_off7_eq i t).trans (by unfold rowN; congr 1)
theorem off13_at (t : Fin k0_t1_loop.trips) : k0_off13 i t = ![rowN i (2 * t.val + 1 + 2), 0] := (k0_off13_eq i t).trans (by unfold rowN; congr 1)

/-- A stored word's register index and lane, for each of the four index vectors. -/
theorem pay26_at (t : Fin k0_t1_loop.trips) (x : S16.Idx) : (k0_pay26 t x).toNat = 16 * (2 * t.val + 0) + nat x := by
  have := acc_at0 (t.cast trips1) ⟨nat x, nat_lt x⟩
  refine Eq.trans ?_ this
  show (IntOp.addi _ ((iota .scVector S16 32 [0] iota_S16_d0_w32_scVector : IVec S16 32) x)).toNat = _
  rw [iota_eq]
  rfl
theorem pay27_at (t : Fin k0_t1_loop.trips) (x : S16.Idx) : (k0_pay27 t x).toNat = 16 * (2 * t.val + 0) + nat x := pay26_at t x
theorem pay36_at (t : Fin k0_t1_loop.trips) (x : S16.Idx) : (k0_pay36 t x).toNat = 16 * (2 * t.val + 1) + nat x := by
  have := acc_at1 (t.cast trips1) ⟨nat x, nat_lt x⟩
  refine Eq.trans ?_ this
  show (IntOp.addi _ ((iota .scVector S16 32 [0] iota_S16_d0_w32_scVector : IVec S16 32) x)).toNat = _
  rw [iota_eq]
  rfl
theorem pay37_at (t : Fin k0_t1_loop.trips) (x : S16.Idx) : (k0_pay37 t x).toNat = 16 * (2 * t.val + 1) + nat x := pay36_at t x

theorem idx_inb {v : IVec S16 32} {n : ℕ} (hn : n < 625) (h : ∀ x, (v x).toNat = 16 * n + nat x) : ∀ (a : Fin 1) x, ((![v] : Fin 1 → IVec S16 32) a x).toNat < S10000.size a := by
  intro a x
  match a with
  | 0 =>
    show (v x).toNat < 10000
    have := nat_lt x
    rw [h x]; omega

theorem gather_inb {b : BitVec 32} (hb : b.toNat < 2) {v : IVec S16 32} (h : ∀ x, (v x).toNat < 1024) :
    ∀ (a : Fin 2) x, ((![broadcast S16 b, v] : Fin 2 → IVec S16 32) a x).toNat < S2x1024.size a := by
  intro a x
  match a with
  | 0 => exact hb
  | 1 => exact h x

theorem slot_fly {b : Fin 2} {sm : DmaSem sig} {r : ℕ} {q : PosShare TreeShare} {fin : S20000x1024.Idx → Elt F .f32} (h : r < 625) :
    Slot d i b sm r q fin = Fly d i b sm (rowN i r) q fin := if_pos h
theorem slot_idle {b : Fin 2} {sm : DmaSem sig} {r : ℕ} {q : PosShare TreeShare} {fin : S20000x1024.Idx → Elt F .f32} (h : ¬r < 625) :
    Slot d i b sm r q fin = iprop(∃ f : S2x1024.Idx → Elt F .f32, bufPt d i (rowSet b) fullShare f ∗ inPt d i (tileIn i) q fin
      ∗ semVal (V d (cV i) (jV i), .dma sm) 0) := if_neg h

/-! ## A row through slot 0 -/

def half0 (t : Fin k0_t1_loop.trips) (h1 : k0_cond1 t = 1#1) (kk : TProg F i (BitVec 32)) : TProg F i (BitVec 32) :=
  .op (.waitDma2 sm0 (srcM (k0_off2 i t) (k0_off2_inb i t h1)) (dstM ![0, 0] inb_S2x1024_S1x1024_0_0) (View.wordExact_bits rfl) (View.wordExact_bits rfl)) fun _ =>
  Scf.Loop.for k0_t2_loop (k0_t2_ok t h1) 0#32 (leafBody0 i t h1) >>= fun _ =>
  Scf.Loop.for k0_t4_loop (k0_t4_ok t h1) 0#32 (mergeBody0 i t h1) >>= fun _ =>
  .op (.load niM (Rect.unit (s := S2032) ![0] S16.size inb_S2032_S16_0).toLoadRect (View.loadsAt_vmem h_S16)) fun (v43 : Vec F S16 .i32) =>
  .op (.assume (k0_chk8 t v43 (broadcast S16 0#32)) (k0_chk8.dec t v43 (broadcast S16 0#32))) fun hwa =>
  SparseCore.vectorLoadIdx bufM ![broadcast S16 0#32, v43] (k0_idx9_inb t v43 (broadcast S16 0#32) hwa.down h1) (View.loads_vmem h_S2x1024) >>= fun (v45 : Vec F S16 .f32) =>
  .op (.assume (k0_chk9 t (k0_pay26 t)) (k0_chk9.dec t (k0_pay26 t))) fun hwb =>
  SparseCore.vectorStoreIdx vaM ![k0_pay26 t] v45 (fun _ => 1#1) false (k0_idx10_inb t (k0_pay26 t) hwb.down h1) (View.stores_vmem_bits_univ h_S10000 rfl) >>= fun _ =>
  .op (.assume (k0_chk10 t (k0_pay27 t)) (k0_chk10.dec t (k0_pay27 t))) fun hwc =>
  SparseCore.vectorStoreIdx faM ![k0_pay27 t] (k0_pay28 v43) (fun _ => 1#1) false (k0_idx11_inb t (k0_pay27 t) hwc.down h1) (View.stores_vmem_bits_univ h_S10000 rfl) >>= fun _ =>
  if h2 : k0_cond2 t = 1#1 then
    .op (.enqueueDma (srcM (k0_off7 i t) (k0_off7_inb i t h1 h2)) (.here (dstM ![0, 0] inb_S2x1024_S1x1024_0_0)) (.dma sm0) (View.wordExact_bits rfl) (View.wordExact_bits rfl) ⟨Or.inl rfl, trivial⟩) fun _ => kk
  else kk

theorem wp_half0 (t : Fin k0_t1_loop.trips) (h1 : k0_cond1 t = 1#1) (hlt : 2 * t.val + 0 < 625) {kk : TProg F i (BitVec 32)} {Q : BitVec 32 → sProp 𝕄}
    {q q' : PosShare TreeShare} {fin : S20000x1024.Idx → Elt F .f32} {r' : ℕ} {O : CellTallies nD τ sig (HIx 1)} {W : Waits sig (HIx 1)} :
    iprop(wmI ∗ Transfers.MayWaits (V d (cV i) (jV i)) (default : HIx 1) O ∗ Slot d i 0 sm0 (2 * t.val + 0) q fin ∗ Slot d i 1 sm1 r' q' fin ∗ scrP d i
        ∗ Acc d i fin (2 * t.val + 0) ∗ owesP d i O W)
      ⊢ iprop((iprop(Slot d i 0 sm0 (2 * t.val + 0 + 2) q fin ∗ Slot d i 1 sm1 r' q' fin ∗ scrP d i ∗ Acc d i fin (2 * t.val + 0 + 1) ∗ owesP d i O W)
          -∗ tw d i kk Q) -∗ tw d i (half0 i t h1 kk) Q) := by
  unfold half0 owesP scrP Acc
  rw [slot_fly d i hlt]
  iintro ⟨#Hwm, #Hmw, Hfly, Hoth, ⟨%fk, %gi, Hnk, Hni⟩, ⟨%fv, %gf, %hdone, Hva, Hfa⟩, ⟨%W', %hW', HO⟩⟩ Hk
  iapply (wp_land d i hlt) $$ [Hfly HO]
  · isplitr; · iexact Hwm
    isplitl [Hfly]; · iexact Hfly
    isplitl [HO]; · iexact HO
    iapply (Transfers.MayWaits.elim (SemLoc.dma sm0)); iexact Hmw
  iintro ⟨Hbuf, Hin, Hsem, HO⟩
  iapply (wp_leaves0 d i t h1) $$ [Hbuf Hnk Hni]
  · isplitl [Hbuf]; · iexact Hbuf
    isplitl [Hnk]; · iexact Hnk
    iexact Hni
  iintro %_ ⟨Hbuf, Hn⟩
  iapply (wp_merges0 d i t h1) $$ Hn
  iintro %_ Hn
  unfold nodesP
  icases Hn with ⟨%f2, %g2, %hnodes, Hnk, Hni⟩
  rw [rowOf_tgt] at hnodes
  have hroot := root_idxs hnodes
  iapply (wp_niLoad d i (n := 0) root_le (by rfl)) $$ Hni
  iintro Hni
  rw [hroot]
  have hlt1 : ∀ x, (idxs (inRow (rowN i (2 * t.val + 0)) fin) x).toNat < 1024 := idxs_lt _
  rw [tw_assume d i (show k0_chk8 t _ _ from fun _ => gather_inb (by decide) hlt1)]
  iapply (wp_gatherSlot d i (b := 0) (b' := 1) (by decide) (fun _ => rfl)) $$ [Hbuf Hoth]
  · isplitr; · iexact Hwm
    isplitl [Hbuf]; · iexact Hbuf
    iexact Hoth
  iintro ⟨Hbuf, Hoth⟩
  have hpb : ∀ x, (k0_pay26 t x).toNat = 16 * (2 * t.val + 0) + nat x := pay26_at t
  have hpc : ∀ x, (k0_pay27 t x).toNat = 16 * (2 * t.val + 0) + nat x := pay27_at t
  rw [tw_assume d i (show k0_chk9 t _ from fun _ => idx_inb hlt hpb)]
  iapply (wp_vaScatter d i (n := 2 * t.val + 0) (by omega) nat nat_lt hpb) $$ Hva
  iintro Hva
  rw [tw_assume d i (show k0_chk10 t _ from fun _ => idx_inb hlt hpc)]
  iapply (wp_faScatter d i (n := 2 * t.val + 0) (by omega) nat nat_lt hpc) $$ Hfa
  iintro Hfa
  rw [scat_nat, scat_nat]
  have hcoef : (fun x => rowOf (0 : Fin 2) (tgt (rowN i (2 * t.val + 0)) fin) ⟨((![broadcast S16 0#32, idxs (inRow (rowN i (2 * t.val + 0)) fin)] : Fin 2 → IVec S16 32) 1 x).toNat, hlt1 x⟩)
      = coefs (inRow (rowN i (2 * t.val + 0)) fin) := by
    rw [rowOf_tgt]
    exact gather_coefs _ hlt1
  have hdone' := done_succ i hdone
  have hW2 : ∀ p ∈ insert (SemLoc.dma sm0, (default : HIx 1)) W', p ∈ W ∨ p.2 = none := by
    intro p hp
    rcases Finset.mem_insert.mp hp with h | h
    · exact Or.inr (by rw [h]; rfl)
    · exact hW' p h
  by_cases h2 : k0_cond2 t = 1#1
  · rw [dif_pos h2]
    have hr2 : 2 * t.val + 0 + 2 < 625 := (cond2_iff t).mp h2
    iapply (wp_fly d i hr2 (off7_at i t) (b := 0) (by rfl)) $$ [Hbuf Hin Hsem]
    · isplitr; · iexact Hwm
      isplitl [Hbuf]; · iexact Hbuf
      isplitl [Hin]; · iexact Hin
      iexact Hsem
    iintro Hfly
    iapply Hk
    rw [slot_fly d i hr2]
    isplitl [Hfly]; · iexact Hfly
    isplitl [Hoth]; · iexact Hoth
    isplitl [Hnk Hni]
    · iexists f2, g2
      isplitl [Hnk] <;> iassumption
    isplitl [Hva Hfa]
    · iexists _, _
      isplitr; · ipureintro; exact hdone'
      rw [← hcoef]
      isplitl [Hva]; · iexact Hva
      iexact Hfa
    iexists _
    isplitr; · ipureintro; exact hW2
    iexact HO
  · rw [dif_neg h2]
    have hr2 : ¬2 * t.val + 0 + 2 < 625 := fun h => h2 ((cond2_iff t).mpr h)
    iapply Hk
    rw [slot_idle d i hr2]
    isplitl [Hbuf Hin Hsem]
    · iexists _
      isplitl [Hbuf]; · iexact Hbuf
      isplitl [Hin] <;> iassumption
    isplitl [Hoth]; · iexact Hoth
    isplitl [Hnk Hni]
    · iexists f2, g2
      isplitl [Hnk] <;> iassumption
    isplitl [Hva Hfa]
    · iexists _, _
      isplitr; · ipureintro; exact hdone'
      rw [← hcoef]
      isplitl [Hva]; · iexact Hva
      iexact Hfa
    iexists _
    isplitr; · ipureintro; exact hW2
    iexact HO

/-! ## A row through slot 1 -/

def half1 (t : Fin k0_t1_loop.trips) (h1 : k0_cond3 t = 1#1) (kk : TProg F i (BitVec 32)) : TProg F i (BitVec 32) :=
  .op (.waitDma2 sm1 (srcM (k0_off8 i t) (k0_off8_inb i t h1)) (dstM ![1, 0] inb_S2x1024_S1x1024_1_0) (View.wordExact_bits rfl) (View.wordExact_bits rfl)) fun _ =>
  Scf.Loop.for k0_t6_loop (k0_t6_ok t h1) 0#32 (leafBody1 i t h1) >>= fun _ =>
  Scf.Loop.for k0_t8_loop (k0_t8_ok t h1) 0#32 (mergeBody1 i t h1) >>= fun _ =>
  .op (.load niM (Rect.unit (s := S2032) ![0] S16.size inb_S2032_S16_0).toLoadRect (View.loadsAt_vmem h_S16)) fun (v43 : Vec F S16 .i32) =>
  .op (.assume (k0_chk18 t v43 (broadcast S16 1#32)) (k0_chk18.dec t v43 (broadcast S16 1#32))) fun hwa =>
  SparseCore.vectorLoadIdx bufM ![broadcast S16 1#32, v43] (k0_idx20_inb t v43 (broadcast S16 1#32) hwa.down h1) (View.loads_vmem h_S2x1024) >>= fun (v45 : Vec F S16 .f32) =>
  .op (.assume (k0_chk19 t (k0_pay36 t)) (k0_chk19.dec t (k0_pay36 t))) fun hwb =>
  SparseCore.vectorStoreIdx vaM ![k0_pay36 t] v45 (fun _ => 1#1) false (k0_idx21_inb t (k0_pay36 t) hwb.down h1) (View.stores_vmem_bits_univ h_S10000 rfl) >>= fun _ =>
  .op (.assume (k0_chk20 t (k0_pay37 t)) (k0_chk20.dec t (k0_pay37 t))) fun hwc =>
  SparseCore.vectorStoreIdx faM ![k0_pay37 t] (k0_pay38 v43) (fun _ => 1#1) false (k0_idx22_inb t (k0_pay37 t) hwc.down h1) (View.stores_vmem_bits_univ h_S10000 rfl) >>= fun _ =>
  if h2 : k0_cond4 t = 1#1 then
    .op (.enqueueDma (srcM (k0_off13 i t) (k0_off13_inb i t h1 h2)) (.here (dstM ![1, 0] inb_S2x1024_S1x1024_1_0)) (.dma sm1) (View.wordExact_bits rfl) (View.wordExact_bits rfl) ⟨Or.inl rfl, trivial⟩) fun _ => kk
  else kk

theorem wp_half1 (t : Fin k0_t1_loop.trips) (h1 : k0_cond3 t = 1#1) (hlt : 2 * t.val + 1 < 625) {kk : TProg F i (BitVec 32)} {Q : BitVec 32 → sProp 𝕄}
    {q q' : PosShare TreeShare} {fin : S20000x1024.Idx → Elt F .f32} {r' : ℕ} {O : CellTallies nD τ sig (HIx 1)} {W : Waits sig (HIx 1)} :
    iprop(wmI ∗ Transfers.MayWaits (V d (cV i) (jV i)) (default : HIx 1) O ∗ Slot d i 1 sm1 (2 * t.val + 1) q fin ∗ Slot d i 0 sm0 r' q' fin ∗ scrP d i
        ∗ Acc d i fin (2 * t.val + 1) ∗ owesP d i O W)
      ⊢ iprop((iprop(Slot d i 1 sm1 (2 * t.val + 1 + 2) q fin ∗ Slot d i 0 sm0 r' q' fin ∗ scrP d i ∗ Acc d i fin (2 * t.val + 1 + 1) ∗ owesP d i O W)
          -∗ tw d i kk Q) -∗ tw d i (half1 i t h1 kk) Q) := by
  unfold half1 owesP scrP Acc
  rw [slot_fly d i hlt]
  iintro ⟨#Hwm, #Hmw, Hfly, Hoth, ⟨%fk, %gi, Hnk, Hni⟩, ⟨%fv, %gf, %hdone, Hva, Hfa⟩, ⟨%W', %hW', HO⟩⟩ Hk
  iapply (wp_land d i hlt) $$ [Hfly HO]
  · isplitr; · iexact Hwm
    isplitl [Hfly]; · iexact Hfly
    isplitl [HO]; · iexact HO
    iapply (Transfers.MayWaits.elim (SemLoc.dma sm1)); iexact Hmw
  iintro ⟨Hbuf, Hin, Hsem, HO⟩
  iapply (wp_leaves1 d i t h1) $$ [Hbuf Hnk Hni]
  · isplitl [Hbuf]; · iexact Hbuf
    isplitl [Hnk]; · iexact Hnk
    iexact Hni
  iintro %_ ⟨Hbuf, Hn⟩
  iapply (wp_merges1 d i t h1) $$ Hn
  iintro %_ Hn
  unfold nodesP
  icases Hn with ⟨%f2, %g2, %hnodes, Hnk, Hni⟩
  rw [rowOf_tgt] at hnodes
  have hroot := root_idxs hnodes
  iapply (wp_niLoad d i (n := 0) root_le (by rfl)) $$ Hni
  iintro Hni
  rw [hroot]
  have hlt1 : ∀ x, (idxs (inRow (rowN i (2 * t.val + 1)) fin) x).toNat < 1024 := idxs_lt _
  rw [tw_assume d i (show k0_chk18 t _ _ from fun _ => gather_inb (by decide) hlt1)]
  iapply (wp_gatherSlot d i (b := 1) (b' := 0) (by decide) (fun _ => rfl)) $$ [Hbuf Hoth]
  · isplitr; · iexact Hwm
    isplitl [Hbuf]; · iexact Hbuf
    iexact Hoth
  iintro ⟨Hbuf, Hoth⟩
  have hpb : ∀ x, (k0_pay36 t x).toNat = 16 * (2 * t.val + 1) + nat x := pay36_at t
  have hpc : ∀ x, (k0_pay37 t x).toNat = 16 * (2 * t.val + 1) + nat x := pay37_at t
  rw [tw_assume d i (show k0_chk19 t _ from fun _ => idx_inb hlt hpb)]
  iapply (wp_vaScatter d i (n := 2 * t.val + 1) (by omega) nat nat_lt hpb) $$ Hva
  iintro Hva
  rw [tw_assume d i (show k0_chk20 t _ from fun _ => idx_inb hlt hpc)]
  iapply (wp_faScatter d i (n := 2 * t.val + 1) (by omega) nat nat_lt hpc) $$ Hfa
  iintro Hfa
  rw [scat_nat, scat_nat]
  have hcoef : (fun x => rowOf (1 : Fin 2) (tgt (rowN i (2 * t.val + 1)) fin) ⟨((![broadcast S16 1#32, idxs (inRow (rowN i (2 * t.val + 1)) fin)] : Fin 2 → IVec S16 32) 1 x).toNat, hlt1 x⟩)
      = coefs (inRow (rowN i (2 * t.val + 1)) fin) := by
    rw [rowOf_tgt]
    exact gather_coefs _ hlt1
  have hdone' := done_succ i hdone
  have hW2 : ∀ p ∈ insert (SemLoc.dma sm1, (default : HIx 1)) W', p ∈ W ∨ p.2 = none := by
    intro p hp
    rcases Finset.mem_insert.mp hp with h | h
    · exact Or.inr (by rw [h]; rfl)
    · exact hW' p h
  by_cases h2 : k0_cond4 t = 1#1
  · rw [dif_pos h2]
    have hr2 : 2 * t.val + 1 + 2 < 625 := (cond4_iff t).mp h2
    iapply (wp_fly d i hr2 (off13_at i t) (b := 1) (by rfl)) $$ [Hbuf Hin Hsem]
    · isplitr; · iexact Hwm
      isplitl [Hbuf]; · iexact Hbuf
      isplitl [Hin]; · iexact Hin
      iexact Hsem
    iintro Hfly
    iapply Hk
    rw [slot_fly d i hr2]
    isplitl [Hfly]; · iexact Hfly
    isplitl [Hoth]; · iexact Hoth
    isplitl [Hnk Hni]
    · iexists f2, g2
      isplitl [Hnk] <;> iassumption
    isplitl [Hva Hfa]
    · iexists _, _
      isplitr; · ipureintro; exact hdone'
      rw [← hcoef]
      isplitl [Hva]; · iexact Hva
      iexact Hfa
    iexists _
    isplitr; · ipureintro; exact hW2
    iexact HO
  · rw [dif_neg h2]
    have hr2 : ¬2 * t.val + 1 + 2 < 625 := fun h => h2 ((cond4_iff t).mpr h)
    iapply Hk
    rw [slot_idle d i hr2]
    isplitl [Hbuf Hin Hsem]
    · iexists _
      isplitl [Hbuf]; · iexact Hbuf
      isplitl [Hin] <;> iassumption
    isplitl [Hoth]; · iexact Hoth
    isplitl [Hnk Hni]
    · iexists f2, g2
      isplitl [Hnk] <;> iassumption
    isplitl [Hva Hfa]
    · iexists _, _
      isplitr; · ipureintro; exact hdone'
      rw [← hcoef]
      isplitl [Hva]; · iexact Hva
      iexact Hfa
    iexists _
    isplitr; · ipureintro; exact hW2
    iexact HO

theorem trip_eq (t : Fin k0_t1_loop.trips) (a : BitVec 32) :
    tripBody (F := F) i t a = half0 i t (cond1_all t) (if h3 : k0_cond3 t = 1#1 then half1 i t h3 (.ret 0#32) else .ret 0#32) := by
  unfold tripBody k0_t1_body half0 half1
  simp only [Prog.lift, Prog.bind_op, Prog.bind_ret, Prog.pure_eq_ret]
  rw [dif_pos (cond1_all t)]

end Cert.Proof.Tile
-- ==== Proof.Tile.lean ====
/-
  A tile's whole program: the first two copies, the loop, and the two results copied out.
-/
module

public import proofs.«01_k».proof.Proof.Trip

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

variable [FloatOps F] (d : Dev nD) (i : grid0.Coords)

/-! ## One trip, and the loop -/

theorem wp_mono_w {α : Type} {p : TProg F i α} {Q Q' : α → sProp 𝕄} :
    tw d i p Q ⊢ iprop((∀ a, Q a -∗ Q' a) -∗ tw d i p Q') := by
  exact BI.wand_intro (wp_wand_r frame (wpE (defs₀ (F := F)) 𝒱₀ (V d (cV i) (jV i)) none) Set.univ)

theorem wp_trip (t : Fin k0_t1_loop.trips) (a : BitVec 32) {q q' : PosShare TreeShare} {fin : S20000x1024.Idx → Elt F .f32}
    {O : CellTallies nD τ sig (HIx 1)} {W : Waits sig (HIx 1)} :
    iprop(wmI ∗ Transfers.MayWaits (V d (cV i) (jV i)) (default : HIx 1) O ∗ Slot d i 0 sm0 (2 * t.val + 0) q fin ∗ Slot d i 1 sm1 (2 * t.val + 1) q' fin ∗ scrP d i
        ∗ Acc d i fin (2 * t.val + 0) ∗ owesP d i O W)
      ⊢ tw d i (tripBody (F := F) i t a) (fun _ => iprop(Slot d i 0 sm0 (2 * (t.val + 1) + 0) q fin ∗ Slot d i 1 sm1 (2 * (t.val + 1) + 1) q' fin ∗ scrP d i
        ∗ Acc d i fin (min (2 * (t.val + 1)) 625) ∗ owesP d i O W)) := by
  have ht : t.val < 313 := trips1 ▸ t.isLt
  rw [trip_eq]
  iintro ⟨#Hwm, #Hmw, H0, H1, Hs, Ha, HO⟩
  iapply (wp_half0 d i t (cond1_all t) (by omega)) $$ [H0 H1 Hs Ha HO]
  · isplitr; · iexact Hwm
    isplitr; · iexact Hmw
    isplitl [H0]; · iexact H0
    isplitl [H1]; · iexact H1
    isplitl [Hs]; · iexact Hs
    isplitl [Ha]; · iexact Ha
    iexact HO
  iintro ⟨H0, H1, Hs, Ha, HO⟩
  rw [show 2 * (t.val + 1) + 0 = 2 * t.val + 0 + 2 by omega, show 2 * (t.val + 1) + 1 = 2 * t.val + 1 + 2 by omega]
  by_cases h3 : k0_cond3 t = 1#1
  · rw [dif_pos h3]
    have hr := (cond3_iff t).mp h3
    rw [show min (2 * (t.val + 1)) 625 = 2 * t.val + 1 + 1 by omega]
    iapply (wp_half1 d i t h3 hr) $$ [H0 H1 Hs Ha HO]
    · isplitr; · iexact Hwm
      isplitr; · iexact Hmw
      isplitl [H1]; · iexact H1
      isplitl [H0]; · iexact H0
      isplitl [Hs]; · iexact Hs
      isplitl [Ha]; · iexact Ha
      iexact HO
    iintro ⟨H1, H0, Hs, Ha, HO⟩
    iapply (tw_ret d i)
    isplitl [H0]; · iexact H0
    isplitl [H1]; · iexact H1
    isplitl [Hs]; · iexact Hs
    isplitl [Ha]; · iexact Ha
    iexact HO
  · rw [dif_neg h3]
    have hr : ¬2 * t.val + 1 < 625 := fun h => h3 ((cond3_iff t).mpr h)
    rw [show min (2 * (t.val + 1)) 625 = 2 * t.val + 0 + 1 by omega]
    have e : Slot d i 1 sm1 (2 * t.val + 1) q' fin = Slot d i 1 sm1 (2 * t.val + 1 + 2) q' fin := by
      rw [slot_idle d i hr, slot_idle d i (show ¬2 * t.val + 1 + 2 < 625 by omega)]
    rw [← e]
    iapply (tw_ret d i)
    isplitl [H0]; · iexact H0
    isplitl [H1]; · iexact H1
    isplitl [Hs]; · iexact Hs
    isplitl [Ha]; · iexact Ha
    iexact HO

theorem trips1' : Scf.trips k0_t1_loop.lb k0_t1_loop.ub k0_t1_loop.st = 313 := trips1

theorem wp_outer {α : Type} {hok} {kk : BitVec 32 → TProg F i α} {Q : α → sProp 𝕄} {q q' : PosShare TreeShare} {fin : S20000x1024.Idx → Elt F .f32}
    {O : CellTallies nD τ sig (HIx 1)} {W : Waits sig (HIx 1)} :
    iprop(wmI ∗ Transfers.MayWaits (V d (cV i) (jV i)) (default : HIx 1) O ∗ Slot d i 0 sm0 0 q fin ∗ Slot d i 1 sm1 1 q' fin ∗ scrP d i
        ∗ Acc d i fin 0 ∗ owesP d i O W)
      ⊢ iprop((∀ acc, (Slot d i 0 sm0 626 q fin ∗ Slot d i 1 sm1 627 q' fin ∗ scrP d i ∗ Acc d i fin 625 ∗ owesP d i O W) -∗ tw d i (kk acc) Q)
        -∗ tw d i (Scf.Loop.for k0_t1_loop hok 0#32 (tripBody i) >>= kk) Q) := by
  have hbody : ∀ (t : Fin k0_t1_loop.trips) (acc : BitVec 32),
      iprop(wmI ∗ Transfers.MayWaits (V d (cV i) (jV i)) (default : HIx 1) O ∗ Slot d i 0 sm0 (2 * t.val + 0) q fin ∗ Slot d i 1 sm1 (2 * t.val + 1) q' fin ∗ scrP d i
        ∗ Acc d i fin (min (2 * t.val) 625) ∗ owesP d i O W)
        ⊢ tw d i (tripBody i t acc) (fun _ => iprop(wmI ∗ Transfers.MayWaits (V d (cV i) (jV i)) (default : HIx 1) O ∗ Slot d i 0 sm0 (2 * (t.val + 1) + 0) q fin
          ∗ Slot d i 1 sm1 (2 * (t.val + 1) + 1) q' fin ∗ scrP d i ∗ Acc d i fin (min (2 * (t.val + 1)) 625) ∗ owesP d i O W)) := by
    intro t acc
    have ht : t.val < 313 := trips1 ▸ t.isLt
    rw [show min (2 * t.val) 625 = 2 * t.val + 0 by omega]
    iintro ⟨#Hwm, #Hmw, H0, H1, Hs, Ha, HO⟩
    iapply (wp_mono_w d i) $$ [H0 H1 Hs Ha HO]
    · iapply (wp_trip d i t acc)
      isplitr; · iexact Hwm
      isplitr; · iexact Hmw
      isplitl [H0]; · iexact H0
      isplitl [H1]; · iexact H1
      isplitl [Hs]; · iexact Hs
      isplitl [Ha]; · iexact Ha
      iexact HO
    iintro %_ H
    isplitr; · iexact Hwm
    isplitr; · iexact Hmw
    iexact H
  have := Scf.wp_for_bind frame (wpE (defs₀ (F := F)) 𝒱₀ (V d (cV i) (jV i)) none) Set.univ k0_t1_loop.lb k0_t1_loop.ub k0_t1_loop.st hok 0#32
    (tripBody i) (fun t _ => iprop(wmI ∗ Transfers.MayWaits (V d (cV i) (jV i)) (default : HIx 1) O ∗ Slot d i 0 sm0 (2 * t + 0) q fin ∗ Slot d i 1 sm1 (2 * t + 1) q' fin ∗ scrP d i
        ∗ Acc d i fin (min (2 * t) 625) ∗ owesP d i O W)) hbody (kk := kk) (Q := Q)
  iintro ⟨#Hwm, #Hmw, H0, H1, Hs, Ha, HO⟩ Hk
  iapply this $$ [H0 H1 Hs Ha HO]
  · isplitr; · iexact Hwm
    isplitr; · iexact Hmw
    isplitl [H0]; · iexact H0
    isplitl [H1]; · iexact H1
    isplitl [Hs]; · iexact Hs
    isplitl [Ha]; · iexact Ha
    iexact HO
  rw [trips1']
  iintro %acc ⟨-, -, H⟩
  iapply Hk
  iexact H

/-! ## The results copied out -/

/-- The tile's part of each result. -/
def outSet : Finset S320000.Idx := Finset.univ.filter fun y => 16 * rowN i 0 ≤ (y 0).val ∧ (y 0).val < 16 * rowN i 625

/-- The two results, from the input. -/
def valsOf (fin : S20000x1024.Idx → Elt F .f32) : S320000.Idx → Elt F .f32 :=
  fun y => coefs (inRow ((y 0).val / 16) fin) (lane ⟨(y 0).val % 16, Nat.mod_lt _ (by omega)⟩)
def frqsOf (fin : S20000x1024.Idx → Elt F .f32) : S320000.Idx → Elt F .f32 :=
  fun y => freqs (inRow ((y 0).val / 16) fin) (lane ⟨(y 0).val % 16, Nat.mod_lt _ (by omega)⟩)

theorem out_off : k0_off14 i = ![16 * rowN i 0] := (k0_off14_eq i).trans (by
  unfold rowN
  rw [show 20000 * (i 1).val + 10000 * (i 0).val = 16 * (1250 * (i 1).val + 625 * (i 0).val + 0) by omega])

theorem out_rect {off : Fin 1 → ℕ} (ho : off = ![16 * rowN i 0]) (h : ∀ a, off a + S10000.size a ≤ S320000.size a) :
    (Rect.unit (s := S320000) off S10000.size h).set = outSet i := by
  subst ho
  ext y
  rw [Rect.mem_set_unit]
  simp only [outSet, Finset.mem_filter, Finset.mem_univ, true_and]
  have e : 16 * rowN i 625 = 16 * rowN i 0 + 10000 := by unfold rowN; omega
  rw [e]
  constructor
  · intro H
    exact H 0
  · intro H a
    match a with
    | 0 => exact H

theorem out_emb {off : Fin 1 → ℕ} (ho : off = ![16 * rowN i 0]) (h : ∀ a, off a + S10000.size a ≤ S320000.size a) (x : S10000.Idx) :
    ((Rect.unit (s := S320000) off S10000.size h).emb x 0).val = 16 * rowN i 0 + (x 0).val := by
  subst ho
  show 16 * rowN i 0 + 1 * (x 0).val = _
  omega

theorem done_at {fin : S20000x1024.Idx → Elt F .f32} {f g : S10000.Idx → Elt F .f32} (hd : Done i fin 625 f g) {y : S320000.Idx} {x : S10000.Idx}
    (h : (y 0).val = 16 * rowN i 0 + (x 0).val) : f x = valsOf fin y ∧ g x = frqsOf fin y := by
  have hx : (x 0).val < 10000 := (x 0).isLt
  have hn : 16 * ((x 0).val / 16) + 16 ≤ 10000 := by omega
  have h1 : (y 0).val / 16 = rowN i ((x 0).val / 16) := by unfold rowN at h ⊢; omega
  have h2 : (y 0).val % 16 = (x 0).val % 16 := by omega
  have hl := hd ((x 0).val / 16) hn (by omega)
  have ex := eq_nodeIx (N := 10000) x hn rfl
  unfold valsOf frqsOf
  rw [h1]
  have e2 : (⟨(y 0).val % 16, Nat.mod_lt _ (by omega)⟩ : Fin 16) = ⟨(x 0).val % 16, Nat.mod_lt _ (by omega)⟩ := Fin.ext h2
  rw [e2, ← hl.1, ← hl.2]
  exact ⟨congrArg f ex, congrArg g ex⟩

abbrev o0Pt (S : Finset S320000.Idx) (f : S320000.Idx → Elt F .f32) : sProp 𝕄 := (V d (cV i) (jV i)).loc main_v2_0_scv ↦[S]{fullShare} f

abbrev o0S (off : Fin 1 → ℕ) (h : ∀ a, off a + S10000.size a ≤ S320000.size a) : Memref sig .scVector .hbm S10000 .f32 :=
  o0M.slice (Rect.unit (s := S320000) off S10000.size h) (fun _ => rfl)

theorem out_write0 {off : Fin 1 → ℕ} (ho : off = ![16 * rowN i 0]) (h : ∀ a, off a + S10000.size a ≤ S320000.size a)
    {fin : S20000x1024.Idx → Elt F .f32} {f g : S10000.Idx → Elt F .f32} (hd : Done i fin 625 f g) (f0 : S320000.Idx → Elt F .f32) (y : S320000.Idx) (hy : y ∈ outSet i) :
    (o0S off h).view.write (Elt F) f0 f Finset.univ y = valsOf fin y := by
  rw [← out_rect i ho h] at hy
  obtain ⟨x, hx⟩ := LoadRect.exists_idx_of_mem _ hy
  have he : (Rect.unit (s := S320000) off S10000.size h).emb x = y := hx
  have hv : (o0S off h).view.emb x = y := he
  have := View.write_emb_of_mem (v := (o0S off h).view) (Val := Elt F) f0 f (Finset.mem_univ x)
  rw [hv, cast_eq] at this
  exact Eq.trans this (done_at i hd (he ▸ out_emb i ho h x)).1

theorem credit0 : 0 < (o0S ![0] (by decide)).view.dmaCredit := by decide

theorem wp_out0 {α : Type} {Q : α → sProp 𝕄} {off : Fin 1 → ℕ} (ho : off = ![16 * rowN i 0]) {h h' : ∀ a, off a + S10000.size a ≤ S320000.size a}
    {hsrc : (vaM).view.WordExact} {hdst : (o0S off h).view.WordExact}
    {hsem : DmaTarget.Typed (nD := nD) .vmem (.dma cc0_scoped0.sem) (DmaTarget.here (p := .scVector ((i 0).castLE hcore0) ((i 1).castLE hsub0)) (o0S off h))}
    {hsrc' : (vaM).view.WordExact} {hdst' : (o0S off h').view.WordExact} {k : PUnit → TProg F i α}
    {fin : S20000x1024.Idx → Elt F .f32} {f g : S10000.Idx → Elt F .f32} (hd : Done i fin 625 f g) {f0 : S320000.Idx → Elt F .f32}
    {O : CellTallies nD τ sig (HIx 1)} {W : Waits sig (HIx 1)} :
    iprop(Transfers.MayWaits (V d (cV i) (jV i)) (default : HIx 1) O ∗ vaP d i f ∗ o0Pt d i (outSet i) f0 ∗ semVal (V d (cV i) (jV i), .dma cc0_scoped0.sem) 0 ∗ owesP d i O W)
      ⊢ iprop((iprop(vaP d i f ∗ o0Pt d i (outSet i) (valsOf fin) ∗ semVal (V d (cV i) (jV i), .dma cc0_scoped0.sem) 0 ∗ owesP d i O W) -∗ tw d i (k ⟨⟩) Q)
        -∗ tw d i (.op (.enqueueDma vaM (.here (o0S off h)) (.dma cc0_scoped0.sem) hsrc hdst hsem) fun _ => .op (.waitDma2 cc0_scoped0.sem vaM (o0S off h') hsrc' hdst') k) Q) := by
  have hset : (o0S off h).view.set = outSet i := (View.set_slice_whole _ _).trans (out_rect i ho h)
  have hva : (vaM).view.set = Finset.univ := View.set_whole _
  unfold owesP
  iintro ⟨#Hmw, Hv, Ho, Hs, ⟨%W', %hW', HO⟩⟩ Hk
  iapply (Transfers.wp_dmaLocal (EC (F := F)) 𝒱₀ (V d (cV i) (jV i)) none (src := vaM) (dst := o0S off h) (q := fullShare) (fs := f) (Sd := outSet i) (fd := f0) (default : HIx 1)
    ((o0S ![0] (by decide)).view.dmaCredit) rfl credit0 (by rw [hset])) $$ [Hv Ho Hs]
  · isplitl [Hv]
    · rw [hva]; iexact Hv
    isplitl [Ho]; · iexact Ho
    iexact Hs
  iintro Hfl
  iapply (Transfers.wp_waitLocalO (EC (F := F)) 𝒱₀ (V d (cV i) (jV i)) none (default : HIx 1) (show (o0S off h').view.dmaCredit = (o0S ![0] (by decide)).view.dmaCredit from rfl)) $$ [Hfl HO]
  · isplitl [Hfl]; · iexact Hfl
    isplitl [HO]; · iexact HO
    iapply (Transfers.MayWaits.elim (SemLoc.dma cc0_scoped0.sem)); iexact Hmw
  rw [hva]
  iintro ⟨⟨Ho, Hv⟩, Hs, HO⟩
  iapply Hk
  isplitl [Hv]; · iexact Hv
  isplitl [Ho]
  · iapply (Entails.of_eq (show o0Pt d i (outSet i) ((o0S off h).view.write (Elt F) f0 f Finset.univ) = o0Pt d i (outSet i) (valsOf fin) from
      pointsTo_congr fun y hy => out_write0 i ho h hd f0 y hy))
    iexact Ho
  isplitl [Hs]; · iexact Hs
  iexists (insert (SemLoc.dma cc0_scoped0.sem, (default : HIx 1)) W')
  isplitr
  · ipureintro
    intro p hp
    rcases Finset.mem_insert.mp hp with e | e
    · exact Or.inr (by rw [e]; rfl)
    · exact hW' p e
  iexact HO

abbrev o1Pt (S : Finset S320000.Idx) (f : S320000.Idx → Elt F .f32) : sProp 𝕄 := (V d (cV i) (jV i)).loc main_v2_1_scv ↦[S]{fullShare} f

abbrev o1S (off : Fin 1 → ℕ) (h : ∀ a, off a + S10000.size a ≤ S320000.size a) : Memref sig .scVector .hbm S10000 .f32 :=
  o1M.slice (Rect.unit (s := S320000) off S10000.size h) (fun _ => rfl)

theorem out_write1 {off : Fin 1 → ℕ} (ho : off = ![16 * rowN i 0]) (h : ∀ a, off a + S10000.size a ≤ S320000.size a)
    {fin : S20000x1024.Idx → Elt F .f32} {f g : S10000.Idx → Elt F .f32} (hd : Done i fin 625 f g) (f0 : S320000.Idx → Elt F .f32) (y : S320000.Idx) (hy : y ∈ outSet i) :
    (o1S off h).view.write (Elt F) f0 g Finset.univ y = frqsOf fin y := by
  rw [← out_rect i ho h] at hy
  obtain ⟨x, hx⟩ := LoadRect.exists_idx_of_mem _ hy
  have he : (Rect.unit (s := S320000) off S10000.size h).emb x = y := hx
  have hv : (o1S off h).view.emb x = y := he
  have := View.write_emb_of_mem (v := (o1S off h).view) (Val := Elt F) f0 g (Finset.mem_univ x)
  rw [hv, cast_eq] at this
  exact Eq.trans this (done_at i hd (he ▸ out_emb i ho h x)).2

theorem credit1 : 0 < (o1S ![0] (by decide)).view.dmaCredit := by decide

theorem wp_out1 {α : Type} {Q : α → sProp 𝕄} {off : Fin 1 → ℕ} (ho : off = ![16 * rowN i 0]) {h h' : ∀ a, off a + S10000.size a ≤ S320000.size a}
    {hsrc : (faM).view.WordExact} {hdst : (o1S off h).view.WordExact}
    {hsem : DmaTarget.Typed (nD := nD) .vmem (.dma cc0_scoped1.sem) (DmaTarget.here (p := .scVector ((i 0).castLE hcore0) ((i 1).castLE hsub0)) (o1S off h))}
    {hsrc' : (faM).view.WordExact} {hdst' : (o1S off h').view.WordExact} {k : PUnit → TProg F i α}
    {fin : S20000x1024.Idx → Elt F .f32} {f g : S10000.Idx → Elt F .f32} (hd : Done i fin 625 f g) {f0 : S320000.Idx → Elt F .f32}
    {O : CellTallies nD τ sig (HIx 1)} {W : Waits sig (HIx 1)} :
    iprop(Transfers.MayWaits (V d (cV i) (jV i)) (default : HIx 1) O ∗ faP d i g ∗ o1Pt d i (outSet i) f0 ∗ semVal (V d (cV i) (jV i), .dma cc0_scoped1.sem) 0 ∗ owesP d i O W)
      ⊢ iprop((iprop(faP d i g ∗ o1Pt d i (outSet i) (frqsOf fin) ∗ semVal (V d (cV i) (jV i), .dma cc0_scoped1.sem) 0 ∗ owesP d i O W) -∗ tw d i (k ⟨⟩) Q)
        -∗ tw d i (.op (.enqueueDma faM (.here (o1S off h)) (.dma cc0_scoped1.sem) hsrc hdst hsem) fun _ => .op (.waitDma2 cc0_scoped1.sem faM (o1S off h') hsrc' hdst') k) Q) := by
  have hset : (o1S off h).view.set = outSet i := (View.set_slice_whole _ _).trans (out_rect i ho h)
  have hva : (faM).view.set = Finset.univ := View.set_whole _
  unfold owesP
  iintro ⟨#Hmw, Hv, Ho, Hs, ⟨%W', %hW', HO⟩⟩ Hk
  iapply (Transfers.wp_dmaLocal (EC (F := F)) 𝒱₀ (V d (cV i) (jV i)) none (src := faM) (dst := o1S off h) (q := fullShare) (fs := g) (Sd := outSet i) (fd := f0) (default : HIx 1)
    ((o1S ![0] (by decide)).view.dmaCredit) rfl credit1 (by rw [hset])) $$ [Hv Ho Hs]
  · isplitl [Hv]
    · rw [hva]; iexact Hv
    isplitl [Ho]; · iexact Ho
    iexact Hs
  iintro Hfl
  iapply (Transfers.wp_waitLocalO (EC (F := F)) 𝒱₀ (V d (cV i) (jV i)) none (default : HIx 1) (show (o1S off h').view.dmaCredit = (o1S ![0] (by decide)).view.dmaCredit from rfl)) $$ [Hfl HO]
  · isplitl [Hfl]; · iexact Hfl
    isplitl [HO]; · iexact HO
    iapply (Transfers.MayWaits.elim (SemLoc.dma cc0_scoped1.sem)); iexact Hmw
  rw [hva]
  iintro ⟨⟨Ho, Hv⟩, Hs, HO⟩
  iapply Hk
  isplitl [Hv]; · iexact Hv
  isplitl [Ho]
  · iapply (Entails.of_eq (show o1Pt d i (outSet i) ((o1S off h).view.write (Elt F) f0 g Finset.univ) = o1Pt d i (outSet i) (frqsOf fin) from
      pointsTo_congr fun y hy => out_write1 i ho h hd f0 y hy))
    iexact Ho
  isplitl [Hs]; · iexact Hs
  iexists (insert (SemLoc.dma cc0_scoped1.sem, (default : HIx 1)) W')
  isplitr
  · ipureintro
    intro p hp
    rcases Finset.mem_insert.mp hp with e | e
    · exact Or.inr (by rw [e]; rfl)
    · exact hW' p e
  iexact HO

end Cert.Proof.Tile
-- ==== Proof.Body.lean ====
/-
  A tile's program as a whole, from its share of the launch.
-/
module

public import proofs.«01_k».proof.Proof.Tile

@[expose] public section

noncomputable section

namespace Cert.Proof.Tile

open Cert.KernelIdeal Cert.KernelIdeal.Gen Cert.Proof.Spec Cert.Proof.Bufs

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

variable [FloatOps F] (d : Dev nD) (i : grid0.Coords)

/-! ## The tile's own semaphores and buffers -/

abbrev cl (sm : DmaSem sig) : GSem nD τ sig := (V d (cV i) (jV i), .dma sm)

theorem ne_cl {a b : DmaSem sig} (h : a ≠ b) : cl d i a ≠ cl d i b :=
  fun e => h (SemLoc.dma.inj (Prod.mk.inj e).2)

theorem ownSems0_V : (ownSems0 (V d (cV i) (jV i)) : sProp 𝕄)
    = iprop(semVal (cl d i sm0) 0 ∗ semVal (cl d i sm1) 0 ∗ semVal (cl d i cc0_scoped0.sem) 0 ∗ semVal (cl d i cc0_scoped1.sem) 0
      ∗ bigSep (((((ownCells (V d (cV i) (jV i))).erase (cl d i sm0)).erase (cl d i sm1)).erase (cl d i cc0_scoped0.sem)).erase (cl d i cc0_scoped1.sem)) fun g => semVal g 0) := by
  unfold SparseCore.Cfg.ownSems0
  rw [SparseCore.bigSep_erase' ((mem_ownCells (g := cl d i sm0)).mpr ⟨rfl, by show (SemLoc.dma sm0 : SemLoc sig).isScoped .scVector = true; decide⟩),
    SparseCore.bigSep_erase' (Finset.mem_erase.mpr ⟨ne_cl d i (show (sm1 : DmaSem sig) ≠ sm0 by decide), (mem_ownCells (g := cl d i sm1)).mpr ⟨rfl, by show (SemLoc.dma sm1 : SemLoc sig).isScoped .scVector = true; decide⟩⟩),
    SparseCore.bigSep_erase' (Finset.mem_erase.mpr ⟨ne_cl d i (show (cc0_scoped0.sem : DmaSem sig) ≠ sm1 by decide), Finset.mem_erase.mpr ⟨ne_cl d i (show (cc0_scoped0.sem : DmaSem sig) ≠ sm0 by decide), (mem_ownCells (g := cl d i cc0_scoped0.sem)).mpr ⟨rfl, by show (SemLoc.dma cc0_scoped0.sem : SemLoc sig).isScoped .scVector = true; decide⟩⟩⟩),
    SparseCore.bigSep_erase' (Finset.mem_erase.mpr ⟨ne_cl d i (show (cc0_scoped1.sem : DmaSem sig) ≠ cc0_scoped0.sem by decide), Finset.mem_erase.mpr ⟨ne_cl d i (show (cc0_scoped1.sem : DmaSem sig) ≠ sm1 by decide), Finset.mem_erase.mpr ⟨ne_cl d i (show (cc0_scoped1.sem : DmaSem sig) ≠ sm0 by decide), (mem_ownCells (g := cl d i cc0_scoped1.sem)).mpr ⟨rfl, by show (SemLoc.dma cc0_scoped1.sem : SemLoc sig).isScoped .scVector = true; decide⟩⟩⟩⟩)]

theorem ownBufs_V : (ownBufs (V d (cV i) (jV i)) : sProp 𝕄)
    = iprop((∃ f, (V d (cV i) (jV i)).loc cc0_scratch0 ↦{fullShare} f) ∗ (∃ f, (V d (cV i) (jV i)).loc cc0_scratch1 ↦{fullShare} f) ∗ (∃ f, (V d (cV i) (jV i)).loc cc0_scratch2 ↦{fullShare} f) ∗ (∃ f, (V d (cV i) (jV i)).loc cc0_scratch4 ↦{fullShare} f) ∗ (∃ f, (V d (cV i) (jV i)).loc cc0_scratch5 ↦{fullShare} f)
      ∗ bigSep ((((((ownRefs (τ := τ) (.scVector (cV i) (jV i))).erase ((Proc.scVector (cV i) (jV i)).devRef cc0_scratch0)).erase ((Proc.scVector (cV i) (jV i)).devRef cc0_scratch1)).erase ((Proc.scVector (cV i) (jV i)).devRef cc0_scratch2)).erase ((Proc.scVector (cV i) (jV i)).devRef cc0_scratch4)).erase ((Proc.scVector (cV i) (jV i)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := ((Proc.scVector (cV i) (jV i)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV i) (jV i)) (b := ((Proc.scVector (cV i) (jV i)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV i) (jV i)) (b := ((Proc.scVector (cV i) (jV i)).devRef cc0_scratch2)) rfl⟩⟩),
    SparseCore.bigSep_erase' (Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV i) (jV i)) (b := ((Proc.scVector (cV i) (jV i)).devRef cc0_scratch4)) rfl⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV i) (jV i)) (b := ((Proc.scVector (cV i) (jV i)).devRef cc0_scratch5)) rfl⟩⟩⟩⟩)]

/-! ## The two slots of the row buffer -/

theorem rows_disj : Disjoint (rowSet 0) (rowSet 1) := by
  rw [Finset.disjoint_left]
  intro y h0 h1
  rw [mem_rowSet] at h0 h1
  rw [h0] at h1
  exact absurd h1 (by decide)

theorem rows_cov : rowSet 0 ∪ rowSet 1 = Finset.univ := by
  ext y
  simp only [Finset.mem_union, mem_rowSet, Finset.mem_univ, iff_true]
  have h : (y 0).val < 2 := (y 0).isLt
  rcases (show (y 0).val = 0 ∨ (y 0).val = 1 by omega) with h | h
  · left; exact h
  · right; exact h

theorem buf_split (f : S2x1024.Idx → Elt F .f32) :
    ((V d (cV i) (jV i)).loc cc0_scratch0 ↦{fullShare} f : sProp 𝕄) ⊢ iprop(bufPt d i (rowSet 0) fullShare f ∗ bufPt d i (rowSet 1) fullShare f) := by
  refine (Entails.of_eq ?_).trans (pointsTo_union rows_disj).1
  rw [rows_cov]

theorem buf_join (f g : S2x1024.Idx → Elt F .f32) :
    iprop(bufPt d i (rowSet 0) fullShare f ∗ bufPt d i (rowSet 1) fullShare g) ⊢ (iprop(∃ f, (V d (cV i) (jV i)).loc cc0_scratch0 ↦{fullShare} f) : sProp 𝕄) := by
  iintro H
  ihave H2 := (pointsTo_join rows_disj) $$ H
  rw [rows_cov]
  iexists _; iexact H2

/-! ## The tile's program -/

theorem done_zero (fin : S20000x1024.Idx → Elt F .f32) (f g : S10000.Idx → Elt F .f32) : Done i fin 0 f g := fun _ _ h => absurd h (Nat.not_lt_zero _)

theorem tile_body (hF : (K (F := F)).Facts) {fin : S20000x1024.Idx → Elt F .f32} {f0 f1 : S320000.Idx → Elt F .f32}
    (O : CellTallies nD τ sig (HIx 1)) (W : Waits sig (HIx 1)) (hO : ∀ g, O g none = 0) :
    iprop(levAts (K (F := F)).L (K (F := F)).lev ∗ wmI
        ∗ (inPt d i (tileIn i) fullShare fin ∗ o0Pt d i (outSet i) f0 ∗ o1Pt d i (outSet i) f1)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (cc0__sc_topk_body (F := F) i (Memref.whole main_v0_scv) (Memref.isWhole_whole main_v0_scv) (Memref.whole main_v2_0_scv) (Memref.isWhole_whole main_v2_0_scv) (Memref.whole main_v2_1_scv) (Memref.isWhole_whole main_v2_1_scv) (Memref.whole cc0_scratch0) (Memref.isWhole_whole cc0_scratch0) (Memref.whole cc0_scratch1) (Memref.isWhole_whole cc0_scratch1) (Memref.whole cc0_scratch2) (Memref.isWhole_whole cc0_scratch2) cc0_scratch3 (Memref.whole cc0_scratch4) (Memref.isWhole_whole cc0_scratch4) (Memref.whole cc0_scratch5) (Memref.isWhole_whole cc0_scratch5) cc0_scoped0 cc0_scoped1)
        fun _ => iprop((inPt d i (tileIn i) fullShare fin ∗ o0Pt d i (outSet i) (valsOf fin) ∗ o1Pt d i (outSet i) (frqsOf fin))
          ∗ scopedBufs (V d (cV i) (jV i)) ∗ scopedSems0 (V d (cV i) (jV i))
          ∗ ∃ W', ⌜∀ p ∈ W', p ∈ W ∨ p.2 = none⌝ ∗ owes (V d (cV i) (jV i)) O W') := by
  rw [cc0__sc_topk_body_eq_skeleton]; unfold cc0__sc_topk_body_skel
  rw [k0_part3_eq_skeleton]; unfold k0_part3_skel
  simp only [Prog.lift, Prog.bind_op, Prog.bind_ret, Prog.pure_eq_ret, Prog.bind_assoc]
  rw [(K (F := F)).scopedBufs_V hF d (cV i) (jV i), SparseCore.Cfg.scopedSems0_V (Val := Elt F) d (cV i) (jV i), ownSems0_V, ownBufs_V]
  iintro ⟨#Hlv, #Hwm, ⟨Hin, Ho0, Ho1⟩, ⟨⟨%fb, Hb⟩, ⟨%fv, Hva⟩, ⟨%ff, Hfa⟩, ⟨%fk, Hnk⟩, ⟨%fi, Hni⟩, Hbufs⟩, ⟨Hs0, Hs1, Hs2, Hs3, Hsems⟩, HO⟩
  ihave Hmw := (show levAts (K (F := F)).L (K (F := F)).lev ⊢ Transfers.MayWaits (V d (cV i) (jV i)) (default : HIx 1) O
    from (K (F := F)).mayWaits_none (thr := V d (cV i) (jV i)) hO) $$ Hlv
  icases Hmw with #Hmw
  ihave Hin2 := (pointsTo_share (PosShare.mem_left_op_right fullShare)).1 $$ Hin
  icases Hin2 with ⟨Hil, Hir⟩
  ihave Hb2 := (buf_split d i fb) $$ Hb
  icases Hb2 with ⟨Hb0, Hb1⟩
  iapply (wp_fly d i (r := 0) (b := 0) (sm := sm0) (by decide) (k0_off1_eq i 0) rfl) $$ [Hb0 Hil Hs0]
  · isplitr; · iexact Hwm
    isplitl [Hb0]; · iexact Hb0
    isplitl [Hil]; · iexact Hil
    iexact Hs0
  iintro Hf0
  iapply (wp_fly d i (r := 1) (b := 1) (sm := sm1) (by decide) (k0_off1_eq i 1) rfl) $$ [Hb1 Hir Hs1]
  · isplitr; · iexact Hwm
    isplitl [Hb1]; · iexact Hb1
    isplitl [Hir]; · iexact Hir
    iexact Hs1
  iintro Hf1
  iapply (wp_outer d i (q := fullShare.left) (q' := fullShare.right) (fin := fin) (O := O) (W := W)) $$ [Hf0 Hf1 Hnk Hni Hva Hfa HO]
  · isplitr; · iexact Hwm
    isplitr; · iexact Hmw
    isplitl [Hf0]; · rw [slot_fly d i (show 0 < 625 by decide)]; iexact Hf0
    isplitl [Hf1]; · rw [slot_fly d i (show 1 < 625 by decide)]; iexact Hf1
    isplitl [Hnk Hni]
    · unfold scrP
      iexists fk, fi
      isplitl [Hnk]; · iexact Hnk
      iexact Hni
    isplitl [Hva Hfa]
    · unfold Acc
      iexists fv, ff
      isplitr; · ipureintro; exact done_zero i fin fv ff
      isplitl [Hva]; · iexact Hva
      iexact Hfa
    unfold owesP
    iexists W
    isplitr; · ipureintro; exact fun p hp => Or.inl hp
    iexact HO
  rw [slot_idle d i (show ¬626 < 625 by decide), slot_idle d i (show ¬627 < 625 by decide)]
  unfold Acc scrP
  iintro %acc ⟨⟨%g0, Hb0, Hil, Hs0⟩, ⟨%g1, Hb1, Hir, Hs1⟩, ⟨%fk, %fi, Hnk, Hni⟩, ⟨%f, %g, %hd, Hva, Hfa⟩, HO⟩
  iapply (wp_out0 d i (out_off i) hd (f0 := f0)) $$ [Hva Ho0 Hs2 HO]
  · isplitr; · iexact Hmw
    isplitl [Hva]; · iexact Hva
    isplitl [Ho0]; · iexact Ho0
    isplitl [Hs2]; · iexact Hs2
    iexact HO
  iintro ⟨Hva, Ho0, Hs2, HO⟩
  iapply (wp_out1 d i (out_off i) hd (f0 := f1)) $$ [Hfa Ho1 Hs3 HO]
  · isplitr; · iexact Hmw
    isplitl [Hfa]; · iexact Hfa
    isplitl [Ho1]; · iexact Ho1
    isplitl [Hs3]; · iexact Hs3
    iexact HO
  iintro ⟨Hfa, Ho1, Hs3, HO⟩
  iapply (tw_ret d i)
  unfold owesP
  isplitl [Hil Hir Ho0 Ho1]
  · isplitl [Hil Hir]
    · iapply (pointsTo_share (PosShare.mem_left_op_right fullShare)).2
      isplitl [Hil]; · iexact Hil
      iexact Hir
    isplitl [Ho0]; · iexact Ho0
    iexact Ho1
  isplitl [Hb0 Hb1 Hva Hfa Hnk Hni Hbufs]
  · isplitl [Hb0 Hb1]
    · iapply (buf_join d i g0 g1)
      isplitl [Hb0]; · iexact Hb0
      iexact Hb1
    isplitl [Hva]; · iexists _; iexact Hva
    isplitl [Hfa]; · iexists _; iexact Hfa
    isplitl [Hnk]; · iexists _; iexact Hnk
    isplitl [Hni]; · iexists _; iexact Hni
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Cert.Proof.Tile
-- ==== Proof.Render.lean ====
/-
  The render call on the TensorCore: what one grid step adds to the result's block, and the step's run.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Render

open Cert.KernelIdeal Cert.KernelIdeal.Gen Cert.Proof.Tile

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- What a load through a box reads of contents. -/
abbrev ldr {s : Shape} {e : EltTy} (X : s.Idx → Elt F e) (r : LoadRect s) : r.shape.Idx → Elt F e := fun x => X (r.idx x)

section Rules

variable {sp : CoreSpace} {s : Shape} {e : EltTy} (c : Dev nD)

abbrev rw' {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev ow (m : Memref sig .tc sp s e) (X : s.Idx → Elt F e) : sProp 𝕄 := owns (c : Thread nD τ) m fullShare X

theorem wp_ld {α : Type} {Q : α → sProp 𝕄} {m : Memref sig .tc sp s e} {r : LoadRect s} {hl : m.view.LoadsAt r}
    {k : (r.shape.Idx → Elt F e) → Prog (TpuEff nD τ sig (Elt F) Λ₀ .tc) α} {X : s.Idx → Elt F e} :
    ow c m X ⊢ iprop((ow c m X -∗ rw' c (k (ldr X r)) Q) -∗ rw' c (.op (.load m r hl) k) Q) := by
  unfold ow owns
  iintro ⟨%f, %hf, H⟩ Hk
  iapply (wp_load (Γ := PendingWaitsCtx.empty) (defs := defs₀ (F := F)) 𝒱₀ (c : Thread nD τ) none Set.univ (m := m) (S := m.view.set) (q := fullShare) (f := f)
    (Finset.map_subset_map.2 (Finset.subset_univ _))) $$ H
  iintro H
  have hx : m.view.readAt (Elt F) r f = ldr X r := by
    funext x
    exact congrFun hf (r.idx x)
  rw [hx]
  iapply Hk
  iexists f
  isplitr
  · ipureintro; exact hf
  iexact H

theorem wp_st {α : Type} {Q : α → sProp 𝕄} {m : Memref sig .tc sp s e} {r : Rect s} (hr : ∀ y, ∃ x, r.emb x = y) {w : r.shape.Idx → Elt F e} {w' : s.Idx → Elt F e}
    (hw : ∀ x, w' (r.emb x) = w x)
    {hx : (m.access r).Stores Finset.univ} {hm}
    {k : PUnit → Prog (TpuEff nD τ sig (Elt F) Λ₀ .tc) α} {X : s.Idx → Elt F e} :
    ow c m X ⊢ iprop((ow c m w' -∗ rw' c (k ⟨⟩) Q) -∗ rw' c (.op (.store m r w Finset.univ hx hm) k) Q) := by
  unfold ow owns
  iintro ⟨%f, %hf, H⟩ Hk
  iapply (wp_store (Γ := PendingWaitsCtx.empty) (defs := defs₀ (F := F)) 𝒱₀ (c : Thread nD τ) none Set.univ (m := m) (r := r) (S := m.view.set) (f := f)
    (by rw [View.setOn_univ, View.set_slice]; exact Finset.map_subset_map.2 (Finset.subset_univ _))) $$ H
  iintro H
  iapply Hk
  iexists ((m.access r).write (Elt F) f w Finset.univ)
  isplitr
  · ipureintro
    funext y
    obtain ⟨x, rfl⟩ := hr y
    rw [hw x]
    exact congrFun (View.read_write_univ (v := m.access r) f w) x
  iexact H

end Rules

/-! ## One step's sum -/

section Step

variable (B1 : Vec F S2x512 .f32) (B2 : Vec F S200x3 .f32) (B3 B4 : Vec F S200x2 .f32) (B5 : Vec F S200x1 .f32) (B6 B7 : Vec F S200x32 .f32)

abbrev p0 : Vec F S1x512 .f32 := ldr B1 (Rect.unit (s := S2x512) ![0, 0] S1x512.size inb_S2x512_S1x512_0_0).toLoadRect
abbrev p2 : Vec F S1x512 .f32 := ldr B1 (Rect.unit (s := S2x512) ![1, 0] S1x512.size inb_S2x512_S1x512_1_0).toLoadRect
abbrev p4 : Vec F S200x1 .f32 := ldr B3 (Rect.unit (s := S200x2) ![0, 0] S200x1.size inb_S200x2_S200x1_0_0).toLoadRect
abbrev p5 : Vec F S200x1 .f32 := ldr B3 (Rect.unit (s := S200x2) ![0, 1] S200x1.size inb_S200x2_S200x1_0_1).toLoadRect
abbrev p12 : Vec F S200x1 .f32 := ldr B5 (Rect.unit (s := S200x1) ![0, 0] S200x1.size inb_S200x1_S200x1_0_0).toLoadRect
abbrev p39 : Vec F S200x32 .f32 := ldr B6 (Rect.unit (s := S200x32) ![0, 0] S200x32.size inb_S200x32_S200x32_0_0).toLoadRect
abbrev p41 : Vec F S200x32 .f32 := ldr B7 (Rect.unit (s := S200x32) ![0, 0] S200x32.size inb_S200x32_S200x32_0_0).toLoadRect
abbrev p367 : Vec F S200x3 .f32 := ldr B2 (Rect.unit (s := S200x3) ![0, 0] S200x3.size inb_S200x3_S200x3_0_0).toLoadRect
abbrev p387 (X : Vec F S3x512 .f32) : Vec F S3x512 .f32 := ldr X (Rect.unit (s := S3x512) ![0, 0] S3x512.size inb_S3x512_S3x512_0_0).toLoadRect

/-- The rotated offsets, the envelope, the first wave, and the second but for its last term. -/
def r19 : FVec F S200x512 .f32 := k1_pay6 (p0 B1) (p2 B1) (p4 B3) (p5 B3) (p12 B5)
def r26 : FVec F S200x512 .f32 := k1_pay7 (p0 B1) (p2 B1) (p4 B3) (p5 B3) (p12 B5)
def r38 : FVec F S200x512 .f32 := k1_pay8 (p0 B1) (p2 B1) (p4 B3) (p5 B3) (p12 B5) (p4 B4) (p5 B4)
def waveX (v19 : FVec F S200x512 .f32) (v39 v41 : Vec F S200x32 .f32) : FVec F S200x512 .f32 :=
   k1_pay88 v19 (k1_pay9 v39) (k1_pay10 v41) (k1_pay82 v19 (k1_pay9 v39) (k1_pay10 v41) (k1_pay77 v19 (k1_pay9 v39) (k1_pay10 v41) (k1_pay75 (k1_pay71
    (k1_pay67 (k1_pay61 (k1_pay55 (k1_pay49 (k1_pay43 (k1_pay38 v19 (k1_pay9 v39) (k1_pay10 v41) (k1_pay34 v19 (k1_pay9 v39) (k1_pay10 v41) (k1_pay30
    v19 (k1_pay9 v39) (k1_pay10 v41) (k1_pay24 v19 (k1_pay9 v39) (k1_pay10 v41) (k1_pay18 v19 (k1_pay9 v39) (k1_pay10 v41) (k1_pay12 v19 (k1_pay9 v39)
    v41)))))) (k1_pay40 (k1_pay9 v39)) (k1_pay41 v19 (k1_pay10 v41)) (k1_pay42 (F := F))) (k1_pay45 (k1_pay9 v39)) (k1_pay46 v19 (k1_pay10 v41))
    (k1_pay47 v19 (k1_pay10 v41)) (k1_pay48 (F := F))) (k1_pay51 (k1_pay9 v39)) (k1_pay52 v19 (k1_pay10 v41)) (k1_pay53 v19 (k1_pay10 v41)) (k1_pay54
    (F := F))) (k1_pay57 (k1_pay9 v39)) (k1_pay58 v19 (k1_pay10 v41)) (k1_pay59 v19 (k1_pay10 v41)) (k1_pay60 (F := F))) (k1_pay63 (k1_pay9 v39))
    (k1_pay64 v19 (k1_pay10 v41)) (k1_pay65 v19 (k1_pay10 v41)) (k1_pay66 (F := F))) (k1_pay69 (k1_pay9 v39)) (k1_pay70 v19 (k1_pay10 v41))
    (Scalar.ofBits .f32 0xC1A891A0#32)) (k1_pay73 (k1_pay9 v39)) (k1_pay74 v19 (k1_pay10 v41)))))
def waveY (v26 : FVec F S200x512 .f32) (v39 v41 : Vec F S200x32 .f32) : FVec F S200x512 .f32 :=
   k1_pay87 (k1_pay81 (k1_pay76 v26 (k1_pay9 v39) (k1_pay10 v41) (k1_pay72 v26 (k1_pay9 v39) (k1_pay10 v41) (k1_pay68 v26 (k1_pay9 v39) (k1_pay10 v41)
    (k1_pay62 v26 (k1_pay9 v39) (k1_pay10 v41) (k1_pay56 v26 (k1_pay9 v39) (k1_pay10 v41) (k1_pay50 v26 (k1_pay9 v39) (k1_pay10 v41) (k1_pay44 v26
    (k1_pay9 v39) (k1_pay10 v41) (k1_pay39 v26 (k1_pay9 v39) (k1_pay10 v41) (k1_pay37 (k1_pay33 (k1_pay29 (k1_pay23 (k1_pay17 (k1_pay11 (F := F))
    (k1_pay13 (k1_pay9 v39)) (k1_pay14 v26 v41) (k1_pay15 v26 v41) (k1_pay16 (F := F))) (k1_pay19 (k1_pay9 v39)) (k1_pay20 v26 (k1_pay10 v41))
    (k1_pay21 v26 (k1_pay10 v41)) (k1_pay22 (F := F))) (k1_pay25 (k1_pay9 v39)) (k1_pay26 v26 (k1_pay10 v41)) (k1_pay27 v26 (k1_pay10 v41)) (k1_pay28
    (F := F))) (k1_pay31 (k1_pay9 v39)) (k1_pay32 v26 (k1_pay10 v41)) (Scalar.ofBits .f32 0xC1A891A0#32)) (k1_pay35 (k1_pay9 v39)) (k1_pay36 v26
    (k1_pay10 v41))))))))))) (k1_pay78 (k1_pay9 v39)) (k1_pay79 v26 (k1_pay10 v41)) (k1_pay80 (F := F))) (k1_pay83 (k1_pay9 v39)) (k1_pay84 v26
    (k1_pay10 v41)) (k1_pay85 v26 (k1_pay10 v41)) (k1_pay86 (F := F))

/-- A step's sum, the second wave's last term added on the way; and a step's new block: the old one and the sum. -/
def gain (v26 v38 w0 w1 : FVec F S200x512 .f32) (v39 v41 : Vec F S200x32 .f32) (v879 : Vec F S200x3 .f32) : FVec F S3x512 .f32 :=
  k1_pay93 v38 w1 w0 (k1_pay89 (k1_pay9 v39)) (k1_pay90 v26 (k1_pay10 v41)) (k1_pay91 v26 (k1_pay10 v41)) (k1_pay92 (F := F)) v879
def step (X : Vec F S3x512 .f32) : Vec F S3x512 .f32 :=
  k1_pay1 (gain (r26 B1 B3 B5) (r38 B1 B3 B4 B5) (waveX (r19 B1 B3 B5) (p39 B6) (p41 B7)) (waveY (r26 B1 B3 B5) (p39 B6) (p41 B7)) (p39 B6) (p41 B7) (p367 B2)) (p387 X)

end Step

/-- The steps that start from zero: the first. -/
abbrev first (i : grid1.Coords) : Prop := Scalar.cmpi .ne (Scalar.extui (Scalar.cmpi .eq (BitVec.ofNat 32 (i 0).val) 0#32) : BitVec 32) 0#32 = 1#1

theorem full_emb (y : S3x512.Idx) : ∃ x, (Rect.unit (s := S3x512) ![0, 0] S3x512.size inb_S3x512_S3x512_0_0).emb x = y := by
  refine ⟨y, ?_⟩
  funext a
  refine Fin.ext ?_
  match a with
  | 0 => show 0 + 1 * (y 0).val = _; omega
  | 1 => show 0 + 1 * (y 1).val = _; omega

theorem full_emb_eq (x : S3x512.Idx) : (Rect.unit (s := S3x512) ![0, 0] S3x512.size inb_S3x512_S3x512_0_0).emb x = x := by
  funext a
  refine Fin.ext ?_
  match a with
  | 0 => show 0 + 1 * (x 0).val = _; omega
  | 1 => show 0 + 1 * (x 1).val = _; omega

theorem wp_stOut (c : Dev nD) {α : Type} {Q : α → sProp 𝕄} {m : Memref sig .tc .vmem S3x512 .f32} {w : Vec F S3x512 .f32}
    {hx : (m.access (Rect.unit (s := S3x512) ![0, 0] S3x512.size inb_S3x512_S3x512_0_0)).Stores Finset.univ} {hm}
    {k : PUnit → Prog (TpuEff nD τ sig (Elt F) Λ₀ .tc) α} {X : S3x512.Idx → Elt F .f32} :
    ow c m X ⊢ iprop((ow c m w -∗ rw' c (k ⟨⟩) Q)
      -∗ rw' c (.op (.store m (Rect.unit (s := S3x512) ![0, 0] S3x512.size inb_S3x512_S3x512_0_0) w Finset.univ hx hm) k) Q) :=
  wp_st c full_emb (fun x => congrArg w (full_emb_eq x))

variable (c : Dev nD) (i : grid1.Coords)

set_option maxRecDepth 65536 in
theorem body_run (a1 : Memref sig .tc .vmem S2x512 .f32) (h1 : a1.IsWhole) (a2 : Memref sig .tc .vmem S200x3 .f32) (h2 : a2.IsWhole)
    (a3 : Memref sig .tc .vmem S200x2 .f32) (h3 : a3.IsWhole) (a4 : Memref sig .tc .vmem S200x2 .f32) (h4 : a4.IsWhole)
    (a5 : Memref sig .tc .vmem S200x1 .f32) (h5 : a5.IsWhole) (a6 : Memref sig .tc .vmem S200x32 .f32) (h6 : a6.IsWhole)
    (a7 : Memref sig .tc .vmem S200x32 .f32) (h7 : a7.IsWhole) (a8 : Memref sig .tc .vmem S3x512 .f32) (h8 : a8.IsWhole)
    (B1 : Vec F S2x512 .f32) (B2 : Vec F S200x3 .f32) (B3 B4 : Vec F S200x2 .f32) (B5 : Vec F S200x1 .f32) (B6 B7 : Vec F S200x32 .f32) (X : Vec F S3x512 .f32)
    (Q : PUnit → sProp 𝕄) :
    iprop(ow c a1 B1 ∗ ow c a2 B2 ∗ ow c a3 B3 ∗ ow c a4 B4 ∗ ow c a5 B5 ∗ ow c a6 B6 ∗ ow c a7 B7 ∗ ow c a8 X
      ∗ ((ow c a1 B1 ∗ ow c a2 B2 ∗ ow c a3 B3 ∗ ow c a4 B4 ∗ ow c a5 B5 ∗ ow c a6 B6 ∗ ow c a7 B7
          ∗ ow c a8 (step B1 B2 B3 B4 B5 B6 B7 (if first i then k1_pay94 (F := F) else X))) -∗ Q ⟨⟩))
    ⊢ rw' c (cc1__render_body (F := F) i a1 h1 a2 h2 a3 h3 a4 h4 a5 h5 a6 h6 a7 h7 a8 h8) Q := by
  unfold step gain r38 r19 r26 waveX waveY
  rw [cc1__render_body_eq_skeleton]
  unfold cc1__render_body_skel
  rw [k1_part19_eq_skeleton]
  unfold k1_part19_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel k1_part18_skel
  simp only [Prog.lift, Prog.bind_op, Prog.bind_ret, Prog.pure_eq_ret]
  iintro ⟨H1, H2, H3, H4, H5, H6, H7, H8, Hk⟩
  iapply (wp_ld c) $$ H1; iintro H1
  iapply (wp_ld c) $$ H1; iintro H1
  iapply (wp_ld c) $$ H3; iintro H3
  iapply (wp_ld c) $$ H3; iintro H3
  iapply (wp_ld c) $$ H5; iintro H5
  iapply (wp_ld c) $$ H4; iintro H4
  iapply (wp_ld c) $$ H4; iintro H4
  iapply (wp_ld c) $$ H6; iintro H6
  iapply (wp_ld c) $$ H7; iintro H7
  iapply (wp_ld c) $$ H2; iintro H2
  by_cases hf : first i
  · rw [dif_pos hf, if_pos hf]
    iapply (wp_ld c) $$ H8; iintro H8
    iapply (wp_stOut c) $$ H8; iintro H8
    iapply (wp_ld c) $$ H8; iintro H8
    iapply (wp_ld c) $$ H8; iintro H8
    iapply (wp_stOut c) $$ H8; iintro H8
    unfold rw'
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dif_neg hf, if_neg hf]
    iapply (wp_ld c) $$ H8; iintro H8
    iapply (wp_ld c) $$ H8; iintro H8
    iapply (wp_stOut c) $$ H8; iintro H8
    unfold rw'
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Proof.Render
-- ==== Proof.Region.lean ====
/-
  The render call's region: the running sum over the 50 steps, and what the call makes of the buffers.
-/
module

public import proofs.«01_k».proof.Proof.Render
public import Idealize.ShloMosaic.Lib.Pipeline.Value
public import Idealize.ShloMosaic.Lib.Pipeline.Regions

@[expose] public section

noncomputable section

namespace Cert.Proof.Render

open Cert.KernelIdeal Cert.KernelIdeal.Gen Cert.Proof.Tile

open Idealize.ShloMosaic Idealize.ShloMosaic.TcCoe
open Idealize.ShloMosaic.SparseCore.Cfg (HIx)
open Idealize.ShloMosaic.Pipeline (Dat arrRef)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (V : Dev nD → Valuation τ sig (Elt F)) (c : Dev nD)

/-! ## The blocks and their running sum -/

/-- A window's block at a step, read from the buffers. -/
def iblk (w : Fin cfg1.W) (t : Fin cfg1.N) : ((cfg1.win w).xblock (cfg1.grid.coords t)).Idx → Elt F (cfg1.win w).elt :=
  ((cfg1.win w).blk t).view.read (Elt F) (V c (Proc.devRef .tc (arrRef spec1 w)))

/-- A step on the step's blocks. -/
def stepAt (t : Fin cfg1.N) (X : Vec F S3x512 .f32) : Vec F S3x512 .f32 :=
  step (iblk V c 0 t) (iblk V c 1 t) (iblk V c 2 t) (iblk V c 3 t) (iblk V c 4 t) (iblk V c 5 t) (iblk V c 6 t) X

/-- The sum after step `n`. -/
def acc : (n : ℕ) → n < cfg1.N → Vec F S3x512 .f32
  | 0, h => stepAt V c ⟨0, h⟩ k1_pay94
  | n + 1, h => stepAt V c ⟨n + 1, h⟩ (acc n (Nat.lt_of_succ_lt h))

def recs : Set (SemLoc sig × HIx 1) := {p | (K (F := F)).lev ((c : Thread nD τ), p.1) p.2 ≤ 8 * SparseCore.Cfg.Blocks.fst (Q := 1) (N := 1) 1}

def dat : Dat τ (Elt F) (HIx 1) ℕ (UU F) ℕ cfg1 c where
  A w := V c (Proc.devRef .tc (arrRef spec1 w))
  after := fun
    | 0, t => iblk V c 0 t
    | 1, t => iblk V c 1 t
    | 2, t => iblk V c 2 t
    | 3, t => iblk V c 3 t
    | 4, t => iblk V c 4 t
    | 5, t => iblk V c 5 t
    | 6, t => iblk V c 6 t
    | 7, t => acc V c t.val t.isLt
  Φ _ := BI.emp
  q _ := fullShare
  owed _ := 0
  recorded _ := recs (F := F) c

theorem first_iff : ∀ t : Fin cfg1.N, first (grid1.coords t) ↔ t.val = 0 := by decide +kernel

theorem before0 (t : Fin cfg1.N) (d) : (dat V c).before 0 t d = iblk V c 0 t :=
  (dat V c).before_in_eq_fetched 0 rfl (fun _ => rfl) (fun _ _ _ => rfl) (fun _ => rfl) t d
theorem before1 (t : Fin cfg1.N) (d) : (dat V c).before 1 t d = iblk V c 1 t :=
  (dat V c).before_in_eq_fetched 1 rfl (fun _ => rfl) (fun _ _ _ => rfl) (fun _ => rfl) t d
theorem before2 (t : Fin cfg1.N) (d) : (dat V c).before 2 t d = iblk V c 2 t :=
  (dat V c).before_in_eq_fetched 2 rfl (fun _ => rfl) (fun _ _ _ => rfl) (fun _ => rfl) t d
theorem before3 (t : Fin cfg1.N) (d) : (dat V c).before 3 t d = iblk V c 3 t :=
  (dat V c).before_in_eq_fetched 3 rfl (fun _ => rfl) (fun _ _ _ => rfl) (fun _ => rfl) t d
theorem before4 (t : Fin cfg1.N) (d) : (dat V c).before 4 t d = iblk V c 4 t :=
  (dat V c).before_in_eq_fetched 4 rfl (fun _ => rfl) (fun _ _ _ => rfl) (fun _ => rfl) t d
theorem before5 (t : Fin cfg1.N) (d) : (dat V c).before 5 t d = iblk V c 5 t :=
  (dat V c).before_in_eq_fetched 5 rfl (fun _ => rfl) (fun _ _ _ => rfl) (fun _ => rfl) t d
theorem before6 (t : Fin cfg1.N) (d) : (dat V c).before 6 t d = iblk V c 6 t :=
  (dat V c).before_in_eq_fetched 6 rfl (fun _ => rfl) (fun _ _ _ => rfl) (fun _ => rfl) t d

theorem before7 (t : Fin cfg1.N) (ht : t.val ≠ 0) (d) :
    (dat V c).before 7 t d = acc V c (t.val - 1) (Nat.lt_of_le_of_lt (Nat.sub_le _ _) t.isLt) := by
  refine (dat V c).before_out_kept 7 rfl t ht ?_ (fun _ => rfl) (fun _ _ => rfl) d
  rw [Bool.eq_false_iff]
  intro h
  have h49 := (flush1_7 _).mp h
  have hN : cfg1.N = 50 := N_1
  have := t.isLt
  dsimp only at h49
  omega

/-- The sum after a step, from what the step finds. -/
theorem acc_eq (t : Fin cfg1.N) (d) :
    acc V c t.val t.isLt = stepAt V c t (if first (grid1.coords t) then k1_pay94 (F := F) else (dat V c).before 7 t d) := by
  obtain ⟨n, hn⟩ := t
  cases n with
  | zero => rw [if_pos ((first_iff _).2 rfl)]; rfl
  | succ n => rw [if_neg (fun h => Nat.succ_ne_zero n ((first_iff _).1 h)), before7 V c _ (Nat.succ_ne_zero n)]; rfl

theorem row (t : Fin cfg1.N) : defs₀ (F := F) .tc cfg1.body (cfg1.bodyArgs t (cfg1.slots t)) = bodyAt1 t := rfl

theorem row_run (t : Fin cfg1.N) :
    iprop((BI.emp : sProp 𝕄) ∗ (dat V c).owesAt none t.castSucc
      ∗ (∃ d, owns (c : Thread nD τ) (st1_0 t) fullShare ((dat V c).before 0 t d)) ∗ (∃ d, owns (c : Thread nD τ) (st1_1 t) fullShare ((dat V c).before 1 t d))
      ∗ (∃ d, owns (c : Thread nD τ) (st1_2 t) fullShare ((dat V c).before 2 t d)) ∗ (∃ d, owns (c : Thread nD τ) (st1_3 t) fullShare ((dat V c).before 3 t d))
      ∗ (∃ d, owns (c : Thread nD τ) (st1_4 t) fullShare ((dat V c).before 4 t d)) ∗ (∃ d, owns (c : Thread nD τ) (st1_5 t) fullShare ((dat V c).before 5 t d))
      ∗ (∃ d, owns (c : Thread nD τ) (st1_6 t) fullShare ((dat V c).before 6 t d)) ∗ (∃ d, owns (c : Thread nD τ) (st1_7 t) fullShare ((dat V c).before 7 t d)))
    ⊢ wp frame (wpE (defs₀ (F := F)) 𝒱₀ (c : Thread nD τ) none) Set.univ (bodyAt1 t) fun _ =>
      iprop((BI.emp : sProp 𝕄) ∗ (dat V c).owesAt none t.succ
      ∗ owns (c : Thread nD τ) (st1_0 t) fullShare (iblk V c 0 t) ∗ owns (c : Thread nD τ) (st1_1 t) fullShare (iblk V c 1 t)
      ∗ owns (c : Thread nD τ) (st1_2 t) fullShare (iblk V c 2 t) ∗ owns (c : Thread nD τ) (st1_3 t) fullShare (iblk V c 3 t)
      ∗ owns (c : Thread nD τ) (st1_4 t) fullShare (iblk V c 4 t) ∗ owns (c : Thread nD τ) (st1_5 t) fullShare (iblk V c 5 t)
      ∗ owns (c : Thread nD τ) (st1_6 t) fullShare (iblk V c 6 t) ∗ owns (c : Thread nD τ) (st1_7 t) fullShare (acc V c t.val t.isLt)) := by
  simp only [before0, before1, before2, before3, before4, before5, before6]
  iintro ⟨-, HO, ⟨%e0, H0⟩, ⟨%e1, H1⟩, ⟨%e2, H2⟩, ⟨%e3, H3⟩, ⟨%e4, H4⟩, ⟨%e5, H5⟩, ⟨%e6, H6⟩, ⟨%e7, H7⟩⟩
  iapply (body_run c (grid1.coords t) (st1_0 t) _ (st1_1 t) _ (st1_2 t) _ (st1_3 t) _ (st1_4 t) _ (st1_5 t) _ (st1_6 t) _ (st1_7 t) _
    (iblk V c 0 t) (iblk V c 1 t) (iblk V c 2 t) (iblk V c 3 t) (iblk V c 4 t) (iblk V c 5 t) (iblk V c 6 t) ((dat V c).before 7 t e7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [acc_eq V c t e7]
  iintro ⟨H0, H1, H2, H3, H4, H5, H6, H7⟩
  isplitr; · iempintro
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obl : Pipeline.BodyObligation (dat V c) (defs₀ (F := F)) 𝒱₀ none Set.univ := fun t => by
  rw [bigSep_W1, bigSep_W1, row]
  exact row_run V c t

/-! ## The result's array -/

theorem lt_N : 49 < cfg1.N := by rw [show cfg1.N = 50 from N_1]; decide

/-- What the call writes: the sum after the last step. -/
abbrev total : S3x512.Idx → Elt F .f32 := acc V c 49 lt_N

theorem flushed_eq (t : Fin cfg1.N) (hf : (cfg1.win 7).flush t = true) :
    (dat V c).flushed 7 t = ((cfg1.win 7).blk t).view.read (Elt F) (total V c) := by
  have hN : cfg1.N = 50 := N_1
  have h := (flush1_7 t).mp hf
  have h49 : t.val = 49 := by have := t.isLt; omega
  obtain rfl : t = ⟨49, lt_N⟩ := Fin.ext h49
  show (cfg1.win 7).cut (grid1.coords ⟨49, lt_N⟩) ((dat V c).after 7 ⟨49, lt_N⟩) = _
  have hz' : (fun a => win1_7.index ⟨49, lt_N⟩ a * main_v5.ty.shape.size a) = fun _ => 0 := funext fun a => by fin_cases a <;> decide
  exact (Memref.read_access_unit_zero (Elt F) main_v5 hz' (fun a => by rw [congrFun hz' a]; simp) (total V c)).symm

theorem final_o : (dat V c).arrAt 7 cfg1.N = total V c :=
  (dat V c).arrAt_eq_of_cover 7 (total V c) (flushed_eq V c) fun i =>
    ⟨⟨49, lt_N⟩, (flush1_7 _).mpr rfl, by
      show i ∈ ((View.whole main_v5).slice (win1_7.rect ⟨49, lt_N⟩)).set
      rw [View.set_slice_whole, Rect.mem_set_unit]
      intro a
      have h0 : (i 0 : Nat) < 3 := (i 0).isLt
      have h1 : (i 1 : Nat) < 512 := (i 1).isLt
      match a with
      | ⟨0, _⟩ => show win1_7.index ⟨49, lt_N⟩ 0 * win1_7.size 0 ≤ (i 0 : Nat) ∧ (i 0 : Nat) < win1_7.index ⟨49, lt_N⟩ 0 * win1_7.size 0 + win1_7.xsize (grid1.coords ⟨49, lt_N⟩) 0
                  rw [show win1_7.index ⟨49, lt_N⟩ 0 * win1_7.size 0 = 0 from by decide +kernel, show win1_7.xsize (grid1.coords ⟨49, lt_N⟩) 0 = 3 from by decide +kernel]; omega
      | ⟨1, _⟩ => show win1_7.index ⟨49, lt_N⟩ 1 * win1_7.size 1 ≤ (i 1 : Nat) ∧ (i 1 : Nat) < win1_7.index ⟨49, lt_N⟩ 1 * win1_7.size 1 + win1_7.xsize (grid1.coords ⟨49, lt_N⟩) 1
                  rw [show win1_7.index ⟨49, lt_N⟩ 1 * win1_7.size 1 = 0 from by decide +kernel, show win1_7.xsize (grid1.coords ⟨49, lt_N⟩) 1 = 512 from by decide +kernel]; omega⟩

/-- The buffers after the call. -/
abbrev out' : DevRef τ sig := Proc.devRef .tc (main_v5 : Ref sig .tc)
def after : Valuation τ sig (Elt F) := Function.update (V c) out' (total V c)

/-! ## The region -/

abbrev adm : (p : Fin 1) → (pcfgs (F := F) p).Adm := fun p => (cfgs p).toPCfg_adm
def pdats : (p : Fin 1) → (c : Dev nD) → Dat τ (Elt F) (HIx 1) ℕ (UU F) ℕ (Pipeline.pin (pcfgs (F := F)) adm p) c
  | 0 => dat V

theorem share_eq (w : Fin cfg1.W) : (pdats V 0 c).share w = fullShare := by
  show (dat V c).share w = fullShare
  unfold Dat.share
  split <;> rfl

theorem arr_after (w : Fin cfg1.W) : (dat V c).arrAt w cfg1.N = after V c (Proc.devRef .tc (arrRef spec1 w)) := by
  unfold after
  match w with
  | 0 => rw [Function.update_of_ne (by decide)]; exact (dat V c).arrAt_in 0 rfl _
  | 1 => rw [Function.update_of_ne (by decide)]; exact (dat V c).arrAt_in 1 rfl _
  | 2 => rw [Function.update_of_ne (by decide)]; exact (dat V c).arrAt_in 2 rfl _
  | 3 => rw [Function.update_of_ne (by decide)]; exact (dat V c).arrAt_in 3 rfl _
  | 4 => rw [Function.update_of_ne (by decide)]; exact (dat V c).arrAt_in 4 rfl _
  | 5 => rw [Function.update_of_ne (by decide)]; exact (dat V c).arrAt_in 5 rfl _
  | 6 => rw [Function.update_of_ne (by decide)]; exact (dat V c).arrAt_in 6 rfl _
  | 7 => exact (final_o V c).trans (Function.update_self (β := fun b : DevRef τ sig => b.ty.Contents (Elt F)) out' (total V c) (V c)).symm

theorem bufs_after :
    iprop((dat V c).arrays ((dat V c).arrAt · cfg1.N) ∗ Pipeline.unscopedRest spec1 c (fun b => V c b))
      ⊢ (unscopedBufs c (fun b => after V c b) : sProp 𝕄) := by
  rw [Pipeline.unscopedBufs_split (Pipeline.pin (pcfgs (F := F)) adm) 0 winFacts1.arr_unscoped winFacts1.arr_inj c]
  refine sep_mono (Entails.of_eq ?_) (Entails.of_eq ?_)
  · refine (Pipeline.arrays_eq (Pipeline.pin (pcfgs (F := F)) adm) (pdats V) 0 c arr_whole1 (share_eq V c) _).trans ?_
    exact bigSep_congr fun w _ => by rw [← arr_after V c w]
  · show _ = Pipeline.unscopedRest spec1 c (fun b => after V c b)
    rw [unscopedRest1_eq, unscopedRest1_eq]
    unfold after
    rw [Function.update_of_ne (by decide), Function.update_of_ne (by decide), Function.update_of_ne (by decide),
      Function.update_of_ne (by decide), Function.update_of_ne (by decide), Function.update_of_ne (by decide)]

theorem bigSep_none {M : Type} [URA M] (Φ : Fin 0 → sProp M) : bigSep Finset.univ Φ = (BI.emp : sProp M) :=
  bigSep_univ_eq_bigSepL [] (by decide) (by decide) Φ

theorem pref_emp (q) (pf) : (Pipeline.prefHeld (Ix := HIx 1) (Name := ℕ) (U := UU F) (Lvl := ℕ) (Val := Elt F) (pcfgs (F := F) 0).pre c q pf : sProp 𝕄) = BI.emp :=
  bigSep_none _

/-- The thread owes nothing, and what its waits recorded lies below the next call. -/
abbrev idle : sProp 𝕄 := iprop(∃ W, ⌜(K (F := F)).WBelow (SparseCore.T c) W (8 * SparseCore.Cfg.Blocks.fst (Q := 1) (N := 1) 1)⌝ ∗ owes (SparseCore.T c) (0 : CellTallies nD τ sig (HIx 1)) W)

theorem owes_in (t : Fin (cfg1.N + 1)) : idle c ⊢ ((dat V c).owesAt none t : sProp 𝕄) := by
  unfold Dat.owesAt Pipeline.owesWithin Dat.bound
  iintro ⟨%W, %hW, HO⟩
  iexists W
  isplitr
  · ipureintro; exact fun p hp => Or.inl (hW p hp)
  iexact HO
theorem owes_out (t : Fin (cfg1.N + 1)) : ((dat V c).owesAt none t : sProp 𝕄) ⊢ idle c := by
  unfold Dat.owesAt Pipeline.owesWithin Dat.bound
  iintro ⟨%W, %hW, HO⟩
  iexists W
  isplitr
  · ipureintro
    intro p hp
    rcases hW hp with h | ⟨w, s, h⟩
    · exact h
    · rw [h]; exact Nat.zero_le _
  iexact HO

def reg : Pipeline.RegionSeg (pcfgs (F := F)) adm (pdats V) none (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody c := (body_obl V c).loose
  hwaits := Pipeline.hwaits_of_owed_zero _ _ _ _ _ _ 0 fun _ _ => rfl
  pre c := iprop(unscopedBufs c (fun b => V c b) ∗ idle c)
  post c := iprop(unscopedBufs c (fun b => after V c b) ∗ idle c)
  X _ := BI.emp
  Y _ := BI.emp
  Z c := Pipeline.unscopedRest spec1 c (fun b => V c b)
  hentry c := by
    rw [Pipeline.ownSems0_none, pref_emp]
    iintro ⟨⟨Hb, HO⟩, -, -⟩
    ihave Hb' := (Pipeline.arrays_of_unscopedBufs (pcfgs (F := F)) adm (pdats V) (p := 0) winFacts1 arr_whole1 c (share_eq V c) (fun b => V c b) (fun _ => rfl)) $$ Hb
    icases Hb' with ⟨Ha, Hr⟩
    imodintro
    isplitl [Ha]; · iexact Ha
    isplitr; · iempintro
    isplitl [HO]; · iapply (owes_in V c 0); iexact HO
    isplitr; · iempintro
    iexact Hr
  hin c := by
    show _ ⊢ (BI.emp : sProp 𝕄)
    iintro -; iempintro
  hout c := by
    rw [Pipeline.ownSems0_none]
    show _ ⊢ iprop(BI.emp ∗ BI.emp ∗ Pipeline.scopedRest spec1 c)
    rw [scopedRest1_eq]
    iintro -
    isplitr; · iempintro
    isplitr <;> iempintro
  hexit c := by
    iintro ⟨Ha, HO, -, Hr⟩
    imodintro
    isplitl [Ha Hr]
    · iapply (bufs_after V c)
      isplitl [Ha]; · iexact Ha
      iexact Hr
    iapply (owes_out V c _); iexact HO

end Cert.Proof.Render
-- ==== Proof.Launch.lean ====
/-
  The launch: the input dealt to the tiles, the two results gathered, and the program's run.
-/
module

public import proofs.«01_k».proof.Proof.Body
public import proofs.«01_k».proof.Proof.Region

@[expose] public section

noncomputable section

namespace Cert.Proof.Tile

open Cert.KernelIdeal Cert.KernelIdeal.Gen Cert.Proof.Spec Cert.Proof.Bufs

open Idealize.ShloMosaic
open Idealize.ShloMosaic.SparseCore (S V)
open Idealize.ShloMosaic.SparseCore.Cfg (HIx Pay)
open Idealize.ShloMosaic.Rounds
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

def coordsV (c : Fin (grid0.bound 0)) (s : Fin (grid0.bound 1)) : grid0.Coords :=
  fun | 0 => c | 1 => s | ⟨_ + 2, h⟩ => absurd h (Nat.not_lt.2 (Nat.le_add_left _ _))

/-! ## The parts of the arrays -/

def coreIn (c : Fin 2) : Finset S20000x1024.Idx := Finset.univ.biUnion fun s : Fin 16 => tileIn (coordsV c s)
def coreOut (c : Fin 2) : Finset S320000.Idx := Finset.univ.biUnion fun s : Fin 16 => outSet (coordsV c s)

theorem rowN_coords (c : Fin 2) (s : Fin 16) (r : ℕ) : rowN (coordsV c s) r = 1250 * s.val + 625 * c.val + r := rfl

theorem mem_tileIn (c : Fin 2) (s : Fin 16) (y : S20000x1024.Idx) :
    y ∈ tileIn (coordsV c s) ↔ 1250 * s.val + 625 * c.val ≤ (y 0).val ∧ (y 0).val < 1250 * s.val + 625 * c.val + 625 := by
  unfold tileIn
  rw [Finset.mem_filter, rowN_coords, rowN_coords]
  exact and_iff_right (Finset.mem_univ y)

theorem mem_outSet (c : Fin 2) (s : Fin 16) (y : S320000.Idx) :
    y ∈ outSet (coordsV c s) ↔ 16 * (1250 * s.val + 625 * c.val) ≤ (y 0).val ∧ (y 0).val < 16 * (1250 * s.val + 625 * c.val + 625) := by
  unfold outSet
  rw [Finset.mem_filter, rowN_coords, rowN_coords]
  exact and_iff_right (Finset.mem_univ y)

theorem tileIn_disj (c : Fin 2) : ∀ s ∈ (Finset.univ : Finset (Fin 16)), ∀ s' ∈ (Finset.univ : Finset (Fin 16)), s ≠ s' →
    Disjoint (tileIn (coordsV c s)) (tileIn (coordsV c s')) := by
  intro s _ s' _ h
  rw [Finset.disjoint_left]
  intro y h1 h2
  rw [mem_tileIn] at h1 h2
  exact h (Fin.ext (by omega))

theorem outSet_disj (c : Fin 2) : ∀ s ∈ (Finset.univ : Finset (Fin 16)), ∀ s' ∈ (Finset.univ : Finset (Fin 16)), s ≠ s' →
    Disjoint (outSet (coordsV c s)) (outSet (coordsV c s')) := by
  intro s _ s' _ h
  rw [Finset.disjoint_left]
  intro y h1 h2
  rw [mem_outSet] at h1 h2
  exact h (Fin.ext (by omega))

theorem mem_coreIn (c : Fin 2) (y : S20000x1024.Idx) : y ∈ coreIn c ↔ (y 0).val / 625 % 2 = c.val := by
  have hy : (y 0).val < 20000 := (y 0).isLt
  simp only [coreIn, Finset.mem_biUnion, Finset.mem_univ, true_and, mem_tileIn]
  have hc := c.isLt
  constructor
  · rintro ⟨s, h1, h2⟩
    omega
  · intro h
    exact ⟨⟨(y 0).val / 1250, by omega⟩, by show 1250 * ((y 0).val / 1250) + _ ≤ _; omega, by show _ < 1250 * ((y 0).val / 1250) + _ + _; omega⟩

theorem mem_coreOut (c : Fin 2) (y : S320000.Idx) : y ∈ coreOut c ↔ (y 0).val / 10000 % 2 = c.val := by
  have hy : (y 0).val < 320000 := (y 0).isLt
  simp only [coreOut, Finset.mem_biUnion, Finset.mem_univ, true_and, mem_outSet]
  have hc := c.isLt
  constructor
  · rintro ⟨s, h1, h2⟩
    omega
  · intro h
    exact ⟨⟨(y 0).val / 20000, by omega⟩, by show 16 * (1250 * ((y 0).val / 20000) + _) ≤ _; omega, by show _ < 16 * (1250 * ((y 0).val / 20000) + _ + _); omega⟩

theorem coreIn_disj : Disjoint (coreIn 0) (coreIn 1) := by
  rw [Finset.disjoint_left]
  intro y h1 h2
  rw [mem_coreIn] at h1 h2
  rw [h1] at h2
  exact absurd h2 (by decide)
theorem coreIn_cov : coreIn 0 ∪ coreIn 1 = Finset.univ := by
  ext y
  simp only [Finset.mem_union, mem_coreIn, Finset.mem_univ, iff_true]
  show _ = 0 ∨ _ = 1
  omega
theorem coreOut_disj : Disjoint (coreOut 0) (coreOut 1) := by
  rw [Finset.disjoint_left]
  intro y h1 h2
  rw [mem_coreOut] at h1 h2
  rw [h1] at h2
  exact absurd h2 (by decide)
theorem coreOut_cov : coreOut 0 ∪ coreOut 1 = Finset.univ := by
  ext y
  simp only [Finset.mem_union, mem_coreOut, Finset.mem_univ, iff_true]
  show _ = 0 ∨ _ = 1
  omega

variable [FloatOps F] (m : (ℓ : Loc nD τ sig) → Buf (Elt F) ℓ) (ρ : Dev nD → PrngReg)

/-! ## What the handshakes carry -/

abbrev aLoc (d : Dev nD) : Loc nD τ sig := (SparseCore.T d).loc main_arg5
abbrev iLoc (d : Dev nD) : Loc nD τ sig := (SparseCore.T d).loc main_v0
abbrev pLoc (d : Dev nD) : Loc nD τ sig := (SparseCore.T d).loc main_v2_0
abbrev qLoc (d : Dev nD) : Loc nD τ sig := (SparseCore.T d).loc main_v2_1

/-- The input, one part of each result, at given contents: a core's and a tile's. -/
abbrev coreP (d : Dev nD) (c : Fin 2) (fin : S20000x1024.Idx → Elt F .f32) (f0 f1 : S320000.Idx → Elt F .f32) : sProp 𝕄 :=
  iprop((iLoc d ↦[coreIn c]{fullShare} fin) ∗ (pLoc d ↦[coreOut c]{fullShare} f0) ∗ (qLoc d ↦[coreOut c]{fullShare} f1))
abbrev tileP (d : Dev nD) (i : grid0.Coords) (fin : S20000x1024.Idx → Elt F .f32) (f0 f1 : S320000.Idx → Elt F .f32) : sProp 𝕄 :=
  iprop(inPt d i (tileIn i) fullShare fin ∗ o0Pt d i (outSet i) f0 ∗ o1Pt d i (outSet i) f1)

theorem core_tiles (d : Dev nD) (c : Fin 2) (fin : S20000x1024.Idx → Elt F .f32) (f0 f1 : S320000.Idx → Elt F .f32) :
    coreP d c fin f0 f1 = bigSep (Finset.univ : Finset (Fin 16)) fun s => tileP d (coordsV c s) fin f0 f1 := by
  show _ = bigSep (Finset.univ : Finset (Fin 16)) fun s => iprop((iLoc d ↦[tileIn (coordsV c s)]{fullShare} fin) ∗ (pLoc d ↦[outSet (coordsV c s)]{fullShare} f0) ∗ (qLoc d ↦[outSet (coordsV c s)]{fullShare} f1))
  rw [bigSep_sep', bigSep_sep', ← pointsTo_biUnion Finset.univ (ℓ := iLoc d) (fun s : Fin 16 => tileIn (coordsV c s)) (tileIn_disj c),
    ← pointsTo_biUnion Finset.univ (ℓ := pLoc d) (fun s : Fin 16 => outSet (coordsV c s)) (outSet_disj c),
    ← pointsTo_biUnion Finset.univ (ℓ := qLoc d) (fun s : Fin 16 => outSet (coordsV c s)) (outSet_disj c)]
  rfl

/-- The flat input the call reads: @main's reshape of the launch's argument. -/
abbrev opR : HloOp τ sig (Elt F) := StableHlo.reshape main_arg5 main_v0 (rfl : (.f32 : EltTy) = .f32) shapeCasts_S10000x2x1024_S20000x1024
def V0 (d : Dev nD) : Valuation τ sig (Elt F) := fun b => m (d, b)
def xin (d : Dev nD) : S20000x1024.Idx → Elt F .f32 := (opR (F := F)).result (V0 m d) (Proc.devRef .tc (main_v0 : Ref sig .tc))

def P : (K (F := F)).Pay (nD := nD) (Val := Elt F) (Name := ℕ) (U := UU F) where
  st := fun q d c => match q with | 0 => coreP d c (xin m d) (m (pLoc d)) (m (qLoc d))
  dn := fun q d c => match q with | 0 => coreP d c (xin m d) (valsOf (xin m d)) (frqsOf (xin m d))
  go := fun q d c i => match q with | 0 => tileP d (coordsV c i) (xin m d) (m (pLoc d)) (m (qLoc d))
  td := fun q d c i => match q with | 0 => tileP d (coordsV c i) (xin m d) (valsOf (xin m d)) (frqsOf (xin m d))
  x := fun q thr => match q, thr with
    | 0, (_, .scVector _ _) => wmI
    | _, _ => iprop(emp)

instance P_storable : (P (F := F) m).IsStorable where
  st q d c := match q with
    | 0 => (inferInstance : BI.Storable (upEmb : UEmb _ 𝕄) (coreP d c (xin m d) (m (pLoc d)) (m (qLoc d))))
  dn q d c := match q with
    | 0 => (inferInstance : BI.Storable (upEmb : UEmb _ 𝕄) (coreP d c (xin m d) (valsOf (xin m d)) (frqsOf (xin m d))))
  go q d c i := match q with
    | 0 => (inferInstance : BI.Storable (upEmb : UEmb _ 𝕄) (tileP d (coordsV c i) (xin m d) (m (pLoc d)) (m (qLoc d))))
  td q d c i := match q with
    | 0 => (inferInstance : BI.Storable (upEmb : UEmb _ 𝕄) (tileP d (coordsV c i) (xin m d) (valsOf (xin m d)) (frqsOf (xin m d))))

/-! ## The launch theorem's obligations -/

theorem defs₀_vector (c : Fin τ.nSC) (s : Fin τ.nSub) :
    defs₀ (F := F) (.scVector c s) 0 ()
      = SparseCore.onTile hcore0 hsub0 (fun c s => cc0__sc_topk_body (coordsV c s)
          (Memref.whole main_v0_scv) (Memref.isWhole_whole main_v0_scv) (Memref.whole main_v2_0_scv) (Memref.isWhole_whole main_v2_0_scv) (Memref.whole main_v2_1_scv) (Memref.isWhole_whole main_v2_1_scv)
          (Memref.whole cc0_scratch0) (Memref.isWhole_whole cc0_scratch0) (Memref.whole cc0_scratch1) (Memref.isWhole_whole cc0_scratch1) (Memref.whole cc0_scratch2) (Memref.isWhole_whole cc0_scratch2)
          cc0_scratch3 (Memref.whole cc0_scratch4) (Memref.isWhole_whole cc0_scratch4) (Memref.whole cc0_scratch5) (Memref.isWhole_whole cc0_scratch5) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO).trans (wp_mono frame _ _ fun _ => obl_post)

theorem vecSplit : (K (F := F)).VecSplit' (P m) 0 := by
  intro d c
  show coreP d c (xin m d) (m (pLoc d)) (m (qLoc d)) ⊢ |={Set.univ}=> iprop(
      (bigSep (Finset.univ : Finset (Fin 16)) fun i => tileP d (coordsV c i) (xin m d) (m (pLoc d)) (m (qLoc d)))
      ∗ ((bigSep (Finset.univ : Finset (Fin 16)) fun i => tileP d (coordsV c i) (xin m d) (valsOf (xin m d)) (frqsOf (xin m d)))
          -∗ coreP d c (xin m d) (valsOf (xin m d)) (frqsOf (xin m d))))
  rw [← core_tiles (F := F) d c, ← core_tiles (F := F) d c]
  iintro H; imodintro
  isplitl [H]; · iexact H
  iintro H; iexact H

/-! ## The launch's ghost state -/

theorem phinj : Function.Injective (Pipeline.cellOf (nD := nD) (τ := τ) (Pipeline.pin (pcfgs (F := F)) Render.adm)) := cellOf_inj

/-- The render call's cells at the launch. -/
def uP : UP := initOf (Pipeline.cells (Pipeline.pin (pcfgs (F := F)) Render.adm) phinj) (Pipeline.launchToks (Pipeline.pin (pcfgs (F := F)) Render.adm) phinj)

/-- What the render call's pipeline starts from on a device. -/
def ghost (d : Dev nD) : sProp 𝕄 :=
  iprop(Pipeline.cellsGhost (Pipeline.pin (pcfgs (F := F)) Render.adm) EP 0 d ∗ Pipeline.toksInit (Pipeline.pin (pcfgs (F := F)) Render.adm) EP 0 d)

def u₀ : UU F := (initOf (K (F := F)).hsCells (K (F := F)).hsToks, (wm₀ nD τ sig (Elt F), (uP (F := F), 1)))

theorem ownU_split (a : UH) (b : UW F) (p : UP) :
    (ownU ((a, (b, (p, 1))) : UU F) : sProp 𝕄) ⊢ iprop(BI.own (EH (F := F) a) ∗ ownU (EW (F := F) b) ∗ BI.own (EP (F := F) p)) := by
  have h1 : (ownU ((a, (b, (p, 1))) : UU F) : sProp 𝕄) ⊢ iprop(BI.own (EH (F := F) a) ∗ ownU ((1, (b, (p, 1))) : UU F)) :=
    BI.own_op_elim ((uEmb (nD := nD) (sig := sig) (Ix := HIx 1) (Val := Elt F) (Name := ℕ) (U := UU F) (Lvl := ℕ)).toEmb.op_of_mem
      (Prod.mk_mem_op (URA.mem_op_one a) (URA.mem_one_op ((b, (p, 1)) : UW F × (UP × Counters)))))
  have h2 : (ownU ((1, (b, (p, 1))) : UU F) : sProp 𝕄) ⊢ iprop(ownU (EW (F := F) b) ∗ BI.own (EP (F := F) p)) :=
    BI.own_op_elim ((uEmb (nD := nD) (sig := sig) (Ix := HIx 1) (Val := Elt F) (Name := ℕ) (U := UU F) (Lvl := ℕ)).toEmb.op_of_mem
      (Prod.mk_mem_op (URA.mem_op_one (1 : UH)) (Prod.mk_mem_op (URA.mem_op_one b) (URA.mem_one_op ((p, 1) : UP × Counters)))))
  iintro H
  ihave H := h1 $$ H
  icases H with ⟨H1, H⟩
  isplitl [H1]; · iexact H1
  iapply h2; iexact H

theorem ghost_deal : (BI.own (EP (F := F) (uP (F := F))) : sProp 𝕄) ⊢ |==> bigSep Finset.univ fun d : Dev nD => ghost (F := F) d := by
  unfold uP
  iintro H
  imod (Pipeline.fund_ghost (Pipeline.pin (pcfgs (F := F)) Render.adm) EP phinj) $$ H with ⟨Hg, Ht⟩
  imodintro
  unfold ghost
  rw [bigSep_sep']
  have h (Φ : Fin 1 → Dev nD → sProp 𝕄) : (bigSep Finset.univ fun c : Dev nD => bigSep Finset.univ fun p => Φ p c) = bigSep Finset.univ fun c : Dev nD => Φ 0 c :=
    bigSep_congr fun c _ => bigSep_univ_of_subsingleton (0 : Fin 1)
  rw [← h, ← h]
  isplitl [Hg]; · iexact Hg
  iexact Ht

theorem bigSep_emp' {I : Type} (s : Finset I) : (bigSep s fun _ => iprop(emp)) = (iprop(emp) : sProp 𝕄) := bigSep_emp_const s

theorem bigSep_wm {I : Type} [DecidableEq I] (s : Finset I) : (wmI : sProp 𝕄) ⊢ bigSep s fun _ => (wmI : sProp 𝕄) := by
  induction s using Finset.induction_on with
  | empty => rw [bigSep_empty]; iintro -; iempintro
  | insert a s ha ih =>
    rw [SparseCore.bigSep_insert' ha]
    iintro #H
    isplitr; · iexact H
    iapply ih; iexact H

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = wmI :=
  bigSep_univ_of_subsingleton (0 : Fin 1)

theorem wm_deal : (wmI : sProp 𝕄) ⊢ bigSep Finset.univ fun thr : Thread nD τ => bigSep Finset.univ fun q : Fin 1 => (P m).x q thr := by
  rw [SparseCore.Cfg.bigSep_threads (fun thr : Thread nD τ => bigSep Finset.univ fun q : Fin 1 => (P m).x q thr)]
  simp only [Px_T, Px_S, Px_V, bigSep_emp']
  iintro H
  isplitr; · iempintro
  isplitr; · iempintro
  iapply (bigSep_wm (F := F) Finset.univ); iexact H

theorem hu₀ (ρ : Dev nD → PrngReg) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_split _ _ _) $$ Hu
  icases H with ⟨HH, HK, HP⟩
  imod (ghost_deal (F := F)) $$ HP with HP
  imod (wmInv_alloc (Ix := HIx 1) (Name := ℕ) (Lvl := ℕ) (emb := EW (F := F)) ⟨m, fun _ => 0, ρ⟩ ∅ (E := Set.univ)) $$ HK with ⟨%ι, -, Hwm⟩
  imodintro
  isplitl [HH]; · iexact HH
  isplitl [HP]; · iexact HP
  iapply (wm_deal m)
  unfold wmI
  iexists ι; iexact Hwm

/-! ## The buffers through @main -/

abbrev i' : DevRef τ sig := Proc.devRef .tc (main_v0 : Ref sig .tc)
abbrev p' : DevRef τ sig := Proc.devRef .tc (main_v2_0 : Ref sig .tc)
abbrev q' : DevRef τ sig := Proc.devRef .tc (main_v2_1 : Ref sig .tc)

/-- @main's buffers, and those of the SparseCores' call. -/
def bufs : Finset (DevRef τ sig) := (StableHlo.tcRefs τ sig).filter fun b => ¬ b.isScoped
abbrev ST : Finset (DevRef τ sig) := {i', p', q'}

abbrev opT : HloOp τ sig (Elt F) := StableHlo.unary main_arg0 main_v1 ((transpose S2x512 [1, 0] · transposes_S512x2_S2x512_1_0) : (⟨S512x2, .f32⟩ : BufTy).Contents (Elt F) → (⟨S2x512, .f32⟩ : BufTy).Contents (Elt F))
abbrev opA : HloOp τ sig (Elt F) := StableHlo.reshape main_v2_0 main_v3 (rfl : (.f32 : EltTy) = .f32) shapeCasts_S320000_S10000x32
abbrev opB : HloOp τ sig (Elt F) := StableHlo.reshape main_v2_1 main_v4 (rfl : (.f32 : EltTy) = .f32) shapeCasts_S320000_S10000x32
abbrev opO : HloOp τ sig (Elt F) := StableHlo.unary main_v5 main_v6 ((transpose S512x3 [1, 0] · transposes_S3x512_S512x3_1_0) : (⟨S3x512, .f32⟩ : BufTy).Contents (Elt F) → (⟨S512x3, .f32⟩ : BufTy).Contents (Elt F))

/-- The buffers before the SparseCores' call, after it, before the render call, and at the end. -/
def V2 (d : Dev nD) : Valuation τ sig (Elt F) := (opT (F := F)).result ((opR (F := F)).result (V0 m d))
def V3 (d : Dev nD) : Valuation τ sig (Elt F) := Function.update (Function.update (V2 m d) p' (valsOf (xin m d))) q' (frqsOf (xin m d))
def V5 (d : Dev nD) : Valuation τ sig (Elt F) := (opB (F := F)).result ((opA (F := F)).result (V3 m d))
def V7 (d : Dev nD) : Valuation τ sig (Elt F) := (opO (F := F)).result (Render.after (V5 m) d)

theorem unscopedBufs_held (c : Dev nD) (W : Valuation τ sig (Elt F)) :
    (unscopedBufs c (fun b => W (Proc.devRef .tc b)) : sProp 𝕄) = held (SparseCore.T c) bufs W := by
  unfold unscopedBufs held bufs StableHlo.tcRefs
  rw [Finset.filter_map, BI.bigSep_map]
  rfl

theorem held_ST (d : Dev nD) (W : Valuation τ sig (Elt F)) :
    (held (SparseCore.T d) ST W : sProp 𝕄) = iprop((iLoc d ↦{fullShare} W i') ∗ (pLoc d ↦{fullShare} W p') ∗ (qLoc d ↦{fullShare} W q')) := by
  unfold held ST
  rw [SparseCore.bigSep_insert' (by decide), SparseCore.bigSep_insert' (by decide), bigSep_singleton]

theorem ST_sub : ST ⊆ bufs := by decide

theorem V2_i (d : Dev nD) : V2 m d i' = xin m d := (opT (F := F)).result_of_not_mem _ (b := i') (show i' ∉ ({Proc.devRef .tc (main_v1 : Ref sig .tc)} : Finset (DevRef τ sig)) by decide)
theorem V2_p (d : Dev nD) : V2 m d p' = m (pLoc d) :=
  ((opT (F := F)).result_of_not_mem _ (b := p') (show p' ∉ ({Proc.devRef .tc (main_v1 : Ref sig .tc)} : Finset (DevRef τ sig)) by decide)).trans
    ((opR (F := F)).result_of_not_mem _ (b := p') (show p' ∉ ({i'} : Finset (DevRef τ sig)) by decide))
theorem V2_q (d : Dev nD) : V2 m d q' = m (qLoc d) :=
  ((opT (F := F)).result_of_not_mem _ (b := q') (show q' ∉ ({Proc.devRef .tc (main_v1 : Ref sig .tc)} : Finset (DevRef τ sig)) by decide)).trans
    ((opR (F := F)).result_of_not_mem _ (b := q') (show q' ∉ ({i'} : Finset (DevRef τ sig)) by decide))
theorem V3_i (d : Dev nD) : V3 m d i' = xin m d := by
  unfold V3; rw [Function.update_of_ne (by decide), Function.update_of_ne (by decide), V2_i]
theorem V3_p (d : Dev nD) : V3 m d p' = valsOf (xin m d) := by
  unfold V3; rw [Function.update_of_ne (by decide)]; exact Function.update_self (β := fun b : DevRef τ sig => b.ty.Contents (Elt F)) _ _ _
theorem V3_q (d : Dev nD) : V3 m d q' = frqsOf (xin m d) := by
  unfold V3; exact Function.update_self (β := fun b : DevRef τ sig => b.ty.Contents (Elt F)) _ _ _

theorem held_before (d : Dev nD) : (held (SparseCore.T d) bufs (V2 m d) : sProp 𝕄)
    = iprop(((iLoc d ↦{fullShare} xin m d) ∗ (pLoc d ↦{fullShare} m (pLoc d)) ∗ (qLoc d ↦{fullShare} m (qLoc d))) ∗ held (SparseCore.T d) (bufs \ ST) (V2 m d)) := by
  rw [StableHlo.held_sub_split (SparseCore.T d) ST_sub, held_ST, V2_i, V2_p, V2_q]
theorem held_after (d : Dev nD) : (held (SparseCore.T d) bufs (V3 m d) : sProp 𝕄)
    = iprop(((iLoc d ↦{fullShare} xin m d) ∗ (pLoc d ↦{fullShare} valsOf (xin m d)) ∗ (qLoc d ↦{fullShare} frqsOf (xin m d))) ∗ held (SparseCore.T d) (bufs \ ST) (V2 m d)) := by
  rw [StableHlo.held_sub_split (SparseCore.T d) ST_sub, held_ST, V3_i, V3_p, V3_q]
  congr 1
theorem cores_eq (d : Dev nD) (fin : S20000x1024.Idx → Elt F .f32) (f0 f1 : S320000.Idx → Elt F .f32) :
    iprop(coreP d 0 fin f0 f1 ∗ coreP d 1 fin f0 f1) ⊣⊢ (iprop((iLoc d ↦{fullShare} fin) ∗ (pLoc d ↦{fullShare} f0) ∗ (qLoc d ↦{fullShare} f1)) : sProp 𝕄) := by
  have hi := pointsTo_union (Ix := HIx 1) (Name := ℕ) (U := UU F) (Lvl := ℕ) (ℓ := iLoc d) (q := fullShare) (f := fin) coreIn_disj
  have hp := pointsTo_union (Ix := HIx 1) (Name := ℕ) (U := UU F) (Lvl := ℕ) (ℓ := pLoc d) (q := fullShare) (f := f0) coreOut_disj
  have hq := pointsTo_union (Ix := HIx 1) (Name := ℕ) (U := UU F) (Lvl := ℕ) (ℓ := qLoc d) (q := fullShare) (f := f1) coreOut_disj
  rw [coreIn_cov] at hi
  rw [coreOut_cov] at hp hq
  constructor
  · iintro ⟨⟨Hi, Hp, Hq⟩, ⟨Hi', Hp', Hq'⟩⟩
    isplitl [Hi Hi']
    · iapply hi.2; isplitl [Hi]; · iexact Hi
      iexact Hi'
    isplitl [Hp Hp']
    · iapply hp.2; isplitl [Hp]; · iexact Hp
      iexact Hp'
    iapply hq.2; isplitl [Hq]; · iexact Hq
    iexact Hq'
  · iintro ⟨Hi, Hp, Hq⟩
    ihave Hi := hi.1 $$ Hi
    ihave Hp := hp.1 $$ Hp
    ihave Hq := hq.1 $$ Hq
    icases Hi with ⟨Hi, Hi'⟩
    icases Hp with ⟨Hp, Hp'⟩
    icases Hq with ⟨Hq, Hq'⟩
    isplitl [Hi Hp Hq]
    · isplitl [Hi]; · iexact Hi
      isplitl [Hp]; · iexact Hp
      iexact Hq
    · isplitl [Hi']; · iexact Hi'
      isplitl [Hp']; · iexact Hp'
      iexact Hq'

theorem st0_eq (d : Dev nD) : (bigSep Finset.univ fun c : Fin ((K (F := F)).nCore 0) => (P m).st 0 d c)
    = iprop(coreP d 0 (xin m d) (m (pLoc d)) (m (qLoc d)) ∗ coreP d 1 (xin m d) (m (pLoc d)) (m (qLoc d))) := by
  show (bigSep (Finset.univ : Finset (Fin 2)) fun c => coreP d c (xin m d) (m (pLoc d)) (m (qLoc d))) = _
  rw [show (Finset.univ : Finset (Fin 2)) = {0, 1} by decide, SparseCore.bigSep_insert' (by decide), bigSep_singleton]
theorem dn0_eq (d : Dev nD) : (bigSep Finset.univ fun c : Fin ((K (F := F)).nCore 0) => (P m).dn 0 d c)
    = iprop(coreP d 0 (xin m d) (valsOf (xin m d)) (frqsOf (xin m d)) ∗ coreP d 1 (xin m d) (valsOf (xin m d)) (frqsOf (xin m d))) := by
  show (bigSep (Finset.univ : Finset (Fin 2)) fun c => coreP d c (xin m d) (valsOf (xin m d)) (frqsOf (xin m d))) = _
  rw [show (Finset.univ : Finset (Fin 2)) = {0, 1} by decide, SparseCore.bigSep_insert' (by decide), bigSep_singleton]

theorem hR : (opR (F := F)).bufs ⊆ bufs := by
  rw [StableHlo.reshape_bufs]; decide
theorem hT : (opT (F := F)).bufs ⊆ bufs := by
  rw [StableHlo.unary_bufs]; decide
theorem hA : (opA (F := F)).bufs ⊆ bufs := by
  rw [StableHlo.reshape_bufs]; decide
theorem hB : (opB (F := F)).bufs ⊆ bufs := by
  rw [StableHlo.reshape_bufs]; decide
theorem hO : (opO (F := F)).bufs ⊆ bufs := by
  rw [StableHlo.unary_bufs]; decide

/-! ## The render call, as @main calls it -/

theorem render_run [∀ e, Nonempty (Elt F e)] (V : Dev nD → Valuation τ sig (Elt F)) (d : Dev nD) (Φ : PUnit → sProp 𝕄) :
    iprop((iprop(boundary (SparseCore.T d) ∗ held (SparseCore.T d) bufs (Render.after V d) ∗ Render.idle d) -∗ Φ ⟨⟩)
        ∗ boundary (SparseCore.T d) ∗ held (SparseCore.T d) bufs (V d) ∗ Render.idle d ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ())) Φ := by
  have hl : wp frame (wpE (D (F := F)) 𝒱 (SparseCore.T d) none) Set.univ (.op (.customCall (Pipeline.entry 0) ()) fun x => .ret x) Φ
      ⊢ wp frame (wpE ((K (F := F)).defs (D (F := F))) 𝒱 (SparseCore.T d) none) Set.univ
          (Prog.lift (.customCall (SparseCore.inner (Pipeline.entry 0)) ())) Φ :=
    (K (F := F)).wp_liftProg (D (F := F)) 𝒱 (SparseCore.T d) Set.univ none (.op (.customCall (Pipeline.entry 0) ()) fun x => .ret x) Φ
  have hw : iprop((iprop(boundary (SparseCore.T d) ∗ unscopedBufs d (fun b => Render.after V d (Proc.devRef .tc b)) ∗ Render.idle d)
          -∗ wp frame (wpE (D (F := F)) 𝒱 (SparseCore.T d) none) Set.univ (.ret ⟨⟩) Φ)
        ∗ boundary (SparseCore.T d) ∗ (unscopedBufs d (fun b => V d (Proc.devRef .tc b)) ∗ Render.idle d) ∗ levAts (K (F := F)).L (K (F := F)).lev
        ∗ Pipeline.cellsGhost (Pipeline.pin (pcfgs (F := F)) Render.adm) EP 0 d ∗ Pipeline.toksInit (Pipeline.pin (pcfgs (F := F)) Render.adm) EP 0 d)
      ⊢ wp frame (wpE (D (F := F)) 𝒱 (SparseCore.T d) none) Set.univ (.op (.customCall (Pipeline.entry 0) ()) fun x => .ret x) Φ :=
    Pipeline.RegionSeg.wp (pcfgs (F := F)) Render.adm (Render.pdats V) none phinj EP (defs₀ (F := F)) 𝒱₀ (K (F := F)).L (K (F := F)).lev
      (Render.reg V) d none (fun _ h => nomatch h) (fun x => .ret x) Φ
  refine BIBase.Entails.trans ?_ (BIBase.Entails.trans hw hl)
  unfold ghost
  rw [← unscopedBufs_held, ← unscopedBufs_held]
  iintro ⟨Hk, Hb, Hh, HO, Hl, Hg, Ht⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

/-- What @main leaves: every buffer. -/
abbrev FIN (d : Dev nD) : sProp 𝕄 := held (SparseCore.T d) bufs (V7 m d)

/-- What a TensorCore's thread holds beside its debts once the SparseCore's call is over. -/
def over (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tc_one (d : Dev nD) : ((K (F := F)).tcSt EH d 1 : sProp 𝕄) = iprop(Render.idle d ∗ over (F := F) d) := by
  unfold SparseCore.Cfg.tcSt Render.idle over
  rw [(K (F := F)).Otc_end d (le_refl 1)]

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) bufs (V0 m d) from unscopedBufs_held d (V0 m d)]
  simp only [main, wp_bind, wp_pure]
  iintro ⟨#Hctx, Hst, ⟨Hb, Hh, Hts, -⟩, Hg⟩
  iapply (wp_hlo_within 𝒱 (SparseCore.T d) none Set.univ (op := opR) (S := bufs) hR (V := V0 m d)) $$ [Hb Hh]
  · isplitl [Hb]; · iexact Hb
    iexact Hh
  iintro ⟨Hb, Hh⟩
  rw [wp_ret]; imodintro
  iapply (wp_hlo_within 𝒱 (SparseCore.T d) none Set.univ (op := opT) (S := bufs) hT (V := (opR (F := F)).result (V0 m d))) $$ [Hb Hh]
  · isplitl [Hb]; · iexact Hb
    iexact Hh
  iintro ⟨Hb, Hh⟩
  rw [wp_ret]; imodintro
  ihave Hh := (Entails.of_eq (show (held (SparseCore.T d) bufs ((opT (F := F)).result ((opR (F := F)).result (V0 m d))) : sProp 𝕄) = _ from held_before m d)) $$ Hh
  icases Hh with ⟨⟨Hi, Hp, Hq⟩, Hr⟩
  iapply ((K (F := F)).wp_run (D (F := F)) 𝒱 (EH := EH) (P := P m) κ d 0) $$ [Hst Hi Hp Hq Hb Hts Hr Hg]
  isplitr; · iexact Hctx
  isplitl [Hst]; · iexact Hst
  isplitl [Hi Hp Hq]
  · rw [st0_eq]
    iapply (cores_eq d (xin m d) (m (pLoc d)) (m (qLoc d))).2
    isplitl [Hi]; · iexact Hi
    isplitl [Hp]; · iexact Hp
    iexact Hq
  iintro ⟨Hst, Hdn⟩
  ihave Hdn' := (Entails.of_eq (dn0_eq m d)) $$ Hdn
  ihave Hd := (cores_eq d (xin m d) (valsOf (xin m d)) (frqsOf (xin m d))).1 $$ Hdn'
  ihave Hh := (Entails.of_eq (held_after m d).symm) $$ [Hd Hr]
  · isplitl [Hd]; · iexact Hd
    iexact Hr
  iapply (wp_hlo_within 𝒱 (SparseCore.T d) none Set.univ (op := opA) (S := bufs) hA (V := V3 m d)) $$ [Hb Hh]
  · isplitl [Hb]; · iexact Hb
    iexact Hh
  iintro ⟨Hb, Hh⟩
  rw [wp_ret]; imodintro
  iapply (wp_hlo_within 𝒱 (SparseCore.T d) none Set.univ (op := opB) (S := bufs) hB (V := (opA (F := F)).result (V3 m d))) $$ [Hb Hh]
  · isplitl [Hb]; · iexact Hb
    iexact Hh
  iintro ⟨Hb, Hh⟩
  rw [wp_ret]; imodintro
  ihave Hst := (Entails.of_eq (show ((K (F := F)).tcSt EH d ((0 : Fin 1).val + 1) : sProp 𝕄) = _ from tc_one d)) $$ Hst
  icases Hst with ⟨HO, Hst⟩
  iapply (render_run (V5 m) d)
  isplitr [Hb Hh HO Hg]
  · iintro ⟨Hb, Hh, HO⟩
    iapply (wp_hlo_within 𝒱 (SparseCore.T d) none Set.univ (op := opO) (S := bufs) hO (V := Render.after (V5 m) d)) $$ [Hb Hh]
    · isplitl [Hb]; · iexact Hb
      iexact Hh
    iintro ⟨Hb, Hh⟩
    rw [wp_ret]; imodintro
    imodintro
    isplitl [HO Hst]
    · iapply (Entails.of_eq (tc_one (F := F) d).symm)
      isplitl [HO]; · iexact HO
      iexact Hst
    isplitl [Hh]; · iexact Hh
    isplitl [Hb] <;> iassumption
  isplitl [Hb]; · iexact Hb
  isplitl [Hh]; · iexact Hh
  isplitl [HO]; · iexact HO
  isplitr
  · iapply (SparseCore.Cfg.ctx_levAts κ); iexact Hctx
  iexact Hg

def fq (d : Dev nD) (s' : Phys nD τ sig (Elt F)) : Prop := ∀ b ∈ bufs, s'.mem.mem (d, b) = V7 m d b

theorem hfin (d : Dev nD) (s' : Phys nD τ sig (Elt F)) : iprop(FIN m d ∗ SI s') ⊢ (⌜fq m d s'⌝ : sProp 𝕄) := by
  unfold FIN held
  iintro ⟨Hh, HSI⟩
  ihave H := (pointsTo_read_all bufs (fun b : DevRef τ sig => ((d, b) : Loc nD τ sig)) (V7 m d) s') $$ [Hh HSI]
  · isplitl [Hh]; · iexact Hh
    iexact HSI
  icases H with ⟨%h, -⟩
  ipureintro
  exact h

/-! ## The program's run -/

def QC : PUnit × MemSt nD τ sig (Elt F) → Prop :=
  fun r => (∀ c : Dev nD, ∀ b ∈ bufs, r.2.mem (c, b) = V7 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => ghost (F := F) d) (FIN m) (u₀ (F := F)) (sep_elim_left.trans (hu₀ m ρ)) (hmain m ρ) (fq m) (hfin m) (QC m) (fun _ h hz => ⟨h, hz⟩)

end Cert.Proof.Tile
-- ==== Proof.Top.lean ====
/-
  What one row's selection leaves over the extended reals: the sixteen places of a node hold the node's sixteen largest
  magnitudes, and where the sixteenth stands above the seventeenth they are those places in some order.
-/
module

public import proofs.«01_k».proof.Proof.Spec
public import Idealize.ShloMosaic.PureOps.Ideal
public import Mathlib.Order.Fin.Basic
public import Mathlib.Data.Fintype.Card
public import Mathlib.Order.Hom.Basic
public import Mathlib.Algebra.BigOperators.Group.Finset.Basic

@[expose] public section

namespace Cert.Proof.Spec

open Cert.KernelIdeal
open Idealize.ShloMosaic

theorem cmp_one {p : CmpFPredicate} {x y : EReal} :
    (Ideal.cmp p x y = 1#1) ↔ match p with
      | .oeq | .ueq => x = y
      | .ogt | .ugt => y < x
      | .oge | .uge => y ≤ x
      | .olt | .ult => x < y
      | .ole | .ule => x ≤ y
      | .one | .une => x ≠ y
      | .ord => True
      | .uno => False := by
  have hb : ∀ b : Bool, BitVec.ofBool b = 1#1 ↔ b = true := by decide
  unfold Ideal.cmp
  rw [hb]
  cases p <;> simp

/-! ## The rank is a permutation -/

section Rank

variable (k : Vec Ideal S16 .f32)

/-- Lane `j` goes before lane `x`: a smaller key, or the same key at an earlier lane. -/
def Before (j x : S16.Idx) : Prop := k j < k x ∨ k j = k x ∧ nat j < nat x

theorem goes_iff (x : S16.Idx) (j : Fin 16) : goes k x j = 1#1 ↔ Before k (lane j) x := by
  unfold goes Before
  rw [nat_lane]
  by_cases h : j.val < nat x
  · rw [if_pos h]
    refine (cmp_one (p := .ole)).trans ?_
    show k (lane j) ≤ k x ↔ _
    rw [le_iff_lt_or_eq]
    simp [h]
  · rw [if_neg h]
    by_cases h' : nat x < j.val
    · rw [if_pos h']
      refine (cmp_one (p := .olt)).trans ?_
      show k (lane j) < k x ↔ _
      simp [h]
    · rw [if_neg h']
      have : lane j = x := idx_ext (by rw [nat_lane]; omega)
      simp [this, h]

theorem before_total {x y : S16.Idx} (h : x ≠ y) : Before k x y ∨ Before k y x := by
  have hn : nat x ≠ nat y := fun e => h (idx_ext e)
  unfold Before
  rcases lt_trichotomy (k x) (k y) with e | e | e
  · exact .inl (.inl e)
  · rcases Nat.lt_or_gt_of_ne hn with l | l
    · exact .inl (.inr ⟨e, l⟩)
    · exact .inr (.inr ⟨e.symm, l⟩)
  · exact .inr (.inl e)

theorem before_trans {x y z : S16.Idx} (h : Before k x y) (h' : Before k y z) : Before k x z := by
  unfold Before at *
  rcases h with h | ⟨h, l⟩ <;> rcases h' with h' | ⟨h', l'⟩
  · exact .inl (h.trans h')
  · exact .inl (h' ▸ h)
  · exact .inl (h ▸ h')
  · exact .inr ⟨h.trans h', l.trans l'⟩

theorem before_irrefl (x : S16.Idx) : ¬ Before k x x := by
  unfold Before
  simp

theorem rank_eq (x : S16.Idx) : rank k 16 x = (Finset.univ.filter fun j : Fin 16 => goes k x j = 1#1).card := by
  unfold rank
  congr 1
  ext j
  simp [j.isLt]

theorem rank_mono {x y : S16.Idx} (h : Before k x y) : rank k 16 x < rank k 16 y := by
  rw [rank_eq, rank_eq]
  refine Finset.card_lt_card (Finset.ssubset_iff_of_subset (fun j hj => ?_) |>.mpr ⟨⟨nat x, nat_lt x⟩, ?_, ?_⟩)
  · simp only [Finset.mem_filter, Finset.mem_univ, true_and, goes_iff] at hj ⊢
    exact before_trans k hj h
  · simp only [Finset.mem_filter, Finset.mem_univ, true_and, goes_iff, lane_nat]
    exact h
  · simp only [Finset.mem_filter, Finset.mem_univ, true_and, goes_iff, lane_nat]
    exact before_irrefl k x

theorem rank_inj : Function.Injective (rank k 16) := by
  intro x y h
  by_contra hne
  rcases before_total k hne with b | b
  · exact absurd h (rank_mono k b).ne
  · exact absurd h (rank_mono k b).ne'

/-- The lane whose rank is the number of `x`. -/
theorem rank_surj (x : S16.Idx) : ∃ y, rank k 16 y = nat x := by
  let f : Fin 16 → Fin 16 := fun j => ⟨rank k 16 (lane j), rank_lt k 16 _⟩
  have hf : Function.Injective f := fun i j e => by
    have := rank_inj k (Fin.mk.inj e)
    exact Fin.ext (congrArg nat this)
  obtain ⟨j, hj⟩ := Finite.surjective_of_injective hf ⟨nat x, nat_lt x⟩
  exact ⟨lane j, congrArg Fin.val hj⟩

/-- Sorting permutes the lanes, and the keys then grow. -/
theorem sort_perm : ∃ σ : S16.Idx → S16.Idx, Function.Injective σ ∧ Function.Surjective σ
    ∧ (∀ x, sortK k x = k (σ x)) ∧ (∀ (v : IVec S16 32) x, sortV k v x = v (σ x))
    ∧ ∀ x y, nat x ≤ nat y → k (σ x) ≤ k (σ y) := by
  choose σ hσ using rank_surj k
  refine ⟨σ, fun x y e => ?_, fun y => ⟨lane ⟨rank k 16 y, rank_lt k 16 y⟩, ?_⟩, fun x => ?_, fun v x => ?_, fun x y h => ?_⟩
  · exact idx_ext (by rw [← hσ x, ← hσ y, e])
  · exact rank_inj k (by rw [hσ, nat_lane])
  · exact scat_of_inj (rank_inj k) k k (hσ x).symm
  · exact scat_of_inj (rank_inj k) v v (hσ x).symm
  · by_contra hlt
    have := rank_mono k (x := σ y) (y := σ x) (.inl (not_le.mp hlt))
    rw [hσ, hσ] at this
    omega

end Rank

/-! ## The largest of a set of places -/

/-- The place a value names. -/
def place (v : IVec S16 32) (x : S16.Idx) : Fin 1024 := Fin.ofNat 1024 (v x).toNat

/-- Sixteen keys and values that are magnitudes of a set of places and where they stand; no other place of the set is
    larger than any of them. -/
structure Largest (g : Fin 1024 → EReal) (U : Fin 1024 → Prop) (k : S16.Idx → EReal) (v : IVec S16 32) : Prop where
  key : ∀ x, k x = g (place v x)
  inj : Function.Injective (place v)
  mem : ∀ x, U (place v x)
  rest : ∀ i, U i → (∀ x, place v x ≠ i) → ∀ x, g i ≤ k x

/-- The keys grow. -/
def Grows (k : S16.Idx → EReal) : Prop := ∀ x y, nat x ≤ nat y → k x ≤ k y

variable {g : Fin 1024 → EReal} {U V : Fin 1024 → Prop}

theorem Largest.sort {k : Vec Ideal S16 .f32} {v : IVec S16 32} (h : Largest g U k v) :
    Largest g U (sortK k) (sortV k v) ∧ Grows (sortK k) := by
  obtain ⟨σ, hi, hs, hk, hv, hm⟩ := sort_perm k
  have hp : ∀ x, place (sortV k v) x = place v (σ x) := fun x => by unfold place; rw [hv]
  refine ⟨⟨fun x => ?_, fun x y e => ?_, fun x => ?_, fun i hU hn x => ?_⟩, fun x y hxy => ?_⟩
  · rw [hk, hp]; exact h.key _
  · rw [hp, hp] at e; exact hi (h.inj e)
  · rw [hp]; exact h.mem _
  · rw [hk]
    refine h.rest i hU (fun y => ?_) _
    obtain ⟨z, rfl⟩ := hs y
    rw [← hp]; exact hn z
  · rw [hk, hk]; exact hm x y hxy

theorem nat_rev (x : S16.Idx) : nat (rev x) = 15 - nat x := rfl

theorem rev_rev (x : S16.Idx) : rev (rev x) = x := idx_ext (by have := nat_lt x; rw [nat_rev, nat_rev]; omega)

/-- The sixteen pairwise larger of two growing lists, one reversed, are the largest of both. -/
theorem Largest.pick {a b : Node Ideal} (ha : Largest g U a.1 a.2) (hb : Largest g V b.1 b.2) (ga : Grows a.1) (gb : Grows b.1)
    (hUV : ∀ i, U i → ¬ V i) : Largest g (fun i => U i ∨ V i) (pickK a b) (pickV a b) := by
  have hc : ∀ x, (FloatOps.cmpf (F := Ideal) (φ := .f32) .ogt (b.1 (rev x)) (a.1 x) = 1) ↔ a.1 x < b.1 (rev x) := fun x => cmp_one (p := .ogt)
  have c1 : ∀ x, a.1 x < b.1 (rev x) → pickK a b x = b.1 (rev x) ∧ place (pickV a b) x = place b.2 (rev x) := fun x h => by
    unfold pickK place pickV
    rw [if_pos ((hc x).mpr h), if_pos ((hc x).mpr h)]
    exact ⟨rfl, rfl⟩
  have c2 : ∀ x, ¬ a.1 x < b.1 (rev x) → pickK a b x = a.1 x ∧ place (pickV a b) x = place a.2 x := fun x h => by
    unfold pickK place pickV
    rw [if_neg (mt (hc x).mp h), if_neg (mt (hc x).mp h)]
    exact ⟨rfl, rfl⟩
  have la : ∀ x, a.1 x ≤ pickK a b x := fun x => by
    by_cases h : a.1 x < b.1 (rev x)
    · rw [(c1 x h).1]; exact h.le
    · rw [(c2 x h).1]
  have lb : ∀ x, b.1 (rev x) ≤ pickK a b x := fun x => by
    by_cases h : a.1 x < b.1 (rev x)
    · rw [(c1 x h).1]
    · rw [(c2 x h).1]; exact not_lt.mp h
  refine ⟨fun x => ?_, fun x y e => ?_, fun x => ?_, fun i hi hn x => ?_⟩
  · by_cases h : a.1 x < b.1 (rev x)
    · rw [(c1 x h).1, (c1 x h).2]; exact hb.key _
    · rw [(c2 x h).1, (c2 x h).2]; exact ha.key _
  · by_cases h : a.1 x < b.1 (rev x) <;> by_cases h' : a.1 y < b.1 (rev y)
    · rw [(c1 x h).2, (c1 y h').2] at e
      rw [← rev_rev x, ← rev_rev y, hb.inj e]
    · rw [(c1 x h).2, (c2 y h').2] at e
      exact absurd (hb.mem (rev x)) (hUV _ (e ▸ ha.mem y))
    · rw [(c2 x h).2, (c1 y h').2] at e
      exact absurd (hb.mem (rev y)) (hUV _ (e ▸ ha.mem x))
    · rw [(c2 x h).2, (c2 y h').2] at e
      exact ha.inj e
  · by_cases h : a.1 x < b.1 (rev x)
    · rw [(c1 x h).2]; exact .inr (hb.mem _)
    · rw [(c2 x h).2]; exact .inl (ha.mem _)
  · rcases hi with hi | hi
    · by_cases hy : ∃ y, place a.2 y = i
      · obtain ⟨y, rfl⟩ := hy
        have hlt : a.1 y < b.1 (rev y) := by
          by_contra h
          exact hn y (c2 y h).2
        rw [← ha.key]
        rcases le_total (nat y) (nat x) with l | l
        · exact (ga y x l).trans (la x)
        · exact hlt.le.trans ((gb (rev y) (rev x) (by rw [nat_rev, nat_rev]; omega)).trans (lb x))
      · exact (ha.rest i hi (fun y e => hy ⟨y, e⟩) x).trans (la x)
    · by_cases hy : ∃ y, place b.2 y = i
      · obtain ⟨y', rfl⟩ := hy
        obtain ⟨y, rfl⟩ : ∃ y, rev y = y' := ⟨rev y', rev_rev y'⟩
        have hge : b.1 (rev y) ≤ a.1 y := by
          by_contra h
          exact hn y (c1 y (not_le.mp h)).2
        rw [← hb.key]
        rcases le_total (nat y) (nat x) with l | l
        · exact hge.trans ((ga y x l).trans (la x))
        · exact (gb (rev y) (rev x) (by rw [nat_rev, nat_rev]; omega)).trans (lb x)
      · exact (hb.rest i hi (fun y e => hy ⟨y, e⟩) (rev x)).trans (lb x)

/-! ## The tree -/

/-- Place `i` stands under node `n` of the tree. -/
def under (n : ℕ) (i : Fin 1024) : Prop := ∃ t, (64 + i.val / 16) / 2 ^ t = n + 1

theorem under_leaf {n : ℕ} (h : 63 ≤ n) (i : Fin 1024) : under n i ↔ i.val / 16 = n - 63 := by
  have hi := i.isLt
  constructor
  · rintro ⟨t, ht⟩
    rcases t with _ | t
    · rw [pow_zero, Nat.div_one] at ht
      omega
    · rw [pow_succ', ← Nat.div_div_eq_div_mul] at ht
      have := Nat.div_le_self ((64 + i.val / 16) / 2) (2 ^ t)
      omega
  · intro e
    exact ⟨0, by rw [pow_zero, Nat.div_one]; omega⟩

theorem under_node {n : ℕ} (h : n < 63) (i : Fin 1024) : under n i ↔ under (2 * n + 1) i ∨ under (2 * n + 2) i := by
  constructor
  · rintro ⟨t, ht⟩
    rcases t with _ | t
    · rw [pow_zero, Nat.div_one] at ht
      omega
    · rw [pow_succ, ← Nat.div_div_eq_div_mul] at ht
      rcases Nat.even_or_odd' ((64 + i.val / 16) / 2 ^ t) with ⟨c, hc | hc⟩
      · exact .inl ⟨t, by omega⟩
      · exact .inr ⟨t, by omega⟩
  · rintro (⟨t, ht⟩ | ⟨t, ht⟩)
    · exact ⟨t + 1, by rw [pow_succ, ← Nat.div_div_eq_div_mul, ht]; omega⟩
    · exact ⟨t + 1, by rw [pow_succ, ← Nat.div_div_eq_div_mul, ht]; omega⟩

theorem under_disjoint {n : ℕ} (i : Fin 1024) (h : under (2 * n + 1) i) : ¬ under (2 * n + 2) i := by
  rintro ⟨s, hs⟩
  obtain ⟨t, ht⟩ := h
  have key : ∀ p q : ℕ, p < q → (64 + i.val / 16) / 2 ^ q ≤ (64 + i.val / 16) / 2 ^ p / 2 := fun p q hpq => by
    rw [Nat.div_div_eq_div_mul, ← pow_succ]
    exact Nat.div_le_div_left (Nat.pow_le_pow_right (by norm_num) hpq) (by positivity)
  rcases lt_trichotomy t s with l | l | l
  · have := key t s l; rw [ht, hs] at this; omega
  · subst l; omega
  · have := key s t l; rw [ht, hs] at this; omega

theorem under_root (i : Fin 1024) : under 0 i := by
  have hi := i.isLt
  exact ⟨6, by norm_num; omega⟩

/-- The magnitude at a place of the row. -/
noncomputable def mag (row : Row Ideal) (i : Fin 1024) : EReal := FloatOps.absf (F := Ideal) (φ := .f32) (row i)

theorem leaf_largest (row : Row Ideal) {n : ℕ} (h : 63 ≤ n) (h' : n < 127) :
    Largest (mag row) (under n) (leafK row (n - 63)) (leafV (n - 63)) := by
  have hp : ∀ x, (place (leafV (n - 63)) x).val = 16 * (n - 63) + nat x := fun x => by
    have := nat_lt x
    unfold place leafV
    rw [BitVec.toNat_ofNat, Fin.val_ofNat, Nat.mod_eq_of_lt (a := 16 * (n - 63) + nat x) (by omega), Nat.mod_eq_of_lt (by omega)]
  refine ⟨fun x => ?_, fun x y e => ?_, fun x => ?_, fun i hi hn x => ?_⟩
  · unfold leafK mag
    congr 2
    have := nat_lt x
    exact Fin.ext (by rw [hp, Fin.val_ofNat, Nat.mod_eq_of_lt (by omega)])
  · have := congrArg Fin.val e
    rw [hp, hp] at this
    exact idx_ext (by omega)
  · have := nat_lt x
    rw [under_leaf h, hp]
    omega
  · rw [under_leaf h] at hi
    exact absurd (Fin.ext (by rw [hp, nat_lane]; show 16 * (n - 63) + i.val % 16 = i.val; omega)) (hn (lane ⟨i.val % 16, by omega⟩))

/-- Every node holds the largest of the places under it, by growing magnitude. -/
theorem node_largest (row : Row Ideal) (n : ℕ) (hn : n < 127) :
    Largest (mag row) (under n) (node row n).1 (node row n).2 ∧ Grows (node row n).1 := by
  induction h : 63 - n using Nat.strong_induction_on generalizing n with
  | _ N ih =>
    by_cases h63 : n < 63
    · rw [node_merge row h63]
      obtain ⟨ha, ga⟩ := ih (63 - (2 * n + 1)) (by omega) _ (by omega) rfl
      obtain ⟨hb, gb⟩ := ih (63 - (2 * n + 2)) (by omega) _ (by omega) rfl
      have hp := ha.pick hb ga gb (fun i => under_disjoint i)
      rw [show (fun i => under (2 * n + 1) i ∨ under (2 * n + 2) i) = under n from funext fun i => propext (under_node h63 i).symm] at hp
      exact hp.sort
    · rw [node_leaf row (by omega)]
      exact (leaf_largest row (by omega) hn).sort

/-! ## Where the sixteen largest stand above the rest -/

theorem places_inj (row : Row Ideal) : Function.Injective fun j : Fin 16 => place (idxs row) (lane j) := by
  obtain ⟨hL, -⟩ := node_largest row 0 (by norm_num)
  change Largest (mag row) (under 0) (node row 0).1 (idxs row) at hL
  exact fun i j e => Fin.ext (congrArg nat (hL.inj e))

/-- With seventeen different places, the first sixteen of larger magnitude than the last, and every other place no larger
    than the last, the row's sixteen places are the first sixteen, in some order. -/
theorem places_range (row : Row Ideal) (J : Fin 17 → Fin 1024) (injJ : Function.Injective J)
    (hJ : ∀ r : Fin 16, mag row (J 16) < mag row (J r.castSucc))
    (hrest : ∀ i, (∀ r, J r ≠ i) → mag row i ≤ mag row (J 16)) :
    Set.range (fun j : Fin 16 => place (idxs row) (lane j)) = Set.range fun r : Fin 16 => J r.castSucc := by
  obtain ⟨hL, -⟩ := node_largest row 0 (by norm_num)
  change Largest (mag row) (under 0) (node row 0).1 (idxs row) at hL
  let A : Fin 16 → Fin 1024 := fun j => place (idxs row) (lane j)
  let B : Fin 16 → Fin 1024 := fun j => J j.castSucc
  have iA : Function.Injective A := places_inj row
  have iB : Function.Injective B := injJ.comp (Fin.castSucc_injective 16)
  have hB : ∀ i, i ∉ Set.range B → mag row i ≤ mag row (J 16) := fun i hi => by
    by_cases hr : ∃ r, J r = i
    · obtain ⟨r, rfl⟩ := hr
      by_cases h16 : r = 16
      · rw [h16]
      · have hr' := r.isLt
        have : r.val ≠ 16 := fun e => h16 (Fin.ext e)
        exact absurd ⟨⟨r.val, by omega⟩, congrArg J (Fin.ext rfl)⟩ hi
    · exact hrest i fun r e => hr ⟨r, e⟩
  have hsub : Set.range B ⊆ Set.range A := by
    rintro _ ⟨r, rfl⟩
    by_contra hr
    have hle : ∀ j, mag row (B r) ≤ mag row (A j) := fun j => by
      rw [← hL.key]
      exact hL.rest _ (under_root _) (fun y e => hr ⟨⟨nat y, nat_lt y⟩, by show place _ (lane _) = _; rw [lane_nat]; exact e⟩) _
    have hin : ∀ j, A j ∈ Set.range B := fun j => by
      by_contra hj
      exact absurd ((hJ r).trans_le (hle j)) (not_lt.mpr (hB _ hj))
    choose f hf using hin
    have hfi : Function.Injective f := fun i j e => iA (by rw [← hf i, ← hf j, e])
    obtain ⟨j, hj⟩ := Finite.surjective_of_injective hfi r
    exact hr ⟨j, by rw [← hf j, hj]⟩
  refine Set.Subset.antisymm ?_ hsub
  rintro _ ⟨j, rfl⟩
  choose f hf using fun r => hsub ⟨r, rfl⟩
  have hfi : Function.Injective f := fun i j e => iB (by rw [← hf i, ← hf j, e])
  obtain ⟨r, hr⟩ := Finite.surjective_of_injective hfi j
  exact ⟨r, (hf r).symm.trans (congrArg A hr)⟩

/-- Sums over two lists of different places are the same when the lists hold the same places. -/
theorem sum_places {A B : Fin 16 → Fin 1024} (iA : Function.Injective A) (iB : Function.Injective B) (h : Set.range A = Set.range B)
    (f : Fin 1024 → EReal) : ∑ j, f (A j) = ∑ j, f (B j) := by
  rw [← Finset.sum_image (f := f) (g := A) iA.injOn, ← Finset.sum_image (f := f) (g := B) iB.injOn]
  refine congrArg (fun s : Finset (Fin 1024) => ∑ i ∈ s, f i) (Finset.coe_injective ?_)
  simpa only [Finset.coe_image, Finset.coe_univ, Set.image_univ] using h

end Cert.Proof.Spec
-- ==== Proof.RefValue.lean ====
/-
  The waves the reference takes, over the extended reals: each row's magnitudes sorted from the largest, the first sixteen
  places, the coefficients there and the frequencies, read at an index; and what the precondition says of a row.
-/
module

public import proofs.«01_k».proof.Pre_no_tie
public import proofs.«01_k».proof.Proof.Top
public import proofs.«01_k».proof.Proof.Gen.Pre_no_tie
public import proofs.«01_k».proof.Proof.Gen.ReferenceIdeal
public import Idealize.ShloMosaic.Lib.SortFacts
public import Idealize.ShloMosaic.Lib.ReduceAll
public import Idealize.ShloMosaic.Lib.Pointwise

@[expose] public section

noncomputable section

namespace Cert.Proof.Ref

open Cert.ReferenceIdeal Cert.ReferenceIdeal.Facts₀
open Idealize.ShloMosaic
open Cert.Proof.Spec (Row mag)

/-! ## A row's places from the largest magnitude -/

/-- The place of the `q`-th largest magnitude, equal magnitudes in order of place. -/
def ord (g : Fin 1024 → EReal) : Fin 1024 → Fin 1024 :=
  sortedFrom (fun k k' => Ideal.cmp .ogt (g k) (g k') == 1#1)

theorem ord_anti (g : Fin 1024 → EReal) {i j : Fin 1024} (h : i < j) : g (ord g j) ≤ g (ord g i) := by
  have hc : ∀ a b, (Ideal.cmp .ogt (g a) (g b) == 1#1) = false ↔ g a ≤ g b := fun a b => by
    rw [beq_eq_false_iff_ne, ne_eq, Spec.cmp_one]
    exact not_lt
  have := sortedFrom_noInversion (fun k k' => Ideal.cmp .ogt (g k) (g k') == 1#1) (fun k k' => Ideal.cmp .ogt (g k) (g k') == 1#1)
    (fun a b hab => by
      rw [hc]
      rw [beq_iff_eq, Spec.cmp_one] at hab
      exact le_of_lt hab)
    (fun _ _ h => h)
    (fun a b c hab hbc => by
      rw [hc] at *
      exact hab.trans hbc) i j h
  exact (hc _ _).mp this

theorem ord_injective (g : Fin 1024 → EReal) : Function.Injective (ord g) := sortedFrom_injective _

theorem ord_surjective (g : Fin 1024 → EReal) : Function.Surjective (ord g) := sortedFrom_surjective _

theorem ord_anti' (g : Fin 1024 → EReal) {i j : Fin 1024} (h : i ≤ j) : g (ord g j) ≤ g (ord g i) := by
  rcases h.eq_or_lt with rfl | h
  · exact le_refl _
  · exact ord_anti g h

/-- An element of the coefficients by its gaussian, its dimension and its place. -/
def ix (a : Fin 10000) (b : Fin 2) (n : Fin 1024) : S10000x2x1024.Idx := fun d => match d with
  | 0 => a
  | 1 => b
  | 2 => n

/-- The row of a gaussian and a dimension. -/
def rowAt (x : S10000x2x1024.Idx → EReal) (a : Fin 10000) (b : Fin 2) : Row Ideal := fun n => x (ix a b n)

theorem along_eq (j : S10000x2x1024.Idx) (k : Fin 1024) : j.along (2 : Fin 3) k = ix (j 0) (j 1) k := by
  funext d
  match d with
  | 0 => rfl
  | 1 => rfl
  | 2 => rfl

/-- The first coordinates of an element of the first `k` of every row. -/
def g0 {k : ℕ} (j : (⟨3, ![10000, 2, k]⟩ : Shape).Idx) : Fin 10000 := j 0
def d0 {k : ℕ} (j : (⟨3, ![10000, 2, k]⟩ : Shape).Idx) : Fin 2 := j 1

theorem sort2_at {β : Type} (x : S10000x2x1024.Idx → EReal) (y : S10000x2x1024.Idx → β) (a : Fin 10000) (b : Fin 2) (n : Fin 1024) :
    (Host.sort2 S10000x2x1024 2 (fun l r => FloatOps.cmpfTotal (F := Ideal) (φ := .f32) .gt l.1 r.1) (Host.absf (F := Ideal) (φ := .f32) x) y).1 (ix a b n)
        = mag (rowAt x a b) (ord (mag (rowAt x a b)) n)
      ∧ (Host.sort2 S10000x2x1024 2 (fun l r => FloatOps.cmpfTotal (F := Ideal) (φ := .f32) .gt l.1 r.1) (Host.absf (F := Ideal) (φ := .f32) x) y).2 (ix a b n)
        = y (ix a b (ord (mag (rowAt x a b)) n)) := by
  have hf : (fun k k' : Fin 1024 => FloatOps.cmpfTotal (F := Ideal) (φ := .f32) .gt (Host.absf (F := Ideal) (φ := .f32) x ((ix a b n).along (2 : Fin 3) k))
      (Host.absf (F := Ideal) (φ := .f32) x ((ix a b n).along (2 : Fin 3) k')) == 1#1)
      = fun k k' => Ideal.cmp .ogt (mag (rowAt x a b) k) (mag (rowAt x a b) k') == 1#1 := by
    funext k k'
    rw [along_eq, along_eq]
    rfl
  have hp : sortedFrom (fun k k' : Fin 1024 => FloatOps.cmpfTotal (F := Ideal) (φ := .f32) .gt (Host.absf (F := Ideal) (φ := .f32) x ((ix a b n).along (2 : Fin 3) k))
      (Host.absf (F := Ideal) (φ := .f32) x ((ix a b n).along (2 : Fin 3) k')) == 1#1) n = ord (mag (rowAt x a b)) n := by
    rw [hf]; rfl
  exact ⟨(congrArg (fun π => Host.absf (F := Ideal) (φ := .f32) x ((ix a b n).along (2 : Fin 3) π)) hp).trans (by rw [along_eq]; rfl),
    (congrArg (fun π => y ((ix a b n).along (2 : Fin 3) π)) hp).trans (by rw [along_eq]; rfl)⟩

/-- Each element's place, as a word. -/
def posn : IVec S10000x2x1024 32 := fun i => BitVec.ofNat 32 (i 2).val

theorem posn_ix (a : Fin 10000) (b : Fin 2) (n : Fin 1024) : posn (ix a b n) = BitVec.ofNat 32 n.val := rfl

theorem posn_eq : (fun i : S10000x2x1024.Idx => if hd : 2 < S10000x2x1024.rank then iotaInDim S10000x2x1024 32 ⟨2, hd⟩ i else 0#32) = posn := by
  funext i
  rw [dif_pos (show 2 < 3 by decide)]
  rfl

theorem topK_eq {α : Type} (t : Shape) (gt : α → α → BitVec 1) (x : S10000x2x1024.Idx → α) (h : S10000x2x1024.Slices (fun _ => 0) t) :
    Host.topK t 2 gt x h = (extractStridedSlice t (fun _ => 0) (Host.sort2 S10000x2x1024 2 (fun l r => gt l.1 r.1) x posn).1 h,
      extractStridedSlice t (fun _ => 0) (Host.sort2 S10000x2x1024 2 (fun l r => gt l.1 r.1) x posn).2 h) := by
  rw [← posn_eq]
  rfl

theorem slice_at {α : Type} {k : ℕ} (X : S10000x2x1024.Idx → α) (h : S10000x2x1024.Slices (fun _ => 0) ⟨3, ![10000, 2, k]⟩)
    (j : (⟨3, ![10000, 2, k]⟩ : Shape).Idx) (n : Fin 1024) (hj : (j 2).val = n.val) :
    extractStridedSlice ⟨3, ![10000, 2, k]⟩ (fun _ => 0) X h j = X (ix (g0 j) (d0 j) n) := by
  unfold extractStridedSlice
  congr 1
  funext a
  match a with
  | 0 => exact Fin.ext (Nat.zero_add _)
  | 1 => exact Fin.ext (Nat.zero_add _)
  | 2 => exact Fin.ext ((Nat.zero_add _).trans hj)

theorem topK_at {k : ℕ} (x : S10000x2x1024.Idx → EReal) (h : S10000x2x1024.Slices (fun _ => 0) ⟨3, ![10000, 2, k]⟩)
    (j : (⟨3, ![10000, 2, k]⟩ : Shape).Idx) (n : Fin 1024) (hj : (j 2).val = n.val) :
    (Host.topK (s := S10000x2x1024) ⟨3, ![10000, 2, k]⟩ 2 (FloatOps.cmpfTotal (F := Ideal) (φ := .f32) .gt) (Host.absf (F := Ideal) (φ := .f32) x) h).1 j
        = mag (rowAt x (g0 j) (d0 j)) (ord (mag (rowAt x (g0 j) (d0 j))) n)
      ∧ (Host.topK (s := S10000x2x1024) ⟨3, ![10000, 2, k]⟩ 2 (FloatOps.cmpfTotal (F := Ideal) (φ := .f32) .gt) (Host.absf (F := Ideal) (φ := .f32) x) h).2 j
        = BitVec.ofNat 32 (ord (mag (rowAt x (g0 j) (d0 j))) n).val := by
  have hs := sort2_at x posn (g0 j) (d0 j) n
  rw [topK_eq]
  exact ⟨(slice_at _ h j n hj).trans hs.1, ((slice_at _ h j n hj).trans hs.2).trans (posn_ix _ _ _)⟩

/-! ## What the precondition says -/

/-- The seventeen largest of a row. -/
def top17 (g : Fin 1024 → EReal) (r : Fin 17) : Fin 1024 := ord g ⟨r.val, by omega⟩

/-- The seventeen largest magnitudes of every row. -/
def seventeen (x : S10000x2x1024.Idx → EReal) : FVec Ideal Cert.Pre_no_tie.S10000x2x17 .f32 :=
  (Host.topK (s := S10000x2x1024) Cert.Pre_no_tie.S10000x2x17 2 (FloatOps.cmpfTotal (F := Ideal) (φ := .f32) .gt) (Host.absf (F := Ideal) (φ := .f32) x)
    Cert.Pre_no_tie.Facts.sliceFits_S10000x2x1024_S10000x2x17).1

theorem seventeen_at (x : S10000x2x1024.Idx → EReal) (a : Fin 10000) (b : Fin 2) (k : Fin 17) :
    seventeen x (ix3 a b k) = mag (rowAt x a b) (top17 (mag (rowAt x a b)) k) :=
  (topK_at x Cert.Pre_no_tie.Facts.sliceFits_S10000x2x1024_S10000x2x17 (ix3 a b k) ⟨k.val, by omega⟩ rfl).1

/-- The precondition over the seventeen largest. -/
def above (v : FVec Ideal Cert.Pre_no_tie.S10000x2x17 .f32) : IVec Cert.Pre_no_tie.S10000x2 1 :=
  cmpf .ogt (shapeCast Cert.Pre_no_tie.S10000x2 (extractStridedSlice Cert.Pre_no_tie.S10000x2x1 ![0, 0, 15] v Cert.Pre_no_tie.Facts.slices_S10000x2x17_S10000x2x1_0_0_15)
      Cert.Pre_no_tie.Facts.shapeCasts_S10000x2x1_S10000x2)
    (shapeCast Cert.Pre_no_tie.S10000x2 (extractStridedSlice Cert.Pre_no_tie.S10000x2x1 ![0, 0, 16] v Cert.Pre_no_tie.Facts.slices_S10000x2x17_S10000x2x1_0_0_16)
      Cert.Pre_no_tie.Facts.shapeCasts_S10000x2x1_S10000x2)

theorem above_at (v : FVec Ideal Cert.Pre_no_tie.S10000x2x17 .f32) (a : Fin 10000) (b : Fin 2) :
    above v (ix2 a b) = Ideal.cmp .ogt (v (ix3 a b 15)) (v (ix3 a b 16)) := by
  pointwise [above]

theorem fn_eq (x0 : FVec Ideal Cert.Pre_no_tie.S512x2 .f32) (x1 : FVec Ideal Cert.Pre_no_tie.S10000x3 .f32) (x2 x3 : FVec Ideal Cert.Pre_no_tie.S10000x2 .f32)
    (x4 : FVec Ideal Cert.Pre_no_tie.S10000x1 .f32) (x : S10000x2x1024.Idx → EReal) :
    Cert.Pre_no_tie.fn (F := Ideal) x0 x1 x2 x3 x4 x = above (seventeen x) := rfl

/-- In every row the sixteenth largest magnitude is larger than the seventeenth. -/
theorem no_tie_row (x0 : FVec Ideal Cert.Pre_no_tie.S512x2 .f32) (x1 : FVec Ideal Cert.Pre_no_tie.S10000x3 .f32) (x2 x3 : FVec Ideal Cert.Pre_no_tie.S10000x2 .f32)
    (x4 : FVec Ideal Cert.Pre_no_tie.S10000x1 .f32) (x : S10000x2x1024.Idx → EReal)
    (h : Cert.Pre_no_tie.fn (F := Ideal) x0 x1 x2 x3 x4 x = fun _ => 1#1) (a : Fin 10000) (b : Fin 2) :
    mag (rowAt x a b) (top17 (mag (rowAt x a b)) 16) < mag (rowAt x a b) (top17 (mag (rowAt x a b)) 15) := by
  have hj : above (seventeen x) (ix2 a b) = 1#1 := (congrFun (fn_eq x0 x1 x2 x3 x4 x) _).symm.trans (congrFun h (ix2 a b))
  rw [above_at, seventeen_at, seventeen_at] at hj
  exact (Spec.cmp_one (p := .ogt)).mp hj

theorem top17_inj (g : Fin 1024 → EReal) : Function.Injective (top17 g) := fun _ _ e => Fin.ext (Fin.mk.inj (ord_injective g e))

theorem top17_rest (g : Fin 1024 → EReal) (i : Fin 1024) (hi : ∀ r, top17 g r ≠ i) : g i ≤ g (top17 g 16) := by
  obtain ⟨q, rfl⟩ := ord_surjective g i
  have hq : 17 ≤ q.val := by
    by_contra hq
    exact hi ⟨q.val, by omega⟩ rfl
  unfold top17
  exact ord_anti g (i := ⟨16, by omega⟩) (j := q) (by rw [Fin.lt_def]; show 16 < q.val; omega)

theorem top17_first (g : Fin 1024 → EReal) (h : g (top17 g 16) < g (top17 g 15)) (r : Fin 16) : g (top17 g 16) < g (top17 g r.castSucc) := by
  have hr : r.val ≤ 15 := by have := r.isLt; omega
  have hle : g (ord g ⟨15, by omega⟩) ≤ g (ord g ⟨r.val, by omega⟩) := ord_anti' g (i := ⟨r.val, by omega⟩) (j := ⟨15, by omega⟩) hr
  exact h.trans_le hle

/-- So the sixteen places the tree leaves are the first sixteen, in some order. -/
theorem places_ord (row : Row Ideal) (h : mag row (top17 (mag row) 16) < mag row (top17 (mag row) 15)) (f : Fin 1024 → EReal) :
    ∑ l : Fin 16, f (Spec.place (Spec.idxs row) (Spec.lane l)) = ∑ k : Fin 16, f (top17 (mag row) k.castSucc) := by
  have hR := Spec.places_range row (top17 (mag row)) (top17_inj (mag row)) (top17_first (mag row) h) (top17_rest (mag row))
  have iB : Function.Injective fun k : Fin 16 => top17 (mag row) k.castSucc := fun _ _ e => Fin.castSucc_injective 16 (top17_inj (mag row) e)
  exact Spec.sum_places (Spec.places_inj row) iB hR f

/-! ## The reference's gather -/

/-- An element of the column of start places. -/
def ix4 (j : S10000x2x16.Idx) : S10000x2x16x1.Idx := fun d => match d with
  | 0 => j 0
  | 1 => j 1
  | 2 => j 2
  | 3 => (0 : Fin 1)

theorem gather_at {α : Type} (x : S10000x2x1024.Idx → α) (idx : IVec S10000x2x16x1 32) (j : S10000x2x16.Idx) :
    Host.gather gather_S10000x2x1024_S10000x2x16x1_S10000x2x16_n_2_01_01_2_3_111 x idx j
      = x (ix (j 0) (j 1) ⟨min (idx (ix4 j)).toInt.toNat 1023, by omega⟩) := by
  unfold Host.gather
  congr 1
  funext a
  refine Fin.ext ?_
  have hk : ∀ a, a ∉ (gather_S10000x2x1024_S10000x2x16x1_S10000x2x16_n_2_01_01_2_3_111).sKept := by decide
  match a with
  | 0 =>
    simp only [GatherDims.operandIdx, GatherDims.offCoord_eq_zero _ _ _ (hk _)]
    rw [GatherDims.start_batching _ _ _ _ (by decide)]
    unfold GatherDims.batchCoord
    rw [dif_pos (by decide)]
    rw [Nat.zero_add, Nat.add_zero]
    rfl
  | 1 =>
    simp only [GatherDims.operandIdx, GatherDims.offCoord_eq_zero _ _ _ (hk _)]
    rw [GatherDims.start_batching _ _ _ _ (by decide)]
    unfold GatherDims.batchCoord
    rw [dif_pos (by decide)]
    rw [Nat.zero_add, Nat.add_zero]
    rfl
  | 2 =>
    simp only [GatherDims.operandIdx, GatherDims.offCoord_eq_zero _ _ _ (hk _)]
    rw [GatherDims.batchCoord_eq_zero _ _ _ (by decide)]
    unfold GatherDims.start
    rw [dif_pos (by decide)]
    show min (idx _).toInt.toNat 1023 = min (idx _).toInt.toNat 1023
    congr 4
    funext d
    match d with
    | 0 => rfl
    | 1 => rfl
    | 2 => rfl
    | 3 => rfl

/-! ## The results -/

/-- A word that is a place of the row is not negative and not past the row's end. -/
theorem word_place {w : BitVec 32} (h : w.toNat < 1024) :
    IntOp.cmpi .slt w 0#32 = 0#1 ∧ IntOp.cmpi .sge w 0#32 = 1#1 ∧ IntOp.cmpi .sle w 1023#32 = 1#1 ∧ w.toInt.toNat = w.toNat := by
  have hi : w.toInt = w.toNat := BitVec.toInt_eq_toNat_of_lt (by omega)
  have h0 : (0#32).toInt = 0 := by decide
  have h1 : (1023#32).toInt = 1023 := by decide
  refine ⟨?_, ?_, ?_, by rw [hi]; omega⟩
  · show BitVec.ofBool (w.slt 0#32) = 0#1
    rw [show w.slt 0#32 = false by rw [BitVec.slt, hi, h0]; simp]
    rfl
  · show BitVec.ofBool ((0#32).sle w) = 1#1
    rw [show (0#32).sle w = true by rw [BitVec.sle, hi, h0]; simp]
    rfl
  · show BitVec.ofBool (w.sle 1023#32) = 1#1
    rw [show w.sle 1023#32 = true by rw [BitVec.sle, hi, h1]; simp; omega]
    rfl

/-- The places as the gather takes them: a negative one counts from the end. -/
def wrap (T : IVec S10000x2x16 32) : IVec S10000x2x16 32 :=
  select (cmpi .slt T (broadcastInDim S10000x2x16 ![] bcast_S_S10000x2x16 (constantI S_ 32 0#32)))
    (addi T (broadcastInDim S10000x2x16 ![] bcast_S_S10000x2x16 (constantI S_ 32 1024#32))) T

theorem wrap_eq (T : IVec S10000x2x16 32) (hT : ∀ j, (T j).toNat < 1024) : wrap T = T := by
  funext j
  show Scalar.select (IntOp.cmpi .slt (T j) 0#32) _ (T j) = T j
  rw [(word_place (hT j)).1]
  rfl

/-- The coefficients at the places `T`. -/
def coefAt (x : S10000x2x1024.Idx → EReal) (T : IVec S10000x2x16 32) : S10000x2x16.Idx → EReal :=
  select (Host.reduce IntOp.andi (andi
      (cmpi .sge (shapeCast S10000x2x16x1 (wrap T) shapeCasts_S10000x2x16_S10000x2x16x1) (broadcastInDim S10000x2x16x1 ![] bcast_S_S10000x2x16x1 (constantI S_ 32 0#32)))
      (cmpi .sle (shapeCast S10000x2x16x1 (wrap T) shapeCasts_S10000x2x16_S10000x2x16x1)
        (broadcastInDim S10000x2x16x1 ![0, 1, 2, 3] bcast_S1x1x1x1_S10000x2x16x1_0_1_2_3 (broadcastInDim S1x1x1x1 ![3] bcast_S1_S1x1x1x1_3 (constantI S1 32 1023#32)))))
      (constantI S_ 1 1#1) reducesTo_S10000x2x16x1_S10000x2x16_d3 h_S_)
    (Host.gather gather_S10000x2x1024_S10000x2x16x1_S10000x2x16_n_2_01_01_2_3_111 x (shapeCast S10000x2x16x1 (wrap T) shapeCasts_S10000x2x16_S10000x2x16x1))
    (broadcastInDim S10000x2x16 ![] bcast_S_S10000x2x16 (constant (F := Ideal) S_ .f32 0x7FC00000#32))

/-- The frequencies of the places `T`. -/
def freqAt (T : IVec S10000x2x16 32) : S10000x2x16.Idx → EReal :=
  Host.divf (F := Ideal) (φ := .f32) (mulf (broadcastInDim S10000x2x16 ![] bcast_S_S10000x2x16 (constant (F := Ideal) S_ .f32 0x44800000#32)) (sitofp .f32 T))
    (broadcastInDim S10000x2x16 ![] bcast_S_S10000x2x16 (constant (F := Ideal) S_ .f32 0x44800000#32))

theorem column_at (T : IVec S10000x2x16 32) (j : S10000x2x16.Idx) :
    shapeCast S10000x2x16x1 T shapeCasts_S10000x2x16_S10000x2x16x1 (ix4 j) = T j := by
  unfold shapeCast
  congr 1
  refine Shape.reshapeEquiv_eq_of_rowMajor _ ?_
  rw [Shape.rowMajor_val_three, Shape.rowMajor_val_four]
  show ((j 0).val * 2 + (j 1).val) * 16 + (j 2).val = (((j 0).val * 2 + (j 1).val) * 16 + (j 2).val) * 1 + 0
  omega

theorem coefAt_eq (x : S10000x2x1024.Idx → EReal) (T : IVec S10000x2x16 32) (hT : ∀ j, (T j).toNat < 1024) (j : S10000x2x16.Idx) :
    coefAt x T j = x (ix (g0 j) (d0 j) ⟨(T j).toNat, hT j⟩) := by
  unfold coefAt
  rw [wrap_eq T hT]
  show Scalar.select (Host.reduce IntOp.andi _ _ _ _ j) _ _ = _
  rw [Host.reduce_andi_one _ _ _ _ _ rfl (fun i => ?_)]
  · show Host.gather _ _ _ j = _
    rw [gather_at]
    refine congrArg x (congrArg (ix (g0 j) (d0 j)) (Fin.ext ?_))
    show min (shapeCast S10000x2x16x1 T shapeCasts_S10000x2x16_S10000x2x16x1 (ix4 j)).toInt.toNat 1023 = _
    have h := hT j
    rw [column_at, (word_place h).2.2.2]
    show min _ _ = (T j).toNat
    omega
  · show IntOp.andi (IntOp.cmpi .sge (T _) 0#32) (IntOp.cmpi .sle (T _) 1023#32) = 1#1
    rw [(word_place (hT _)).2.1, (word_place (hT _)).2.2.1]
    rfl

theorem freqAt_eq (T : IVec S10000x2x16 32) (hT : ∀ j, (T j).toNat < 1024) (j : S10000x2x16.Idx) :
    freqAt T j = (((T j).toNat : ℝ) : EReal) := by
  unfold freqAt
  show Ideal.div (Ideal.ofBits .f32 0x44800000#32 * (((T j).toInt : ℝ) : EReal)) (Ideal.ofBits .f32 0x44800000#32) = _
  have hb : Ideal.ofBits .f32 0x44800000#32 = ((1024 : ℝ) : EReal) := by
    simp [Ideal.ofBits, Ideal.ieee, -EReal.coe_mul]
    norm_num
  have hi : (T j).toInt = (T j).toNat := BitVec.toInt_eq_toNat_of_lt (by have := hT j; omega)
  have hn : ((1024 : ℝ) : EReal) ≠ 0 := by
    rw [ne_eq, ← EReal.coe_zero, EReal.coe_eq_coe_iff]
    norm_num
  rw [hb, hi]
  unfold Ideal.div
  rw [if_neg hn, ← EReal.coe_mul, ← EReal.coe_inv, ← EReal.coe_mul, EReal.coe_eq_coe_iff]
  push_cast
  field_simp

/-- The first sixteen places of every row. -/
def tops (x : S10000x2x1024.Idx → EReal) : IVec S10000x2x16 32 :=
  (Host.topK S10000x2x16 2 (FloatOps.cmpfTotal (F := Ideal) (φ := .f32) .gt) (Host.absf (F := Ideal) (φ := .f32) x) sliceFits_S10000x2x1024_S10000x2x16).2

theorem tops_at (x : S10000x2x1024.Idx → EReal) (j : S10000x2x16.Idx) :
    (tops x j).toNat = (ord (mag (rowAt x (g0 j) (d0 j))) ⟨(j 2).val, lt_trans (j 2).isLt (by show 16 < 1024; omega)⟩).val := by
  unfold tops
  rw [(topK_at x sliceFits_S10000x2x1024_S10000x2x16 j ⟨(j 2).val, lt_trans (j 2).isLt (by show 16 < 1024; omega)⟩ rfl).2, BitVec.toNat_ofNat]
  exact Nat.mod_eq_of_lt (lt_trans (Fin.isLt _) (by norm_num))

theorem tops_lt (x : S10000x2x1024.Idx → EReal) (j : S10000x2x16.Idx) : (tops x j).toNat < 1024 := by
  rw [tops_at]; exact Fin.isLt _

end Cert.Proof.Ref

end
-- ==== Proof.Point.lean ====
/-
  One step of the rendering over the extended reals, read at an element: what the block held and the sum over the step's
  gaussians of each one's weight at the point times its colour.
-/
module

public import proofs.«01_k».proof.Proof.Render
public import Idealize.ShloMosaic.Lib.Pointwise
public import Idealize.ShloMosaic.Lib.IdealHost

@[expose] public section

noncomputable section

namespace Cert.Proof.Point

open Cert.KernelIdeal Cert.KernelIdeal.Gen
open Idealize.ShloMosaic
open Cert.Proof.Render

/-! ## A gaussian's weight at a point -/

/-- The point's offset from the gaussian's centre, turned by the gaussian's angle: its two coordinates. -/
def turnX (x0 x1 p0 p1 a : EReal) : EReal := Ideal.cos a * (x0 - p0) + Ideal.sin a * (x1 - p1)
def turnY (x0 x1 p0 p1 a : EReal) : EReal := -Ideal.sin a * (x0 - p0) + Ideal.cos a * (x1 - p1)

/-- The envelope. -/
def env (u v s0 s1 : EReal) : EReal := Ideal.exp (Ideal.ofBits .f32 0xBF000000#32 * (u * s0 * (u * s0) + v * s1 * (v * s1)))

/-- The square of a number's distance from a whole number, and a wave's height there. -/
def off (u : EReal) : EReal := (u - Ideal.liftRound Ideal.roundHalfEven u) * (u - Ideal.liftRound Ideal.roundHalfEven u)
def height (u : EReal) : EReal :=
  ((((Ideal.ofBits .f32 0xC1A891A0#32 * off u + Ideal.ofBits .f32 0x426B2978#32) * off u + Ideal.ofBits .f32 0xC2AA8B12#32) * off u
    + Ideal.ofBits .f32 0x4281DB79#32) * off u + Ideal.ofBits .f32 0xC19DE96F#32) * off u + Ideal.ofBits .f32 0x3F7FFFF3#32

/-- A sum of sixteen waves. -/
def wave (a f : Fin 16 → EReal) (t : EReal) : EReal := ∑ k, a k * height (f k * t)

def weight (x0 x1 p0 p1 a s0 s1 : EReal) (a0 f0 a1 f1 : Fin 16 → EReal) : EReal :=
  env (turnX x0 x1 p0 p1 a) (turnY x0 x1 p0 p1 a) s0 s1 * wave a0 f0 (turnX x0 x1 p0 p1 a) * wave a1 f1 (turnY x0 x1 p0 p1 a)

/-! ## One step -/

variable (B1 : Vec Ideal S2x512 .f32) (B2 : Vec Ideal S200x3 .f32) (B3 B4 : Vec Ideal S200x2 .f32) (B5 : Vec Ideal S200x1 .f32)
  (B6 B7 : Vec Ideal S200x32 .f32) (X : Vec Ideal S3x512 .f32)

theorem r19_at (r : Fin 200) (n : Fin 512) : r19 B1 B3 B5 (ix2 r n)
    = turnX (B1 (ix2 0 n)) (B1 (ix2 1 n)) (B3 (ix2 r 0)) (B3 (ix2 r 1)) (B5 (ix2 r 0)) := by
  unfold turnX
  pointwise [r19, k1_pay6, k1_pay2, k1_pay3, k1_pay4, k1_pay5, p0, p2, p4, p5, p12, ldr]

theorem r26_at (r : Fin 200) (n : Fin 512) : r26 B1 B3 B5 (ix2 r n)
    = turnY (B1 (ix2 0 n)) (B1 (ix2 1 n)) (B3 (ix2 r 0)) (B3 (ix2 r 1)) (B5 (ix2 r 0)) := by
  unfold turnY
  pointwise [r26, k1_pay7, k1_pay2, k1_pay3, k1_pay4, k1_pay5, p0, p2, p4, p5, p12, ldr]
  rw [zero_sub]

theorem r38_at (r : Fin 200) (n : Fin 512) : r38 B1 B3 B4 B5 (ix2 r n)
    = env (r19 B1 B3 B5 (ix2 r n)) (r26 B1 B3 B5 (ix2 r n)) (B4 (ix2 r 0)) (B4 (ix2 r 1)) := by
  unfold env r38 k1_pay8
  change Ideal.exp _ = _
  pointwise [r19, r26, p4, p5, ldr]

theorem sum16 (g : Fin 16 → EReal) : ∑ k, g k
    = g 0 + g 1 + g 2 + g 3 + g 4 + g 5 + g 6 + g 7 + g 8 + g 9 + g 10 + g 11 + g 12 + g 13 + g 14 + g 15 := by
  simp only [Fin.sum_univ_castSucc, Fin.sum_univ_zero, zero_add]
  rfl

theorem waveX_at (T : FVec Ideal S200x512 .f32) (r : Fin 200) (n : Fin 512) : waveX T (p39 B6) (p41 B7) (ix2 r n)
    = wave (fun k => B6 (ix2 r ⟨k.val, by omega⟩)) (fun k => B7 (ix2 r ⟨k.val, by omega⟩)) (T (ix2 r n)) := by
  unfold wave height off
  rw [sum16]
  pointwise [waveX, k1_pay9, k1_pay10, k1_pay12, k1_pay18, k1_pay24, k1_pay30, k1_pay34, k1_pay38, k1_pay40, k1_pay41, k1_pay42, k1_pay43, k1_pay45, k1_pay46, k1_pay47, k1_pay48, k1_pay49, k1_pay51, k1_pay52, k1_pay53, k1_pay54, k1_pay55, k1_pay57, k1_pay58, k1_pay59, k1_pay60, k1_pay61, k1_pay63, k1_pay64, k1_pay65, k1_pay66, k1_pay67, k1_pay69, k1_pay70, k1_pay71, k1_pay73, k1_pay74, k1_pay75, k1_pay77, k1_pay82, k1_pay88, p39, p41, ldr]

theorem waveY_at (T : FVec Ideal S200x512 .f32) (r : Fin 200) (n : Fin 512) :
    waveY T (p39 B6) (p41 B7) (ix2 r n) + B6 (ix2 r 31) * height (B7 (ix2 r 31) * T (ix2 r n))
    = wave (fun k => B6 (ix2 r ⟨16 + k.val, by omega⟩)) (fun k => B7 (ix2 r ⟨16 + k.val, by omega⟩)) (T (ix2 r n)) := by
  unfold wave
  rw [sum16]
  refine congrArg (· + _) ?_
  unfold height off
  pointwise [waveY, k1_pay9, k1_pay10, k1_pay11, k1_pay13, k1_pay14, k1_pay15, k1_pay16, k1_pay17, k1_pay19, k1_pay20, k1_pay21, k1_pay22, k1_pay23, k1_pay25, k1_pay26, k1_pay27, k1_pay28, k1_pay29, k1_pay31, k1_pay32, k1_pay33, k1_pay35, k1_pay36, k1_pay37, k1_pay39, k1_pay44, k1_pay50, k1_pay56, k1_pay62, k1_pay68, k1_pay72, k1_pay76, k1_pay78, k1_pay79, k1_pay80, k1_pay81, k1_pay83, k1_pay84, k1_pay85, k1_pay86, k1_pay87, p39, p41, ldr]

theorem gain_at (T v38 w0 w1 : FVec Ideal S200x512 .f32) (c : Fin 3) (n : Fin 512) : gain T v38 w0 w1 (p39 B6) (p41 B7) (p367 B2) (ix2 c n)
    = ∑ r : Fin 200, v38 (ix2 r n) * w0 (ix2 r n) * (w1 (ix2 r n) + B6 (ix2 r 31) * height (B7 (ix2 r 31) * T (ix2 r n))) * B2 (ix2 r c) := by
  unfold height off
  match c with
  | 0 => pointwise [gain, k1_pay93, k1_pay9, k1_pay10, k1_pay89, k1_pay90, k1_pay91, k1_pay92, p39, p41, p367, ldr]
  | 1 => pointwise [gain, k1_pay93, k1_pay9, k1_pay10, k1_pay89, k1_pay90, k1_pay91, k1_pay92, p39, p41, p367, ldr]
  | 2 => pointwise [gain, k1_pay93, k1_pay9, k1_pay10, k1_pay89, k1_pay90, k1_pay91, k1_pay92, p39, p41, p367, ldr]

theorem pay1_at (S : FVec Ideal S3x512 .f32) (y : S3x512.Idx) : k1_pay1 S (p387 X) y = X y + S y := by
  obtain ⟨c, n, rfl⟩ : ∃ (c : Fin 3) (n : Fin 512), y = ix2 c n := ⟨y 0, y 1, by funext i; match i with | 0 => rfl | 1 => rfl⟩
  pointwise [k1_pay1, p387, ldr]

theorem mul3 {a a' b b' d d' : EReal} (ha : a = a') (hb : b = b') (hd : d = d') : a * b * d = a' * b' * d' := by
  rw [ha, hb, hd]

/-- A step at an element. -/
theorem step_at (c : Fin 3) (n : Fin 512) : step B1 B2 B3 B4 B5 B6 B7 X (ix2 c n)
    = X (ix2 c n) + ∑ r : Fin 200, weight (B1 (ix2 0 n)) (B1 (ix2 1 n)) (B3 (ix2 r 0)) (B3 (ix2 r 1)) (B5 (ix2 r 0)) (B4 (ix2 r 0)) (B4 (ix2 r 1))
        (fun k => B6 (ix2 r ⟨k.val, by omega⟩)) (fun k => B7 (ix2 r ⟨k.val, by omega⟩))
        (fun k => B6 (ix2 r ⟨16 + k.val, by omega⟩)) (fun k => B7 (ix2 r ⟨16 + k.val, by omega⟩)) * B2 (ix2 r c) := by
  unfold step
  rw [pay1_at, gain_at]
  refine congrArg (X (ix2 c n) + ·) (Finset.sum_congr rfl fun r _ => congrArg (· * B2 (ix2 r c)) ?_)
  have hx := waveX_at B6 B7 (r19 B1 B3 B5) r n
  have hy := (waveY_at B6 B7 (r26 B1 B3 B5) r n).trans (congrArg (wave _ _) (r26_at B1 B3 B5 r n))
  rw [r19_at] at hx
  have he := r38_at B1 B3 B4 B5 r n
  rw [r19_at, r26_at] at he
  exact mul3 he hx hy

theorem zero_at (y : S3x512.Idx) : (k1_pay94 (F := Ideal)) y = 0 := by
  pointwise [k1_pay94]

end Cert.Proof.Point

end
-- ==== Proof.RefPoint.lean ====
/-
  The reference's result over the extended reals, read at a point and a colour: the sum over the gaussians of each one's
  weight at the point times its colour.
-/
module

public import proofs.«01_k».proof.Proof.RefValue
public import proofs.«01_k».proof.Proof.Point
public import proofs.«01_k».proof.Proof.Gen.ReferenceIdeal.Run

@[expose] public section

noncomputable section

namespace Cert.Proof.Ref

open Cert.ReferenceIdeal Cert.ReferenceIdeal.Facts₀
open Idealize.ShloMosaic
open Cert.Proof.Point

variable (x0 : FVec Ideal S512x2 .f32) (x1 : FVec Ideal S10000x3 .f32) (x2 x3 : FVec Ideal S10000x2 .f32) (x4 : FVec Ideal S10000x1 .f32)
  (C Q : FVec Ideal S10000x2x16 .f32)

/-- A number of every gaussian, at every point. -/
def wide (v : FVec Ideal S10000 .f32) : FVec Ideal S512x10000 .f32 :=
  broadcastInDim S512x10000 ![0, 1] bcast_S1x10000_S512x10000_0_1 (broadcastInDim S1x10000 ![1] bcast_S10000_S1x10000_1 v)

/-- The points' offsets from the centres. -/
def diff : FVec Ideal S512x10000x2 .f32 :=
  subf (broadcastInDim S512x10000x2 ![0, 1, 2] bcast_S512x1x2_S512x10000x2_0_1_2 (broadcastInDim S512x1x2 ![0, 2] bcast_S512x2_S512x1x2_0_2 x0))
    (broadcastInDim S512x10000x2 ![0, 1, 2] bcast_S1x10000x2_S512x10000x2_0_1_2 (broadcastInDim S1x10000x2 ![1, 2] bcast_S10000x2_S1x10000x2_1_2 x2))

def diffX : FVec Ideal S512x10000 .f32 :=
  shapeCast S512x10000 (extractStridedSlice S512x10000x1 ![0, 0, 0] (diff x0 x2) slices_S512x10000x2_S512x10000x1_0_0_0) shapeCasts_S512x10000x1_S512x10000
def diffY : FVec Ideal S512x10000 .f32 :=
  shapeCast S512x10000 (extractStridedSlice S512x10000x1 ![0, 0, 1] (diff x0 x2) slices_S512x10000x2_S512x10000x1_0_0_1) shapeCasts_S512x10000x1_S512x10000

def angle : FVec Ideal S10000 .f32 := shapeCast S10000 x4 shapeCasts_S10000x1_S10000

/-- The offsets turned. -/
def turnedX : FVec Ideal S512x10000 .f32 :=
  addf (mulf (wide (Host.cos (angle x4))) (diffX x0 x2)) (mulf (wide (Host.sin (angle x4))) (diffY x0 x2))
def turnedY : FVec Ideal S512x10000 .f32 :=
  addf (mulf (broadcastInDim S512x10000 ![0, 1] bcast_S1x10000_S512x10000_0_1
      (Host.negf (broadcastInDim S1x10000 ![1] bcast_S10000_S1x10000_1 (Host.sin (angle x4))))) (diffX x0 x2))
    (mulf (wide (Host.cos (angle x4))) (diffY x0 x2))

def scaleX : FVec Ideal S10000 .f32 := shapeCast S10000 (extractStridedSlice S10000x1 ![0, 0] x3 slices_S10000x2_S10000x1_0_0) shapeCasts_S10000x1_S10000
def scaleY : FVec Ideal S10000 .f32 := shapeCast S10000 (extractStridedSlice S10000x1 ![0, 1] x3 slices_S10000x2_S10000x1_0_1) shapeCasts_S10000x1_S10000

/-- The envelopes. -/
def envs (u v : FVec Ideal S512x10000 .f32) : FVec Ideal S512x10000 .f32 :=
  Host.exp (mulf (broadcastInDim S512x10000 ![] bcast_S_S512x10000 (constant S_ .f32 0xBF000000#32))
    (addf (mulf (mulf u (wide (scaleX x3))) (mulf u (wide (scaleX x3)))) (mulf (mulf v (wide (scaleY x3))) (mulf v (wide (scaleY x3))))))

/-- The numbers of turns, the squares of their distances from whole numbers, and the waves' heights there. -/
def turns (f : FVec Ideal S10000x16 .f32) (t : FVec Ideal S512x10000 .f32) : FVec Ideal S512x10000x16 .f32 :=
  mulf (broadcastInDim S512x10000x16 ![0, 1, 2] bcast_S1x10000x16_S512x10000x16_0_1_2 (broadcastInDim S1x10000x16 ![1, 2] bcast_S10000x16_S1x10000x16_1_2 f))
    (broadcastInDim S512x10000x16 ![0, 1, 2] bcast_S512x10000x1_S512x10000x16_0_1_2 (broadcastInDim S512x10000x1 ![0, 1] bcast_S512x10000_S512x10000x1_0_1 t))
def offs (u : FVec Ideal S512x10000x16 .f32) : FVec Ideal S512x10000x16 .f32 := mulf (subf u (Host.roundeven u)) (subf u (Host.roundeven u))
def coef (b : BitVec 32) : FVec Ideal S512x10000x16 .f32 := broadcastInDim S512x10000x16 ![] bcast_S_S512x10000x16 (constant S_ .f32 b)
def heights (z : FVec Ideal S512x10000x16 .f32) : FVec Ideal S512x10000x16 .f32 :=
  addf (mulf (addf (mulf (addf (mulf (addf (mulf (addf (mulf (coef 0xC1A891A0#32) z) (coef 0x426B2978#32)) z) (coef 0xC2AA8B12#32)) z) (coef 0x4281DB79#32)) z)
    (coef 0xC19DE96F#32)) z) (coef 0x3F7FFFF3#32)

/-- The sums of the waves of one dimension's coefficients and frequencies. -/
def waves (a f : FVec Ideal S10000x16 .f32) (t : FVec Ideal S512x10000 .f32) : FVec Ideal S512x10000 .f32 :=
  Host.reduceAdd (mulf (broadcastInDim S512x10000x16 ![0, 1, 2] bcast_S1x10000x16_S512x10000x16_0_1_2 (broadcastInDim S1x10000x16 ![1, 2] bcast_S10000x16_S1x10000x16_1_2 a))
    (heights (offs (turns f t)))) (constant S_ .f32 0x00000000#32) reducesTo_S512x10000x16_S512x10000_d2 h_S_

def dimX : FVec Ideal S10000x16 .f32 := shapeCast S10000x16 (extractStridedSlice S10000x1x16 ![0, 0, 0] C slices_S10000x2x16_S10000x1x16_0_0_0) shapeCasts_S10000x1x16_S10000x16
def dimY : FVec Ideal S10000x16 .f32 := shapeCast S10000x16 (extractStridedSlice S10000x1x16 ![0, 1, 0] C slices_S10000x2x16_S10000x1x16_0_1_0) shapeCasts_S10000x1x16_S10000x16

/-- The weights of the gaussians at the points. -/
def weights : FVec Ideal S512x10000 .f32 :=
  mulf (mulf (envs x3 (turnedX x0 x2 x4) (turnedY x0 x2 x4)) (waves (dimX C) (dimX Q) (turnedX x0 x2 x4))) (waves (dimY C) (dimY Q) (turnedY x0 x2 x4))

/-- The result. -/
def picture : FVec Ideal S512x3 .f32 :=
  Host.dotGeneral dot_S512x10000_S10000x3_S512x3_1_0_0_1_n_n none (weights x0 x2 x3 x4 C Q) x1

/-- The picture of an assignment of contents to the arguments. -/
def pictureOf (V : Valuation τ sig (Elt Ideal)) : FVec Ideal S512x3 .f32 :=
  picture (V (Proc.devRef .tc main_arg0)) (V (Proc.devRef .tc main_arg1)) (V (Proc.devRef .tc main_arg2)) (V (Proc.devRef .tc main_arg3)) (V (Proc.devRef .tc main_arg4))
    (coefAt (V (Proc.devRef .tc main_arg5)) (tops (V (Proc.devRef .tc main_arg5)))) (freqAt (tops (V (Proc.devRef .tc main_arg5))))

open Value in
theorem res_eq (V : Valuation τ sig (Elt Ideal)) :
    Host.dotGeneral (φ₂ := .f32) dot_S512x10000_S10000x3_S512x3_1_0_0_1_n_n none
      (mulf (mulf (Host.exp (mulf (broadcastInDim S512x10000 ![] bcast_S_S512x10000 (constant S_ .f32 0xBF000000#32))
          (addf (mulf (res_main_v43 V) (res_main_v43 V)) (mulf (res_main_v49 V) (res_main_v49 V)))))
        (Host.reduceAdd (mulf (broadcastInDim S512x10000x16 ![0, 1, 2] bcast_S1x10000x16_S512x10000x16_0_1_2
          (broadcastInDim S1x10000x16 ![1, 2] bcast_S10000x16_S1x10000x16_1_2 (dimX (res_main_v1 V)))) (heights (res_main_v67 V)))
          (constant S_ .f32 0x00000000#32) reducesTo_S512x10000x16_S512x10000_d2 h_S_))
        (Host.reduceAdd (mulf (broadcastInDim S512x10000x16 ![0, 1, 2] bcast_S1x10000x16_S512x10000x16_0_1_2
          (broadcastInDim S1x10000x16 ![1, 2] bcast_S10000x16_S1x10000x16_1_2 (dimY (res_main_v1 V)))) (heights (res_main_v99 V)))
          (constant S_ .f32 0x00000000#32) reducesTo_S512x10000x16_S512x10000_d2 h_S_)) (V (Proc.devRef .tc main_arg1))
      = pictureOf V := rfl

/-! ## Read at an element -/

variable (n : Fin 512) (g : Fin 10000)

theorem turnedX_at : turnedX x0 x2 x4 (ix2 n g) = turnX (x0 (ix2 n 0)) (x0 (ix2 n 1)) (x2 (ix2 g 0)) (x2 (ix2 g 1)) (x4 (ix2 g 0)) := by
  unfold turnX
  pointwise [turnedX, wide, angle, diffX, diffY, diff]

theorem turnedY_at : turnedY x0 x2 x4 (ix2 n g) = turnY (x0 (ix2 n 0)) (x0 (ix2 n 1)) (x2 (ix2 g 0)) (x2 (ix2 g 1)) (x4 (ix2 g 0)) := by
  unfold turnY
  pointwise [turnedY, wide, angle, diffX, diffY, diff]

theorem envs_at (u v : FVec Ideal S512x10000 .f32) : envs x3 u v (ix2 n g) = env (u (ix2 n g)) (v (ix2 n g)) (x3 (ix2 g 0)) (x3 (ix2 g 1)) := by
  unfold env
  pointwise [envs, wide, scaleX, scaleY]

theorem waves_at (a f : FVec Ideal S10000x16 .f32) (t : FVec Ideal S512x10000 .f32) :
    waves a f t (ix2 n g) = wave (fun k => a (ix2 g k)) (fun k => f (ix2 g k)) (t (ix2 n g)) := by
  unfold wave height off
  pointwise [waves, heights, coef, offs, turns]

theorem dimX_at (k : Fin 16) : dimX C (ix2 g k) = C (ix3 g 0 k) := by
  pointwise [dimX]
theorem dimY_at (k : Fin 16) : dimY C (ix2 g k) = C (ix3 g 1 k) := by
  pointwise [dimY]

theorem picture_at (c : Fin 3) : picture x0 x1 x2 x3 x4 C Q (ix2 n c)
    = ∑ g : Fin 10000, weight (x0 (ix2 n 0)) (x0 (ix2 n 1)) (x2 (ix2 g 0)) (x2 (ix2 g 1)) (x4 (ix2 g 0)) (x3 (ix2 g 0)) (x3 (ix2 g 1))
        (fun k => C (ix3 g 0 k)) (fun k => Q (ix3 g 0 k)) (fun k => C (ix3 g 1 k)) (fun k => Q (ix3 g 1 k)) * x1 (ix2 g c) := by
  have h : ∀ g, weights x0 x2 x3 x4 C Q (ix2 n g) = weight (x0 (ix2 n 0)) (x0 (ix2 n 1)) (x2 (ix2 g 0)) (x2 (ix2 g 1)) (x4 (ix2 g 0)) (x3 (ix2 g 0)) (x3 (ix2 g 1))
        (fun k => C (ix3 g 0 k)) (fun k => Q (ix3 g 0 k)) (fun k => C (ix3 g 1 k)) (fun k => Q (ix3 g 1 k)) := fun g => by
    show envs x3 _ _ (ix2 n g) * waves _ _ _ (ix2 n g) * waves _ _ _ (ix2 n g) = _
    simp only [envs_at, waves_at, turnedX_at, turnedY_at, dimX_at, dimY_at]
    rfl
  simp only [← h]
  pointwise [picture]

end Cert.Proof.Ref

end
-- ==== Proof.Blocks.lean ====
/-
  The render call over the extended reals: what its running sum comes to at an element, from the call's input arrays.
-/
module

public import proofs.«01_k».proof.Proof.Region
public import proofs.«01_k».proof.Proof.Point
public import Mathlib.Logic.Equiv.Fin.Basic
public import Mathlib.Algebra.BigOperators.Fin

@[expose] public section

noncomputable section

namespace Cert.Proof.Render

open Cert.KernelIdeal Cert.KernelIdeal.Gen
open Idealize.ShloMosaic
open Idealize.ShloMosaic.Pipeline (arrRef)
open Cert.Proof.Point

variable (V : Dev nD → Valuation τ sig (Elt Ideal)) (c : Dev nD)

/-- The call's input arrays. -/
def inX : Vec Ideal S2x512 .f32 := V c (Proc.devRef .tc (main_v1 : Ref sig .tc))
def inCol : Vec Ideal S10000x3 .f32 := V c (Proc.devRef .tc (main_arg1 : Ref sig .tc))
def inPos : Vec Ideal S10000x2 .f32 := V c (Proc.devRef .tc (main_arg2 : Ref sig .tc))
def inScl : Vec Ideal S10000x2 .f32 := V c (Proc.devRef .tc (main_arg3 : Ref sig .tc))
def inRot : Vec Ideal S10000x1 .f32 := V c (Proc.devRef .tc (main_arg4 : Ref sig .tc))
def inVal : Vec Ideal S10000x32 .f32 := V c (Proc.devRef .tc (main_v3 : Ref sig .tc))
def inFrq : Vec Ideal S10000x32 .f32 := V c (Proc.devRef .tc (main_v4 : Ref sig .tc))

/-- Gaussian `r` of step `t`. -/
def gau (t : ℕ) (r : Fin 200) : Fin 10000 := Fin.ofNat 10000 (t * 200 + r.val)

theorem gau_val (t : Fin cfg1.N) (r : Fin 200) : (gau t.val r).val = t.val * 200 + r.val := by
  have h : t.val < 50 := lt_of_lt_of_eq t.isLt N_1
  exact Nat.mod_eq_of_lt (by omega)

theorem idx1 : ∀ t : Fin cfg1.N, win1_1.index t 0 = t.val ∧ win1_1.index t 1 = 0 := by decide +kernel
theorem idx2 : ∀ t : Fin cfg1.N, win1_2.index t 0 = t.val ∧ win1_2.index t 1 = 0 := by decide +kernel
theorem idx3 : ∀ t : Fin cfg1.N, win1_3.index t 0 = t.val ∧ win1_3.index t 1 = 0 := by decide +kernel
theorem idx4 : ∀ t : Fin cfg1.N, win1_4.index t 0 = t.val ∧ win1_4.index t 1 = 0 := by decide +kernel
theorem idx5 : ∀ t : Fin cfg1.N, win1_5.index t 0 = t.val ∧ win1_5.index t 1 = 0 := by decide +kernel
theorem idx6 : ∀ t : Fin cfg1.N, win1_6.index t 0 = t.val ∧ win1_6.index t 1 = 0 := by decide +kernel
theorem idx0 : ∀ t : Fin cfg1.N, win1_0.index t 0 = 0 ∧ win1_0.index t 1 = 0 := by decide +kernel

variable (t : Fin cfg1.N) (r : Fin 200)

theorem blk0 (k : Fin 2) (n : Fin 512) : (iblk V c 0 t : Vec Ideal S2x512 .f32) (ix2 k n) = inX V c (ix2 k n) := by
  unfold iblk inX
  rw [View.read_apply]
  refine congrArg (V c (Proc.devRef .tc (main_v1 : Ref sig .tc))) (funext fun a => Fin.ext ?_)
  match a with
  | 0 => show win1_0.index t 0 * 2 + 1 * k.val = k.val; rw [(idx0 t).1]; omega
  | 1 => show win1_0.index t 1 * 512 + 1 * n.val = n.val; rw [(idx0 t).2]; omega

theorem blk1 (k : Fin 3) : (iblk V c 1 t : Vec Ideal S200x3 .f32) (ix2 r k) = inCol V c (ix2 (gau t.val r) k) := by
  unfold iblk inCol
  rw [View.read_apply]
  refine congrArg (V c (Proc.devRef .tc (main_arg1 : Ref sig .tc))) (funext fun a => Fin.ext ?_)
  match a with
  | 0 => show win1_1.index t 0 * 200 + 1 * r.val = (gau t.val r).val; rw [(idx1 t).1, gau_val]; omega
  | 1 => show win1_1.index t 1 * 3 + 1 * k.val = k.val; rw [(idx1 t).2]; omega

theorem blk2 (k : Fin 2) : (iblk V c 2 t : Vec Ideal S200x2 .f32) (ix2 r k) = inPos V c (ix2 (gau t.val r) k) := by
  unfold iblk inPos
  rw [View.read_apply]
  refine congrArg (V c (Proc.devRef .tc (main_arg2 : Ref sig .tc))) (funext fun a => Fin.ext ?_)
  match a with
  | 0 => show win1_2.index t 0 * 200 + 1 * r.val = (gau t.val r).val; rw [(idx2 t).1, gau_val]; omega
  | 1 => show win1_2.index t 1 * 2 + 1 * k.val = k.val; rw [(idx2 t).2]; omega

theorem blk3 (k : Fin 2) : (iblk V c 3 t : Vec Ideal S200x2 .f32) (ix2 r k) = inScl V c (ix2 (gau t.val r) k) := by
  unfold iblk inScl
  rw [View.read_apply]
  refine congrArg (V c (Proc.devRef .tc (main_arg3 : Ref sig .tc))) (funext fun a => Fin.ext ?_)
  match a with
  | 0 => show win1_3.index t 0 * 200 + 1 * r.val = (gau t.val r).val; rw [(idx3 t).1, gau_val]; omega
  | 1 => show win1_3.index t 1 * 2 + 1 * k.val = k.val; rw [(idx3 t).2]; omega

theorem blk4 (k : Fin 1) : (iblk V c 4 t : Vec Ideal S200x1 .f32) (ix2 r k) = inRot V c (ix2 (gau t.val r) k) := by
  unfold iblk inRot
  rw [View.read_apply]
  refine congrArg (V c (Proc.devRef .tc (main_arg4 : Ref sig .tc))) (funext fun a => Fin.ext ?_)
  match a with
  | 0 => show win1_4.index t 0 * 200 + 1 * r.val = (gau t.val r).val; rw [(idx4 t).1, gau_val]; omega
  | 1 => show win1_4.index t 1 * 1 + 1 * k.val = k.val; rw [(idx4 t).2]; omega

theorem blk5 (k : Fin 32) : (iblk V c 5 t : Vec Ideal S200x32 .f32) (ix2 r k) = inVal V c (ix2 (gau t.val r) k) := by
  unfold iblk inVal
  rw [View.read_apply]
  refine congrArg (V c (Proc.devRef .tc (main_v3 : Ref sig .tc))) (funext fun a => Fin.ext ?_)
  match a with
  | 0 => show win1_5.index t 0 * 200 + 1 * r.val = (gau t.val r).val; rw [(idx5 t).1, gau_val]; omega
  | 1 => show win1_5.index t 1 * 32 + 1 * k.val = k.val; rw [(idx5 t).2]; omega

theorem blk6 (k : Fin 32) : (iblk V c 6 t : Vec Ideal S200x32 .f32) (ix2 r k) = inFrq V c (ix2 (gau t.val r) k) := by
  unfold iblk inFrq
  rw [View.read_apply]
  refine congrArg (V c (Proc.devRef .tc (main_v4 : Ref sig .tc))) (funext fun a => Fin.ext ?_)
  match a with
  | 0 => show win1_6.index t 0 * 200 + 1 * r.val = (gau t.val r).val; rw [(idx6 t).1, gau_val]; omega
  | 1 => show win1_6.index t 1 * 32 + 1 * k.val = k.val; rw [(idx6 t).2]; omega

/-! ## The running sum -/

/-- What gaussian `g` adds to colour `k` of point `n`. -/
def adds (k : Fin 3) (n : Fin 512) (g : Fin 10000) : EReal :=
  weight (inX V c (ix2 0 n)) (inX V c (ix2 1 n)) (inPos V c (ix2 g 0)) (inPos V c (ix2 g 1)) (inRot V c (ix2 g 0)) (inScl V c (ix2 g 0)) (inScl V c (ix2 g 1))
    (fun l => inVal V c (ix2 g ⟨l.val, by omega⟩)) (fun l => inFrq V c (ix2 g ⟨l.val, by omega⟩))
    (fun l => inVal V c (ix2 g ⟨16 + l.val, by omega⟩)) (fun l => inFrq V c (ix2 g ⟨16 + l.val, by omega⟩)) * inCol V c (ix2 g k)

theorem stepAt_at (X : Vec Ideal S3x512 .f32) (k : Fin 3) (n : Fin 512) :
    stepAt V c t X (ix2 k n) = X (ix2 k n) + ∑ r : Fin 200, adds V c k n (gau t.val r) := by
  refine (step_at (iblk V c 0 t) (iblk V c 1 t) (iblk V c 2 t) (iblk V c 3 t) (iblk V c 4 t) (iblk V c 5 t) (iblk V c 6 t) X k n).trans ?_
  unfold adds
  simp only [blk0, blk1, blk2, blk3, blk4, blk5, blk6]

theorem acc_at (k : Fin 3) (n : Fin 512) : ∀ (s : ℕ) (h : s < cfg1.N),
    acc V c s h (ix2 k n) = ∑ t ∈ Finset.range (s + 1), ∑ r : Fin 200, adds V c k n (gau t r) := by
  intro s
  induction s with
  | zero =>
    intro h
    rw [Finset.sum_range_one]
    refine (stepAt_at V c ⟨0, h⟩ _ k n).trans ?_
    rw [zero_at, zero_add]
  | succ s ih =>
    intro h
    rw [Finset.sum_range_succ]
    refine (stepAt_at V c ⟨s + 1, h⟩ _ k n).trans ?_
    rw [ih]

theorem total_at (k : Fin 3) (n : Fin 512) : total V c (ix2 k n) = ∑ g : Fin 10000, adds V c k n g := by
  refine (acc_at V c k n 49 lt_N).trans ?_
  rw [Finset.sum_range, ← Fintype.sum_prod_type' (f := fun (t : Fin 50) (r : Fin 200) => adds V c k n (gau t.val r))]
  refine Fintype.sum_equiv (finProdFinEquiv (m := 50) (n := 200)) _ (fun g : Fin (50 * 200) => adds V c k n g) fun p => ?_
  refine congrArg (adds V c k n) (Fin.ext ?_)
  have h1 := p.1.isLt
  have h2 := p.2.isLt
  show (p.1.val * 200 + p.2.val) % 10000 = p.2.val + 200 * p.1.val
  rw [Nat.mod_eq_of_lt (by omega)]
  omega

end Cert.Proof.Render

end
-- ==== Proof.Value.lean ====
/-
  The kernel's result is the reference's where in every row the sixteenth largest magnitude stands above the seventeenth.
-/
module

public import proofs.«01_k».proof.Proof.RefPoint
public import proofs.«01_k».proof.Proof.Blocks
public import proofs.«01_k».proof.Proof.Launch

@[expose] public section

noncomputable section

namespace Cert.Proof.Tile

open Cert.KernelIdeal
open Idealize.ShloMosaic
open Cert.Proof.Spec
open Cert.Proof.Render (inX inCol inPos inScl inRot inVal inFrq adds total total_at)
open Cert.Proof.Point (wave weight)
open Cert.Proof.Ref (rowAt ix ord tops tops_at tops_lt coefAt freqAt coefAt_eq freqAt_eq top17 places_ord g0 d0)

section Keep

variable {F : FTy → Type} [FloatOps F] (m : (ℓ : Loc nD τ sig) → Buf (Elt F) ℓ) (d : Dev nD)

/-- What no operation of the program writes is as it was, before the render call and at the end. -/
theorem V5_keep (b : DevRef τ sig) (h0 : b ≠ Proc.devRef .tc (main_v0 : Ref sig .tc)) (h1 : b ≠ Proc.devRef .tc (main_v1 : Ref sig .tc)) (hp : b ≠ p') (hq : b ≠ q')
    (h3 : b ≠ Proc.devRef .tc (main_v3 : Ref sig .tc)) (h4 : b ≠ Proc.devRef .tc (main_v4 : Ref sig .tc)) : V5 m d b = m (d, b) := by
  unfold V5
  rw [(opB (F := F)).result_of_not_mem _ (b := b) (show b ∉ ({Proc.devRef .tc (main_v4 : Ref sig .tc)} : Finset (DevRef τ sig)) from mt Finset.mem_singleton.mp h4),
    (opA (F := F)).result_of_not_mem _ (b := b) (show b ∉ ({Proc.devRef .tc (main_v3 : Ref sig .tc)} : Finset (DevRef τ sig)) from mt Finset.mem_singleton.mp h3)]
  unfold V3
  rw [Function.update_of_ne hq, Function.update_of_ne hp]
  unfold V2
  rw [(opT (F := F)).result_of_not_mem _ (b := b) (show b ∉ ({Proc.devRef .tc (main_v1 : Ref sig .tc)} : Finset (DevRef τ sig)) from mt Finset.mem_singleton.mp h1),
    (opR (F := F)).result_of_not_mem _ (b := b) (show b ∉ ({Proc.devRef .tc (main_v0 : Ref sig .tc)} : Finset (DevRef τ sig)) from mt Finset.mem_singleton.mp h0)]
  rfl

theorem V7_keep (b : DevRef τ sig) (h0 : b ≠ Proc.devRef .tc (main_v0 : Ref sig .tc)) (h1 : b ≠ Proc.devRef .tc (main_v1 : Ref sig .tc)) (hp : b ≠ p') (hq : b ≠ q')
    (h3 : b ≠ Proc.devRef .tc (main_v3 : Ref sig .tc)) (h4 : b ≠ Proc.devRef .tc (main_v4 : Ref sig .tc)) (h5 : b ≠ Proc.devRef .tc (main_v5 : Ref sig .tc))
    (h6 : b ≠ Proc.devRef .tc (main_v6 : Ref sig .tc)) : V7 m d b = m (d, b) := by
  unfold V7
  rw [(opO (F := F)).result_of_not_mem _ (b := b) (show b ∉ ({Proc.devRef .tc (main_v6 : Ref sig .tc)} : Finset (DevRef τ sig)) from mt Finset.mem_singleton.mp h6)]
  unfold Render.after
  rw [Function.update_of_ne h5]
  exact V5_keep m d b h0 h1 hp hq h3 h4

end Keep

variable (m : (ℓ : Loc nD τ sig) → Buf (Elt Ideal) ℓ)

/-! ## The render call's inputs -/

/-- The program's arguments. -/
abbrev arg0 (c : Dev nD) : FVec Ideal S512x2 .f32 := m ((SparseCore.T c).loc main_arg0)
abbrev arg1 (c : Dev nD) : FVec Ideal S10000x3 .f32 := m ((SparseCore.T c).loc main_arg1)
abbrev arg2 (c : Dev nD) : FVec Ideal S10000x2 .f32 := m ((SparseCore.T c).loc main_arg2)
abbrev arg3 (c : Dev nD) : FVec Ideal S10000x2 .f32 := m ((SparseCore.T c).loc main_arg3)
abbrev arg4 (c : Dev nD) : FVec Ideal S10000x1 .f32 := m ((SparseCore.T c).loc main_arg4)
/-- The coefficients given. -/
def coefsIn (c : Dev nD) : S10000x2x1024.Idx → EReal := m (aLoc c)

theorem inCol_eq (c : Dev nD) : inCol (V5 m) c = arg1 m c := V5_keep m c _ (by decide) (by decide) (by decide) (by decide) (by decide) (by decide)
theorem inPos_eq (c : Dev nD) : inPos (V5 m) c = arg2 m c := V5_keep m c _ (by decide) (by decide) (by decide) (by decide) (by decide) (by decide)
theorem inScl_eq (c : Dev nD) : inScl (V5 m) c = arg3 m c := V5_keep m c _ (by decide) (by decide) (by decide) (by decide) (by decide) (by decide)
theorem inRot_eq (c : Dev nD) : inRot (V5 m) c = arg4 m c := V5_keep m c _ (by decide) (by decide) (by decide) (by decide) (by decide) (by decide)

theorem turn_in (X : FVec Ideal S512x2 .f32) (h : S512x2.Transposes [1, 0] S2x512) (i : Fin 2) (j : Fin 512) :
    transpose S2x512 [1, 0] X h (ix2 i j) = X (ix2 j i) := by
  pointwise []
theorem turn_out (X : FVec Ideal S3x512 .f32) (h : S3x512.Transposes [1, 0] S512x3) (i : Fin 512) (j : Fin 3) :
    transpose S512x3 [1, 0] X h (ix2 i j) = X (ix2 j i) := by
  pointwise []

theorem inX_at (c : Dev nD) (k : Fin 2) (n : Fin 512) : inX (V5 m) c (ix2 k n) = arg0 m c (ix2 n k) := by
  unfold inX V5
  rw [(opB (F := Ideal)).result_of_not_mem _ (b := Proc.devRef .tc (main_v1 : Ref sig .tc)) (show _ ∉ ({Proc.devRef .tc (main_v4 : Ref sig .tc)} : Finset (DevRef τ sig)) by decide),
    (opA (F := Ideal)).result_of_not_mem _ (b := Proc.devRef .tc (main_v1 : Ref sig .tc)) (show _ ∉ ({Proc.devRef .tc (main_v3 : Ref sig .tc)} : Finset (DevRef τ sig)) by decide)]
  unfold V3
  rw [Function.update_of_ne (by decide), Function.update_of_ne (by decide)]
  unfold V2 opT
  rw [StableHlo.unary_result]
  refine (turn_in _ _ k n).trans ?_
  rw [(opR (F := Ideal)).result_of_not_mem _ (b := Proc.devRef .tc (main_arg0 : Ref sig .tc)) (show _ ∉ ({Proc.devRef .tc (main_v0 : Ref sig .tc)} : Finset (DevRef τ sig)) by decide)]
  rfl

/-- An element of the flat results by its row and lane. -/
def flat (r : Fin 20000) (l : Fin 16) : S320000.Idx := fun a => match a with
  | 0 => ⟨r.val * 16 + l.val, by show _ < 320000; omega⟩

theorem reshape_at (X : S320000.Idx → EReal) (g : Fin 10000) (b : Fin 2) (l : Fin 16) (h : S320000.ShapeCasts S10000x32) (q : Fin 32) (hq : q.val = b.val * 16 + l.val) :
    shapeCast S10000x32 X h (ix2 g q) = X (flat ⟨g.val * 2 + b.val, by omega⟩ l) := by
  unfold shapeCast
  refine congrArg X (Shape.reshapeEquiv_eq_of_rowMajor _ ?_)
  rw [Shape.rowMajor_val_one, Shape.rowMajor_val_two]
  show (g.val * 2 + b.val) * 16 + l.val = g.val * 32 + q.val
  omega

theorem inVal_at (c : Dev nD) (g : Fin 10000) (b : Fin 2) (l : Fin 16) (q : Fin 32) (hq : q.val = b.val * 16 + l.val) :
    inVal (V5 m) c (ix2 g q) = valsOf (xin m c) (flat ⟨g.val * 2 + b.val, by omega⟩ l) := by
  unfold inVal V5
  rw [(opB (F := Ideal)).result_of_not_mem _ (b := Proc.devRef .tc (main_v3 : Ref sig .tc)) (show _ ∉ ({Proc.devRef .tc (main_v4 : Ref sig .tc)} : Finset (DevRef τ sig)) by decide)]
  unfold opA
  rw [StableHlo.reshape_result]
  refine (reshape_at _ g b l _ q hq).trans ?_
  exact congrFun (V3_p m c) _

theorem inFrq_at (c : Dev nD) (g : Fin 10000) (b : Fin 2) (l : Fin 16) (q : Fin 32) (hq : q.val = b.val * 16 + l.val) :
    inFrq (V5 m) c (ix2 g q) = frqsOf (xin m c) (flat ⟨g.val * 2 + b.val, by omega⟩ l) := by
  unfold inFrq V5 opB
  rw [StableHlo.reshape_result]
  refine (reshape_at _ g b l _ q hq).trans ?_
  rw [(opA (F := Ideal)).result_of_not_mem _ (b := q') (show _ ∉ ({Proc.devRef .tc (main_v3 : Ref sig .tc)} : Finset (DevRef τ sig)) by decide)]
  exact congrFun (V3_q m c) _

theorem xin_at (c : Dev nD) (y : S20000x1024.Idx) :
    xin m c y = coefsIn m c (ix ⟨(y 0).val / 2, by have : (y 0).val < 20000 := (y 0).isLt; omega⟩ ⟨(y 0).val % 2, by omega⟩ (y 1)) := by
  unfold xin opR
  rw [StableHlo.reshape_result]
  show shapeCast S20000x1024 (coefsIn m c) _ y = _
  unfold shapeCast
  refine congrArg (coefsIn m c) (Shape.reshapeEquiv_eq_of_rowMajor _ ?_)
  rw [Shape.rowMajor_val_three, Shape.rowMajor_val_two]
  show ((y 0).val / 2 * 2 + (y 0).val % 2) * 1024 + (y 1).val = (y 0).val * 1024 + (y 1).val
  omega

theorem inRow_xin (c : Dev nD) (g : Fin 10000) (b : Fin 2) : inRow (g.val * 2 + b.val) (xin m c) = rowAt (coefsIn m c) g b := by
  funext j
  show xin m c (inIx (g.val * 2 + b.val) j) = coefsIn m c (ix _ _ j)
  rw [xin_at]
  have h : (inIx (g.val * 2 + b.val) j 0).val = g.val * 2 + b.val := Nat.mod_eq_of_lt (by omega)
  refine congrArg (coefsIn m c) ?_
  funext d
  match d with
  | 0 => exact Fin.ext (by show (inIx _ j 0).val / 2 = g.val; rw [h]; omega)
  | 1 => exact Fin.ext (by show (inIx _ j 0).val % 2 = b.val; rw [h]; omega)
  | 2 => rfl

theorem vals_at (c : Dev nD) (g : Fin 10000) (b : Fin 2) (l : Fin 16) :
    valsOf (xin m c) (flat ⟨g.val * 2 + b.val, by omega⟩ l) = rowAt (coefsIn m c) g b (place (idxs (rowAt (coefsIn m c) g b)) (lane l)) := by
  have h1 : ((g.val * 2 + b.val) * 16 + l.val) / 16 = g.val * 2 + b.val := by omega
  have h2 : (⟨((g.val * 2 + b.val) * 16 + l.val) % 16, Nat.mod_lt _ (by omega)⟩ : Fin 16) = l := Fin.ext (by show _ % 16 = _; omega)
  show coefs (inRow (((g.val * 2 + b.val) * 16 + l.val) / 16) (xin m c)) (lane ⟨((g.val * 2 + b.val) * 16 + l.val) % 16, Nat.mod_lt _ (by omega)⟩) = _
  rw [h1, h2, inRow_xin]
  rfl

theorem frqs_at (c : Dev nD) (g : Fin 10000) (b : Fin 2) (l : Fin 16) :
    frqsOf (xin m c) (flat ⟨g.val * 2 + b.val, by omega⟩ l) = (((place (idxs (rowAt (coefsIn m c) g b)) (lane l)).val : ℝ) : EReal) := by
  have h1 : ((g.val * 2 + b.val) * 16 + l.val) / 16 = g.val * 2 + b.val := by omega
  have h2 : (⟨((g.val * 2 + b.val) * 16 + l.val) % 16, Nat.mod_lt _ (by omega)⟩ : Fin 16) = l := Fin.ext (by show _ % 16 = _; omega)
  show freqs (inRow (((g.val * 2 + b.val) * 16 + l.val) / 16) (xin m c)) (lane ⟨((g.val * 2 + b.val) * 16 + l.val) % 16, Nat.mod_lt _ (by omega)⟩) = _
  rw [h1, h2, inRow_xin]
  show Ideal.ofBits .f32 0x3F800000#32 * (((idxs (rowAt (coefsIn m c) g b) (lane l)).toInt : ℝ) : EReal) = _
  have hlt := node_val_lt (rowAt (coefsIn m c) g b) 0 (by norm_num) (lane l)
  change (idxs _ _).toNat < 1024 at hlt
  have hv : (place (idxs (rowAt (coefsIn m c) g b)) (lane l)).val = (idxs (rowAt (coefsIn m c) g b) (lane l)).toNat := Nat.mod_eq_of_lt hlt
  rw [Ideal.ofBits_one_f32, one_mul, BitVec.toInt_eq_toNat_of_lt (by omega), hv]
  rfl

/-! ## The waves of a gaussian -/

/-- A wave of a row's place. -/
def term (row : Row Ideal) (t : EReal) (p : Fin 1024) : EReal :=
  row p * Point.height (((p.val : ℝ) : EReal) * t)

theorem ref_wave (x : S10000x2x1024.Idx → EReal) (g : Fin 10000) (b : Fin 2) (t : EReal) :
    wave (fun k => coefAt x (tops x) (ix3 g b k)) (fun k => freqAt (tops x) (ix3 g b k)) t
      = ∑ k : Fin 16, term (rowAt x g b) t (top17 (mag (rowAt x g b)) k.castSucc) := by
  unfold wave
  refine Finset.sum_congr rfl fun k _ => ?_
  have hp : (tops x (ix3 g b k)).toNat = (top17 (mag (rowAt x g b)) k.castSucc).val := tops_at x (ix3 g b k)
  have hc : coefAt x (tops x) (ix3 g b k) = rowAt x g b (top17 (mag (rowAt x g b)) k.castSucc) :=
    (coefAt_eq x (tops x) (tops_lt x) (ix3 g b k)).trans (congrArg (fun p => x (ix g b p)) (Fin.ext hp))
  have hf : freqAt (tops x) (ix3 g b k) = (((top17 (mag (rowAt x g b)) k.castSucc).val : ℝ) : EReal) := by
    rw [freqAt_eq (tops x) (tops_lt x), hp]
  beta_reduce
  rw [hc, hf]
  rfl

theorem ker_wave (c : Dev nD) (g : Fin 10000) (b : Fin 2) (q : Fin 16 → Fin 32) (hq : ∀ l, (q l).val = b.val * 16 + l.val) (t : EReal) :
    wave (fun l => inVal (V5 m) c (ix2 g (q l))) (fun l => inFrq (V5 m) c (ix2 g (q l))) t
      = ∑ l : Fin 16, term (rowAt (coefsIn m c) g b) t (place (idxs (rowAt (coefsIn m c) g b)) (lane l)) := by
  unfold wave
  refine Finset.sum_congr rfl fun l _ => ?_
  beta_reduce
  rw [inVal_at m c g b l _ (hq l), inFrq_at m c g b l _ (hq l), vals_at, frqs_at]
  rfl

/-! ## The result -/

theorem out_eq (c : Dev nD) (h : Cert.Pre_no_tie.fn (F := Ideal) (arg0 m c) (arg1 m c) (arg2 m c) (arg3 m c) (arg4 m c) (coefsIn m c) = fun _ => 1#1) :
    (V7 m c (Proc.devRef .tc (main_v6 : Ref sig .tc)) : FVec Ideal S512x3 .f32)
      = Ref.picture (arg0 m c) (arg1 m c) (arg2 m c) (arg3 m c) (arg4 m c) (coefAt (coefsIn m c) (tops (coefsIn m c))) (freqAt (tops (coefsIn m c))) := by
  have hw : ∀ (g : Fin 10000) (b : Fin 2) (q : Fin 16 → Fin 32) (hq : ∀ l, (q l).val = b.val * 16 + l.val) (t : EReal),
      wave (fun l => inVal (V5 m) c (ix2 g (q l))) (fun l => inFrq (V5 m) c (ix2 g (q l))) t
        = wave (fun k => coefAt (coefsIn m c) (tops (coefsIn m c)) (ix3 g b k)) (fun k => freqAt (tops (coefsIn m c)) (ix3 g b k)) t := fun g b q hq t => by
    rw [ker_wave m c g b q hq t, ref_wave]
    exact places_ord _ (Ref.no_tie_row _ _ _ _ _ _ h g b) _
  have hV : (V7 m c (Proc.devRef .tc (main_v6 : Ref sig .tc)) : FVec Ideal S512x3 .f32)
      = transpose S512x3 [1, 0] (total (V5 m) c) Gen.facts.transposes_S3x512_S512x3_1_0 := by
    unfold V7 opO
    rw [StableHlo.unary_result]
    unfold Render.after
    rw [Function.update_self]
  rw [hV]
  funext y
  obtain ⟨n, k, rfl⟩ : ∃ (n : Fin 512) (k : Fin 3), y = ix2 n k := ⟨y 0, y 1, by funext a; match a with | 0 => rfl | 1 => rfl⟩
  refine (turn_out _ _ n k).trans ?_
  rw [total_at, Ref.picture_at]
  refine Finset.sum_congr rfl fun g _ => ?_
  unfold adds
  rw [inX_at, inX_at, inPos_eq, inScl_eq, inRot_eq, inCol_eq]
  unfold weight
  rw [hw g 0 (fun l => ⟨l.val, by omega⟩) (fun l => by show l.val = 0 * 16 + l.val; omega),
    hw g 1 (fun l => ⟨16 + l.val, by omega⟩) (fun l => by show 16 + l.val = 1 * 16 + l.val; omega)]

end Cert.Proof.Tile

end
-- ==== Proof.Cosine.lean ====
/-
  The kernel's polynomial against the cosine, over the reals: for every number of turns it is within 2^-18 of the
  cosine of the turns. The cosine's series up to its twentieth power is within 10^-9 of it on a half turn; the polynomial less
  that series is a polynomial of degree ten, bounded on [0, 1] by its form in powers of s and 1 - s, whose coefficients are positive.
-/
module

public import proofs.«01_k».proof.Proof.Point
public import Mathlib.Analysis.Complex.Exponential
public import Mathlib.Analysis.Complex.Trigonometric
public import Mathlib.Analysis.SpecialFunctions.Trigonometric.Basic

@[expose] public section

noncomputable section

namespace Cert.Proof.Cosine

open Finset

/-! ## The cosine's series -/

theorem even_power (x : ℝ) (K : ℕ) : ((x : ℂ) * Complex.I) ^ (2 * K) = (((-1) ^ K * x ^ (2 * K) : ℝ) : ℂ) := by
  rw [mul_pow, pow_mul Complex.I, Complex.I_sq]
  push_cast
  ring

theorem series_re (x : ℝ) (K : ℕ) : (∑ m ∈ range (2 * K), ((x : ℂ) * Complex.I) ^ m / (m.factorial : ℂ)).re
    = ∑ k ∈ range K, (-1) ^ k * (x ^ (2 * k) / ((2 * k).factorial : ℝ)) := by
  induction K with
  | zero => simp
  | succ K ih =>
    have h0 : (((x : ℂ) * Complex.I) ^ (2 * K) / ((2 * K).factorial : ℂ)) = (((-1) ^ K * (x ^ (2 * K) / ((2 * K).factorial : ℝ)) : ℝ) : ℂ) := by
      rw [even_power]
      push_cast
      ring
    have h1 : (((x : ℂ) * Complex.I) ^ (2 * K + 1) / ((2 * K + 1).factorial : ℂ))
        = (((-1) ^ K * x ^ (2 * K) * x / ((2 * K + 1).factorial : ℝ) : ℝ) : ℂ) * Complex.I := by
      rw [pow_succ, even_power]
      push_cast
      ring
    rw [show 2 * (K + 1) = 2 * K + 1 + 1 by ring, sum_range_succ, sum_range_succ, Complex.add_re, Complex.add_re, ih, sum_range_succ, h0, h1,
      Complex.ofReal_re, Complex.re_ofReal_mul, Complex.I_re, mul_zero, add_zero]

theorem cos_taylor (x : ℝ) (K : ℕ) (hx : |x| ≤ K) :
    |Real.cos x - ∑ k ∈ range K, (-1) ^ k * (x ^ (2 * k) / ((2 * k).factorial : ℝ))| ≤ |x| ^ (2 * K) / ((2 * K).factorial : ℝ) * 2 := by
  have hn : ‖(x : ℂ) * Complex.I‖ = |x| := by rw [norm_mul, Complex.norm_I, mul_one, Complex.norm_real, Real.norm_eq_abs]
  have hb := Complex.exp_bound' (x := (x : ℂ) * Complex.I) (n := 2 * K) (by
    rw [hn, div_le_iff₀ (by positivity)]
    push_cast
    linarith)
  rw [hn] at hb
  have hr := (Complex.abs_re_le_norm _).trans hb
  rwa [Complex.sub_re, Complex.exp_ofReal_mul_I_re, series_re] at hr

/-- Where the cosine's series changes its sign: half of pi, to fourteen places. -/
theorem pi_gt : (314159265358979 / 10 ^ 14 : ℝ) < Real.pi := by
  have h := cos_taylor (314159265358979 / (2 * 10 ^ 14)) 15 (by rw [abs_of_pos (by norm_num)]; norm_num)
  rw [abs_of_pos (by norm_num : (0 : ℝ) < 314159265358979 / (2 * 10 ^ 14))] at h
  have hc : 0 < Real.cos (314159265358979 / (2 * 10 ^ 14)) := by
    have := (abs_le.mp h).1
    norm_num [sum_range_succ, Nat.factorial] at this ⊢
    linarith
  by_contra hn
  have := Real.cos_nonpos_of_pi_div_two_le_of_le (x := 314159265358979 / (2 * 10 ^ 14)) (by linarith) (by have := Real.two_le_pi; norm_num; linarith)
  linarith

theorem pi_lt : Real.pi < (314159265358980 / 10 ^ 14 : ℝ) := by
  have h := cos_taylor (314159265358980 / (2 * 10 ^ 14)) 15 (by rw [abs_of_pos (by norm_num)]; norm_num)
  rw [abs_of_pos (by norm_num : (0 : ℝ) < 314159265358980 / (2 * 10 ^ 14))] at h
  have hc : Real.cos (314159265358980 / (2 * 10 ^ 14)) < 0 := by
    have := (abs_le.mp h).2
    norm_num [sum_range_succ, Nat.factorial] at this ⊢
    linarith
  by_contra hn
  have := Real.cos_nonneg_of_mem_Icc (x := 314159265358980 / (2 * 10 ^ 14)) ⟨by have := Real.pi_pos; linarith, by linarith⟩
  linarith

theorem cos_series (x : ℝ) (hx : |x| ≤ Real.pi) :
    |Real.cos x - ∑ k ∈ range 11, (-1) ^ k * (x ^ (2 * k) / ((2 * k).factorial : ℝ))| ≤ 1 / 10 ^ 9 := by
  have hp : Real.pi ≤ 315 / 100 := by have := pi_lt; norm_num at this ⊢; linarith
  refine (cos_taylor x 11 (by push_cast; linarith)).trans ?_
  have h22 : |x| ^ (2 * 11) ≤ (315 / 100) ^ (2 * 11) := pow_le_pow_left₀ (abs_nonneg x) (hx.trans hp) _
  have hf : ((2 * 11).factorial : ℝ) = 1124000727777607680000 := by norm_num [Nat.factorial]
  rw [hf]
  norm_num at h22 ⊢
  linarith

/-! ## The polynomial -/

/-- The kernel's polynomial, of the square of a distance from a whole number. -/
def poly (z : ℝ) : ℝ :=
  ((((-345229 / 16384 * z + 1926447 / 32768) * z + -5588361 / 65536) * z + 8510329 / 131072) * z + -10348911 / 524288) * z + 16777203 / 16777216

/-- A series near the cosine's, with decimal coefficients. -/
def ser (s : ℝ) : ℝ :=
  (1) * s ^ 0 + (-246740110027 / 50000000000) * s ^ 1 + (202935606321 / 50000000000) * s ^ 2 + (-26705255377 / 20000000000) * s ^ 3 + (5883265759 / 25000000000) * s ^ 4 + (-2580689139 / 100000000000) * s ^ 5 + (192957431 / 100000000000) * s ^ 6 + (-1046381 / 10000000000) * s ^ 7 + (430307 / 100000000000) * s ^ 8 + (-13879 / 100000000000) * s ^ 9 + (9 / 2500000000) * s ^ 10

theorem poly_ser (s : ℝ) (h0 : 0 ≤ s) (h1 : s ≤ 1) : |poly (s / 4) - ser s| ≤ 38 / 10 ^ 7 := by
  have hr : 0 ≤ 1 - s := by linarith
  have e1 : 38 / 10 ^ 7 - (poly (s / 4) - ser s) =
      5996361 / 1310720000000 * (s ^ 0 * (1 - s) ^ 13) + 2117125757 / 819200000000000 * (s ^ 1 * (1 - s) ^ 12)
      + 141395624299 / 409600000000000 * (s ^ 2 * (1 - s) ^ 11) + 836160266973 / 409600000000000 * (s ^ 3 * (1 - s) ^ 10)
      + 3609093058397 / 819200000000000 * (s ^ 4 * (1 - s) ^ 9) + 337919448527 / 81920000000000 * (s ^ 5 * (1 - s) ^ 8)
      + 322482879461 / 204800000000000 * (s ^ 6 * (1 - s) ^ 7) + 89205631739 / 51200000000000 * (s ^ 7 * (1 - s) ^ 6)
      + 3596528086547 / 819200000000000 * (s ^ 8 * (1 - s) ^ 5) + 3688336113109 / 819200000000000 * (s ^ 9 * (1 - s) ^ 4)
      + 834583015219 / 409600000000000 * (s ^ 10 * (1 - s) ^ 3) + 141781997167 / 409600000000000 * (s ^ 11 * (1 - s) ^ 2)
      + 5458976519 / 819200000000000 * (s ^ 12 * (1 - s) ^ 1) + 243392733 / 51200000000000 * (s ^ 13 * (1 - s) ^ 0) := by
    unfold poly ser
    ring
  have e2 : 38 / 10 ^ 7 + (poly (s / 4) - ser s) =
      3965111 / 1310720000000 * (s ^ 0 * (1 - s) ^ 13) + 78819834243 / 819200000000000 * (s ^ 1 * (1 - s) ^ 12)
      + 101415255701 / 409600000000000 * (s ^ 2 * (1 - s) ^ 11) + 54146293027 / 409600000000000 * (s ^ 3 * (1 - s) ^ 10)
      + 842439741603 / 819200000000000 * (s ^ 4 * (1 - s) ^ 9) + 463356455473 / 81920000000000 * (s ^ 5 * (1 - s) ^ 8)
      + 2348436800539 / 204800000000000 * (s ^ 6 * (1 - s) ^ 7) + 578524288261 / 51200000000000 * (s ^ 7 * (1 - s) ^ 6)
      + 4416230953453 / 819200000000000 * (s ^ 8 * (1 - s) ^ 5) + 763196686891 / 819200000000000 * (s ^ 9 * (1 - s) ^ 4)
      + 55723544781 / 409600000000000 * (s ^ 10 * (1 - s) ^ 3) + 101028882833 / 409600000000000 * (s ^ 11 * (1 - s) ^ 2)
      + 75477983481 / 819200000000000 * (s ^ 12 * (1 - s) ^ 1) + 145727267 / 51200000000000 * (s ^ 13 * (1 - s) ^ 0) := by
    unfold poly ser
    ring
  have p1 : 0 ≤ 38 / 10 ^ 7 - (poly (s / 4) - ser s) := by rw [e1]; positivity
  have p2 : 0 ≤ 38 / 10 ^ 7 + (poly (s / 4) - ser s) := by rw [e2]; positivity
  rw [abs_le]
  constructor <;> linarith

/-- The powers of pi in the series, between those of its bounds. -/
theorem pi_power (k : ℕ) : (314159265358979 / 10 ^ 14 : ℝ) ^ k ≤ Real.pi ^ k ∧ Real.pi ^ k ≤ (314159265358980 / 10 ^ 14 : ℝ) ^ k :=
  ⟨pow_le_pow_left₀ (by norm_num) pi_gt.le k, pow_le_pow_left₀ Real.pi_pos.le pi_lt.le k⟩

theorem term_near (s q : ℝ) (h0 : 0 ≤ s) (h1 : s ≤ 1) (k : ℕ) (N : ℝ) (hN : 0 < N)
    (hl : (q - 1 / 10 ^ 10) * N ≤ (314159265358979 / 10 ^ 14 : ℝ) ^ (2 * k)) (hu : (314159265358980 / 10 ^ 14 : ℝ) ^ (2 * k) ≤ (q + 1 / 10 ^ 10) * N) :
    |Real.pi ^ (2 * k) * s ^ k / N - q * s ^ k| ≤ 1 / 10 ^ 10 := by
  obtain ⟨a, b⟩ := pi_power (2 * k)
  have hT : |Real.pi ^ (2 * k) / N - q| ≤ 1 / 10 ^ 10 := by
    rw [abs_le]
    constructor
    · have : q - 1 / 10 ^ 10 ≤ Real.pi ^ (2 * k) / N := by rw [le_div_iff₀ hN]; linarith
      linarith
    · have : Real.pi ^ (2 * k) / N ≤ q + 1 / 10 ^ 10 := by rw [div_le_iff₀ hN]; linarith
      linarith
  have hs : |s ^ k| ≤ 1 := by rw [abs_of_nonneg (pow_nonneg h0 k)]; exact pow_le_one₀ h0 h1
  calc |Real.pi ^ (2 * k) * s ^ k / N - q * s ^ k| = |(Real.pi ^ (2 * k) / N - q)| * |s ^ k| := by rw [← abs_mul]; congr 1; ring
    _ ≤ 1 / 10 ^ 10 * 1 := mul_le_mul hT hs (abs_nonneg _) (by norm_num)
    _ = 1 / 10 ^ 10 := mul_one _

theorem ser_near (s : ℝ) (h0 : 0 ≤ s) (h1 : s ≤ 1) :
    |ser s - ∑ k ∈ range 11, (-1) ^ k * (Real.pi ^ (2 * k) * s ^ k / ((2 * k).factorial : ℝ))| ≤ 11 / 10 ^ 10 := by
  have t : ∀ (k : ℕ) (q : ℝ), (q - 1 / 10 ^ 10) * ((2 * k).factorial : ℝ) ≤ (314159265358979 / 10 ^ 14 : ℝ) ^ (2 * k) →
      (314159265358980 / 10 ^ 14 : ℝ) ^ (2 * k) ≤ (q + 1 / 10 ^ 10) * ((2 * k).factorial : ℝ) →
      |Real.pi ^ (2 * k) * s ^ k / ((2 * k).factorial : ℝ) - q * s ^ k| ≤ 1 / 10 ^ 10 := fun k q =>
    term_near s q h0 h1 k _ (by positivity)
  have t0 := t 0 (1) (by norm_num [Nat.factorial]) (by norm_num [Nat.factorial])
  have t1 := t 1 (246740110027 / 50000000000) (by norm_num [Nat.factorial]) (by norm_num [Nat.factorial])
  have t2 := t 2 (202935606321 / 50000000000) (by norm_num [Nat.factorial]) (by norm_num [Nat.factorial])
  have t3 := t 3 (26705255377 / 20000000000) (by norm_num [Nat.factorial]) (by norm_num [Nat.factorial])
  have t4 := t 4 (5883265759 / 25000000000) (by norm_num [Nat.factorial]) (by norm_num [Nat.factorial])
  have t5 := t 5 (2580689139 / 100000000000) (by norm_num [Nat.factorial]) (by norm_num [Nat.factorial])
  have t6 := t 6 (192957431 / 100000000000) (by norm_num [Nat.factorial]) (by norm_num [Nat.factorial])
  have t7 := t 7 (1046381 / 10000000000) (by norm_num [Nat.factorial]) (by norm_num [Nat.factorial])
  have t8 := t 8 (430307 / 100000000000) (by norm_num [Nat.factorial]) (by norm_num [Nat.factorial])
  have t9 := t 9 (13879 / 100000000000) (by norm_num [Nat.factorial]) (by norm_num [Nat.factorial])
  have t10 := t 10 (9 / 2500000000) (by norm_num [Nat.factorial]) (by norm_num [Nat.factorial])
  simp only [sum_range_succ, sum_range_zero]
  unfold ser
  rw [abs_le] at *
  generalize Real.pi ^ (2 * 0) * s ^ 0 / ((2 * 0).factorial : ℝ) = g0 at *
  generalize Real.pi ^ (2 * 1) * s ^ 1 / ((2 * 1).factorial : ℝ) = g1 at *
  generalize Real.pi ^ (2 * 2) * s ^ 2 / ((2 * 2).factorial : ℝ) = g2 at *
  generalize Real.pi ^ (2 * 3) * s ^ 3 / ((2 * 3).factorial : ℝ) = g3 at *
  generalize Real.pi ^ (2 * 4) * s ^ 4 / ((2 * 4).factorial : ℝ) = g4 at *
  generalize Real.pi ^ (2 * 5) * s ^ 5 / ((2 * 5).factorial : ℝ) = g5 at *
  generalize Real.pi ^ (2 * 6) * s ^ 6 / ((2 * 6).factorial : ℝ) = g6 at *
  generalize Real.pi ^ (2 * 7) * s ^ 7 / ((2 * 7).factorial : ℝ) = g7 at *
  generalize Real.pi ^ (2 * 8) * s ^ 8 / ((2 * 8).factorial : ℝ) = g8 at *
  generalize Real.pi ^ (2 * 9) * s ^ 9 / ((2 * 9).factorial : ℝ) = g9 at *
  generalize Real.pi ^ (2 * 10) * s ^ 10 / ((2 * 10).factorial : ℝ) = g10 at *
  constructor <;> linarith [t0.1, t0.2, t1.1, t1.2, t2.1, t2.2, t3.1, t3.2, t4.1, t4.2, t5.1, t5.2, t6.1, t6.2, t7.1, t7.2, t8.1, t8.2, t9.1, t9.2,
    t10.1, t10.2]

/-- On half a turn to either side the polynomial is near the cosine. -/
theorem poly_cos (v : ℝ) (hv : |v| ≤ 1 / 2) : |poly (v * v) - Real.cos (2 * Real.pi * v)| ≤ 1 / 2 ^ 18 := by
  have hx : |2 * Real.pi * v| ≤ Real.pi := by
    rw [abs_mul, abs_of_pos (by positivity)]
    nlinarith [Real.pi_pos]
  have hs0 : 0 ≤ (2 * v) ^ 2 := by positivity
  have hs1 : (2 * v) ^ 2 ≤ 1 := by
    have := abs_le.mp hv
    nlinarith [this.1, this.2]
  have a := cos_series _ hx
  have e : ∀ k ∈ range 11, (-1 : ℝ) ^ k * ((2 * Real.pi * v) ^ (2 * k) / ((2 * k).factorial : ℝ))
      = (-1) ^ k * (Real.pi ^ (2 * k) * ((2 * v) ^ 2) ^ k / ((2 * k).factorial : ℝ)) := fun k _ => by
    rw [show 2 * Real.pi * v = Real.pi * (2 * v) by ring, mul_pow, pow_mul (2 * v)]
  rw [sum_congr rfl e] at a
  have b := ser_near _ hs0 hs1
  have d := poly_ser _ hs0 hs1
  rw [show (2 * v) ^ 2 / 4 = v * v by ring] at d
  rw [abs_le] at *
  norm_num at a b d ⊢
  constructor <;> linarith [a.1, a.2, b.1, b.2, d.1, d.2]

end Cert.Proof.Cosine

end
-- ==== Proof.Near.lean ====
/-
  The kernel's waves against the waves of the cosine itself, over the extended reals: how far a wave, a sum of sixteen waves and a
  gaussian's weight times its colour can be from those with the cosine, wherever the bound is finite.
-/
module

public import proofs.«01_k».proof.Proof.Cosine

@[expose] public section

noncomputable section

namespace Cert.Proof.Near

open Idealize.ShloMosaic
open Cert.Proof.Point (off height wave weight turnX turnY env)
open Cert.Proof.Cosine (poly poly_cos pi_gt pi_lt)

/-! ## The constants -/

theorem word0 : Ideal.ofBits .f32 0xC1A891A0#32 = ((-345229 / 16384 : ℝ) : EReal) := by
  simp [Ideal.ofBits, Ideal.ieee, -EReal.coe_mul, -EReal.coe_neg]; norm_num
theorem word1 : Ideal.ofBits .f32 0x426B2978#32 = ((1926447 / 32768 : ℝ) : EReal) := by
  simp [Ideal.ofBits, Ideal.ieee, -EReal.coe_mul, -EReal.coe_neg]; norm_num
theorem word2 : Ideal.ofBits .f32 0xC2AA8B12#32 = ((-5588361 / 65536 : ℝ) : EReal) := by
  simp [Ideal.ofBits, Ideal.ieee, -EReal.coe_mul, -EReal.coe_neg]; norm_num
theorem word3 : Ideal.ofBits .f32 0x4281DB79#32 = ((8510329 / 131072 : ℝ) : EReal) := by
  simp [Ideal.ofBits, Ideal.ieee, -EReal.coe_mul, -EReal.coe_neg]; norm_num
theorem word4 : Ideal.ofBits .f32 0xC19DE96F#32 = ((-10348911 / 524288 : ℝ) : EReal) := by
  simp [Ideal.ofBits, Ideal.ieee, -EReal.coe_mul, -EReal.coe_neg]; norm_num
theorem word5 : Ideal.ofBits .f32 0x3F7FFFF3#32 = ((16777203 / 16777216 : ℝ) : EReal) := by
  simp [Ideal.ofBits, Ideal.ieee, -EReal.coe_mul, -EReal.coe_neg]; norm_num
theorem word_turn : Ideal.ofBits .f32 0x40C90FDB#32 = ((13176795 / 2097152 : ℝ) : EReal) := by
  simp [Ideal.ofBits, Ideal.ieee, -EReal.coe_mul, -EReal.coe_neg]; norm_num
theorem word_eps : Ideal.ofBits .f32 0x36800000#32 = ((1 / 2 ^ 18 : ℝ) : EReal) := by
  simp [Ideal.ofBits, Ideal.ieee, -EReal.coe_mul, -EReal.coe_neg]; norm_num
theorem word_del : Ideal.ofBits .f32 0x34800000#32 = ((1 / 2 ^ 22 : ℝ) : EReal) := by
  simp [Ideal.ofBits, Ideal.ieee, -EReal.coe_mul, -EReal.coe_neg]; norm_num
theorem word_two : Ideal.ofBits .f32 0x40000000#32 = ((2 : ℝ) : EReal) := by
  simp [Ideal.ofBits, Ideal.ieee, -EReal.coe_mul, -EReal.coe_neg]; norm_num
theorem word_half : Ideal.ofBits .f32 0xBF000000#32 = ((-1 / 2 : ℝ) : EReal) := by
  simp [Ideal.ofBits, Ideal.ieee, -EReal.coe_mul, -EReal.coe_neg]; norm_num

/-! ## One wave -/

theorem sin_le (z : ℝ) (h : 0 ≤ z) : Real.sin z ≤ z := by
  rcases le_total z 1 with h1 | h1
  · have hb := (abs_le.mp (Real.sin_bound (by rwa [abs_of_nonneg h]))).2
    rw [abs_of_nonneg h] at hb
    have h5 : z ^ 5 ≤ z ^ 3 := pow_le_pow_of_le_one h h1 (by norm_num)
    have h3 : 0 ≤ z ^ 3 := pow_nonneg h 3
    linarith
  · exact (Real.sin_le_one z).trans h1

theorem neg_le_sin (z : ℝ) (h : 0 ≤ z) : -z ≤ Real.sin z := by
  rcases le_total z Real.pi with h1 | h1
  · exact (neg_nonpos.mpr h).trans (Real.sin_nonneg_of_nonneg_of_le_pi h h1)
  · have := Real.two_le_pi
    exact le_trans (by linarith) (Real.neg_one_le_sin z)

theorem sin_abs (z : ℝ) : |Real.sin z| ≤ |z| := by
  rcases le_total 0 z with h | h
  · rw [abs_of_nonneg h]
    exact abs_le.mpr ⟨neg_le_sin z h, sin_le z h⟩
  · have h0 := neg_nonneg.mpr h
    rw [abs_of_nonpos h, ← abs_neg, ← Real.sin_neg]
    exact abs_le.mpr ⟨neg_le_sin _ h0, sin_le _ h0⟩

theorem cos_lip (x y : ℝ) : |Real.cos x - Real.cos y| ≤ |x - y| := by
  have h1 := Real.abs_sin_le_one ((x + y) / 2)
  have h2 := sin_abs ((x - y) / 2)
  rw [abs_div, abs_two] at h2
  rw [Real.cos_sub_cos, abs_mul, abs_mul, abs_neg, abs_two]
  nlinarith [abs_nonneg (Real.sin ((x - y) / 2)), abs_nonneg (Real.sin ((x + y) / 2))]

theorem round_near (u : ℝ) : |u - (Ideal.roundHalfEven u : ℝ)| ≤ 1 / 2 := by
  have h0 := Int.floor_le u
  have h1 := Int.lt_floor_add_one u
  unfold Ideal.roundHalfEven
  dsimp only
  rw [abs_le]
  split_ifs <;> push_cast <;> constructor <;> linarith

theorem height_real (u : ℝ) : height (u : EReal) = ((poly ((u - Ideal.roundHalfEven u) * (u - Ideal.roundHalfEven u)) : ℝ) : EReal) := by
  have ho : off (u : EReal) = (((u - Ideal.roundHalfEven u) * (u - Ideal.roundHalfEven u) : ℝ) : EReal) := by
    unfold off
    rw [show Ideal.liftRound Ideal.roundHalfEven (u : EReal) = ((Ideal.roundHalfEven u : ℝ) : EReal) from rfl]
    push_cast
    rfl
  unfold height poly
  rw [ho, word0, word1, word2, word3, word4, word5]
  simp only [← EReal.coe_mul, ← EReal.coe_add]

/-- At a finite number of turns the kernel's height is at most 2, and within 2^-18 and 2^-22 of the turns of the cosine. -/
theorem height_near (u : ℝ) : ∃ h : ℝ, height (u : EReal) = (h : EReal) ∧ |h| ≤ 2
    ∧ |h - Real.cos (13176795 / 2097152 * u)| ≤ 1 / 2 ^ 18 + 1 / 2 ^ 22 * |u| := by
  refine ⟨_, height_real u, ?_⟩
  have a := poly_cos _ (round_near u)
  rw [show 2 * Real.pi * (u - (Ideal.roundHalfEven u : ℝ)) = 2 * Real.pi * u - (Ideal.roundHalfEven u : ℝ) * (2 * Real.pi) by ring,
    Real.cos_sub_int_mul_two_pi] at a
  generalize poly _ = h at a ⊢
  have hc := Real.abs_cos_le_one (2 * Real.pi * u)
  refine ⟨?_, ?_⟩
  · have := abs_sub_abs_le_abs_sub h (Real.cos (2 * Real.pi * u))
    norm_num at a ⊢
    linarith
  · have hd : |Real.cos (2 * Real.pi * u) - Real.cos (13176795 / 2097152 * u)| ≤ 1 / 2 ^ 22 * |u| := by
      refine (cos_lip _ _).trans ?_
      rw [← sub_mul, abs_mul]
      refine mul_le_mul_of_nonneg_right ?_ (abs_nonneg u)
      have h1 := pi_gt
      have h2 := pi_lt
      rw [abs_le]
      norm_num at h1 h2 ⊢
      constructor <;> linarith
    calc |h - Real.cos (13176795 / 2097152 * u)| ≤ |h - Real.cos (2 * Real.pi * u)| + |Real.cos (2 * Real.pi * u) - Real.cos (13176795 / 2097152 * u)| :=
          abs_sub_le _ _ _
      _ ≤ _ := add_le_add a hd

/-! ## Extended reals near each other -/

/-- Two numbers of size at most `s` (the first: twice that) and at most `e` from each other, all finite. -/
def Close (w' w s e : EReal) : Prop :=
  ∃ p q σ ε : ℝ, w' = (p : EReal) ∧ w = (q : EReal) ∧ s = (σ : EReal) ∧ e = (ε : EReal) ∧ |p - q| ≤ ε ∧ |q| ≤ σ ∧ |p| ≤ 2 * σ

/-- The absolute value, as the operation takes it. -/
def mag (x : EReal) : EReal := max x (-x)

theorem mag_coe (r : ℝ) : mag (r : EReal) = ((|r| : ℝ) : EReal) := by
  unfold mag
  rw [← EReal.coe_neg]
  rcases le_total 0 r with h | h
  · rw [abs_of_nonneg h]
    exact max_eq_left (EReal.coe_le_coe_iff.mpr (by linarith))
  · rw [abs_of_nonpos h]
    exact max_eq_right (EReal.coe_le_coe_iff.mpr (by linarith))

theorem mag_bot : mag ⊥ = ⊤ := by simp [mag]
theorem mag_top : mag ⊤ = ⊤ := by simp [mag]

theorem mag_nonneg (x : EReal) : 0 ≤ mag x := by
  induction x with
  | bot => simp [mag_bot]
  | top => simp [mag_top]
  | coe r => rw [mag_coe]; exact_mod_cast abs_nonneg r

theorem mag_eq_zero {x : EReal} (h : mag x = 0) : x = 0 := by
  induction x with
  | bot => simp [mag_bot] at h
  | top => simp [mag_top] at h
  | coe r =>
    rw [mag_coe] at h
    have : |r| = 0 := by exact_mod_cast h
    rw [abs_eq_zero.mp this]
    rfl

theorem mag_finite {x : EReal} (h : mag x ≠ ⊤) : ∃ r : ℝ, x = (r : EReal) := by
  induction x with
  | bot => exact absurd mag_bot h
  | top => exact absurd mag_top h
  | coe r => exact ⟨r, rfl⟩

theorem sum_coe {ι : Type} (S : Finset ι) (g : ι → ℝ) : ∑ i ∈ S, ((g i : ℝ) : EReal) = ((∑ i ∈ S, g i : ℝ) : EReal) := by
  classical
  induction S using Finset.induction_on with
  | empty => simp
  | insert a S ha ih => rw [Finset.sum_insert ha, Finset.sum_insert ha, ih, EReal.coe_add]

theorem term_finite {ι : Type} [Fintype ι] (g : ι → EReal) (h0 : ∀ i, 0 ≤ g i) (h : ∑ i, g i ≠ ⊤) (i : ι) : g i ≠ ⊤ := fun e =>
  h (top_le_iff.mp (e ▸ Finset.single_le_sum (fun j _ => h0 j) (Finset.mem_univ i)))

theorem term_zero {ι : Type} [Fintype ι] (g : ι → EReal) (h0 : ∀ i, 0 ≤ g i) (h : ∑ i, g i = 0) (i : ι) : g i = 0 :=
  le_antisymm (h ▸ Finset.single_le_sum (fun j _ => h0 j) (Finset.mem_univ i)) (h0 i)

/-! ## A sum of waves -/

/-- How far one wave of amplitude one can be, at `u` turns. -/
def far (u : EReal) : EReal := Ideal.ofBits .f32 0x36800000#32 + Ideal.ofBits .f32 0x34800000#32 * mag u

theorem far_coe (u : ℝ) : far (u : EReal) = ((1 / 2 ^ 18 + 1 / 2 ^ 22 * |u| : ℝ) : EReal) := by
  unfold far
  rw [word_eps, word_del, mag_coe, ← EReal.coe_mul, ← EReal.coe_add]

theorem far_top {u : EReal} (h : mag u = ⊤) : far u = ⊤ := by
  unfold far
  rw [h, word_eps, word_del, EReal.coe_mul_top_of_pos (by norm_num), EReal.coe_add_top]

theorem far_pos (u : EReal) : 0 < far u := by
  by_cases h : mag u = ⊤
  · rw [far_top h]; exact EReal.zero_lt_top
  · obtain ⟨r, rfl⟩ := mag_finite h
    rw [far_coe]
    have : (0 : ℝ) < 1 / 2 ^ 18 + 1 / 2 ^ 22 * |r| := by positivity
    exact_mod_cast this

theorem mul_pos_top {a b : EReal} (ha : 0 < a) (h : b = ⊤) : a * b = ⊤ := by rw [h, EReal.mul_top_of_pos ha]
theorem mul_top_pos {a b : EReal} (h : a = ⊤) (hb : 0 < b) : a * b = ⊤ := by rw [h, EReal.top_mul_of_pos hb]

theorem close_term (a f t : EReal) (h : mag a * far (f * t) ≠ ⊤) :
    Close (a * height (f * t)) (a * Ideal.cos (Ideal.ofBits .f32 0x40C90FDB#32 * f * t)) (mag a) (mag a * far (f * t)) := by
  have ha : mag a ≠ ⊤ := fun e => h (mul_top_pos e (far_pos _))
  obtain ⟨α, rfl⟩ := mag_finite ha
  by_cases h0 : α = 0
  · subst h0
    refine ⟨0, 0, 0, 0, ?_, ?_, ?_, ?_, by simp, by simp, by simp⟩
    · simp
    · simp
    · rw [mag_coe]; simp
    · rw [mag_coe]; simp
  · have hp : 0 < mag (α : EReal) := by
      rw [mag_coe]
      exact_mod_cast abs_pos.mpr h0
    obtain ⟨u, hu⟩ := mag_finite (fun e => h (mul_pos_top hp (far_top e)))
    obtain ⟨v, hv, h2, hc⟩ := height_near u
    rw [mul_assoc, hu, hv, word_turn, mag_coe, far_coe, ← EReal.coe_mul, ← EReal.coe_mul, ← EReal.coe_mul]
    refine ⟨_, α * Real.cos (13176795 / 2097152 * u), _, _, rfl, ?_, rfl, rfl, ?_, ?_, ?_⟩
    · rw [EReal.coe_mul]; rfl
    · rw [← mul_sub, abs_mul]
      exact mul_le_mul_of_nonneg_left hc (abs_nonneg α)
    · rw [abs_mul]
      exact mul_le_of_le_one_right (abs_nonneg α) (Real.abs_cos_le_one _)
    · rw [abs_mul, mul_comm 2]
      exact mul_le_mul_of_nonneg_left h2 (abs_nonneg α)

theorem close_sum {ι : Type} [Fintype ι] (w' w s e : ι → EReal) (h : ∀ i, Close (w' i) (w i) (s i) (e i)) :
    Close (∑ i, w' i) (∑ i, w i) (∑ i, s i) (∑ i, e i) := by
  choose p q σ ε hp hq hs he h1 h2 h3 using h
  refine ⟨∑ i, p i, ∑ i, q i, ∑ i, σ i, ∑ i, ε i, ?_, ?_, ?_, ?_, ?_, ?_, ?_⟩
  · rw [← sum_coe]; exact Finset.sum_congr rfl fun i _ => hp i
  · rw [← sum_coe]; exact Finset.sum_congr rfl fun i _ => hq i
  · rw [← sum_coe]; exact Finset.sum_congr rfl fun i _ => hs i
  · rw [← sum_coe]; exact Finset.sum_congr rfl fun i _ => he i
  · rw [← Finset.sum_sub_distrib]
    exact (Finset.abs_sum_le_sum_abs _ _).trans (Finset.sum_le_sum fun i _ => h1 i)
  · exact (Finset.abs_sum_le_sum_abs _ _).trans (Finset.sum_le_sum fun i _ => h2 i)
  · rw [Finset.mul_sum]
    exact (Finset.abs_sum_le_sum_abs _ _).trans (Finset.sum_le_sum fun i _ => h3 i)

variable (a f : Fin 16 → EReal) (t : EReal)

/-- A sum of sixteen waves of the cosine itself, the sum of their sizes, and how far the kernel's can be. -/
def waveC : EReal := ∑ k, a k * Ideal.cos (Ideal.ofBits .f32 0x40C90FDB#32 * f k * t)
def size : EReal := ∑ k, mag (a k)
def slip : EReal := ∑ k, mag (a k) * far (f k * t)

theorem slip_term_nonneg (k : Fin 16) : 0 ≤ mag (a k) * far (f k * t) := mul_nonneg (mag_nonneg _) (far_pos _).le
theorem size_nonneg : 0 ≤ size a := Finset.sum_nonneg fun k _ => mag_nonneg (a k)
theorem slip_nonneg : 0 ≤ slip a f t := Finset.sum_nonneg fun k _ => slip_term_nonneg a f t k

theorem wave_close (h : slip a f t ≠ ⊤) : Close (wave a f t) (waveC a f t) (size a) (slip a f t) :=
  close_sum _ _ _ _ fun k => close_term _ _ _ (term_finite _ (slip_term_nonneg a f t) h k)

/-- A sum of waves of size zero is zero, and cannot be far. -/
theorem size_zero (h : size a = 0) : wave a f t = 0 ∧ waveC a f t = 0 ∧ slip a f t = 0 := by
  have ha : ∀ k, a k = 0 := fun k => mag_eq_zero (term_zero _ (fun k => mag_nonneg (a k)) h k)
  have hm : mag 0 = 0 := by simp [mag]
  refine ⟨?_, ?_, ?_⟩
  · unfold wave; exact Finset.sum_eq_zero fun k _ => by rw [ha k, zero_mul]
  · unfold waveC; exact Finset.sum_eq_zero fun k _ => by rw [ha k, zero_mul]
  · unfold slip; exact Finset.sum_eq_zero fun k _ => by rw [ha k, hm, zero_mul]

theorem slip_pos (h : size a ≠ 0) : 0 < slip a f t := by
  refine lt_of_le_of_ne (slip_nonneg a f t) fun e => h ?_
  unfold size
  refine Finset.sum_eq_zero fun k _ => ?_
  have := term_zero _ (slip_term_nonneg a f t) e.symm k
  exact (mul_eq_zero.mp this).resolve_right (far_pos _).ne'

/-! ## A gaussian's weight times its colour -/

/-- An envelope is finite and not negative. -/
theorem env_real (u v s0 s1 : EReal) : ∃ e : ℝ, 0 ≤ e ∧ env u v s0 s1 = (e : EReal) := by
  have hsq : ∀ x : EReal, 0 ≤ x * x := fun x => by
    induction x with
    | bot => simp
    | top => simp
    | coe r => exact_mod_cast mul_self_nonneg r
  unfold env
  have hy := add_nonneg (hsq (u * s0)) (hsq (v * s1))
  generalize u * s0 * (u * s0) + v * s1 * (v * s1) = y at hy ⊢
  rw [word_half]
  induction y with
  | bot => simp at hy
  | top =>
    rw [EReal.coe_mul_top_of_neg (by norm_num)]
    exact ⟨0, le_rfl, rfl⟩
  | coe r =>
    rw [← EReal.coe_mul]
    exact ⟨_, (Real.exp_pos _).le, rfl⟩

/-- The weight with the cosine itself, and how far the kernel's, times the colour, can be. -/
def weightC (x0 x1 p0 p1 a s0 s1 : EReal) (a0 f0 a1 f1 : Fin 16 → EReal) : EReal :=
  env (turnX x0 x1 p0 p1 a) (turnY x0 x1 p0 p1 a) s0 s1 * waveC a0 f0 (turnX x0 x1 p0 p1 a) * waveC a1 f1 (turnY x0 x1 p0 p1 a)
def room (x0 x1 p0 p1 a s0 s1 : EReal) (a0 f0 a1 f1 : Fin 16 → EReal) : EReal :=
  Ideal.ofBits .f32 0x40000000#32 * env (turnX x0 x1 p0 p1 a) (turnY x0 x1 p0 p1 a) s0 s1
    * (slip a0 f0 (turnX x0 x1 p0 p1 a) * size a1 + size a0 * slip a1 f1 (turnY x0 x1 p0 p1 a))

theorem real_near {e p0 q0 s0 d0 p1 q1 s1 d1 c : ℝ} (he : 0 ≤ e) (h0 : |p0 - q0| ≤ d0) (hq0 : |q0| ≤ s0) (h1 : |p1 - q1| ≤ d1) (hp1 : |p1| ≤ 2 * s1) :
    |e * p0 * p1 * c - e * q0 * q1 * c| ≤ 2 * e * (d0 * s1 + s0 * d1) * |c| := by
  have a1 : |p0 * p1 - q0 * q1| ≤ 2 * (d0 * s1 + s0 * d1) := by
    have b0 := mul_le_mul h0 hp1 (abs_nonneg _) ((abs_nonneg _).trans h0)
    have b1 := mul_le_mul hq0 h1 (abs_nonneg _) ((abs_nonneg _).trans hq0)
    rw [← abs_mul] at b0 b1
    have b2 : 0 ≤ s0 * d1 := mul_nonneg ((abs_nonneg _).trans hq0) ((abs_nonneg _).trans h1)
    calc |p0 * p1 - q0 * q1| = |(p0 - q0) * p1 + q0 * (p1 - q1)| := by congr 1; ring
      _ ≤ |(p0 - q0) * p1| + |q0 * (p1 - q1)| := abs_add_le _ _
      _ ≤ 2 * (d0 * s1 + s0 * d1) := by linarith
  calc |e * p0 * p1 * c - e * q0 * q1 * c| = e * |p0 * p1 - q0 * q1| * |c| := by
        rw [← abs_of_nonneg he, ← abs_mul, ← abs_mul, abs_of_nonneg he]; congr 1; ring
    _ ≤ e * (2 * (d0 * s1 + s0 * d1)) * |c| := mul_le_mul_of_nonneg_right (mul_le_mul_of_nonneg_left a1 he) (abs_nonneg c)
    _ = 2 * e * (d0 * s1 + s0 * d1) * |c| := by ring

/-- Two finite numbers within a third, finite one. -/
def Within (w' w r : EReal) : Prop := ∃ p q ρ : ℝ, w' = (p : EReal) ∧ w = (q : EReal) ∧ r = (ρ : EReal) ∧ |p - q| ≤ ρ

theorem within_zero : Within 0 0 0 := ⟨0, 0, 0, rfl, rfl, rfl, by simp⟩

theorem within_of (e col t0 t1 : EReal) (a0 f0 a1 f1 : Fin 16 → EReal) (he : ∃ r : ℝ, 0 ≤ r ∧ e = (r : EReal))
    (h : Ideal.ofBits .f32 0x40000000#32 * e * (slip a0 f0 t0 * size a1 + size a0 * slip a1 f1 t1) * mag col ≠ ⊤) :
    Within (e * wave a0 f0 t0 * wave a1 f1 t1 * col) (e * waveC a0 f0 t0 * waveC a1 f1 t1 * col)
      (Ideal.ofBits .f32 0x40000000#32 * e * (slip a0 f0 t0 * size a1 + size a0 * slip a1 f1 t1) * mag col) := by
  obtain ⟨ε, hε, rfl⟩ := he
  have hm : mag 0 = 0 := by simp [mag]
  by_cases he0 : ε = 0
  · subst he0
    simpa using within_zero
  by_cases hc0 : col = 0
  · subst hc0
    simpa [hm] using within_zero
  by_cases hz0 : size a0 = 0
  · obtain ⟨h1, h2, h3⟩ := size_zero a0 f0 t0 hz0
    rw [hz0, h1, h2, h3]
    simpa using within_zero
  by_cases hz1 : size a1 = 0
  · obtain ⟨h1, h2, h3⟩ := size_zero a1 f1 t1 hz1
    rw [hz1, h1, h2, h3]
    simpa using within_zero
  have hs0 := lt_of_le_of_ne (size_nonneg a0) (Ne.symm hz0)
  have hs1 := lt_of_le_of_ne (size_nonneg a1) (Ne.symm hz1)
  have hd0 := slip_pos a0 f0 t0 hz0
  have hd1 := slip_pos a1 f1 t1 hz1
  have hcp : 0 < mag col := lt_of_le_of_ne (mag_nonneg _) fun e => hc0 (mag_eq_zero e.symm)
  have h2 : 0 < Ideal.ofBits .f32 0x40000000#32 * (ε : EReal) := by
    rw [word_two, ← EReal.coe_mul]
    have : 0 < 2 * ε := by have := lt_of_le_of_ne hε (Ne.symm he0); linarith
    exact_mod_cast this
  have hA := EReal.mul_pos hd0 hs1
  have hB := EReal.mul_pos hs0 hd1
  have hS : slip a0 f0 t0 * size a1 + size a0 * slip a1 f1 t1 ≠ ⊤ := fun e => h (mul_top_pos (mul_pos_top h2 e) hcp)
  have hSA : slip a0 f0 t0 * size a1 ≠ ⊤ := fun e => hS (top_le_iff.mp (e ▸ le_add_of_nonneg_right hB.le))
  have hSB : size a0 * slip a1 f1 t1 ≠ ⊤ := fun e => hS (top_le_iff.mp (e ▸ le_add_of_nonneg_left hA.le))
  obtain ⟨c, rfl⟩ := mag_finite fun e => h (mul_pos_top (EReal.mul_pos h2 (lt_of_lt_of_le hA (le_add_of_nonneg_right hB.le))) e)
  obtain ⟨p0, q0, σ0, δ0, e1, e2, e3, e4, i1, i2, i3⟩ := wave_close a0 f0 t0 fun e => hSA (mul_top_pos e hs1)
  obtain ⟨p1, q1, σ1, δ1, g1, g2, g3, g4, j1, j2, j3⟩ := wave_close a1 f1 t1 fun e => hSB (mul_pos_top hs0 e)
  rw [e1, e2, e3, e4, g1, g2, g3, g4, word_two, mag_coe]
  simp only [← EReal.coe_mul, ← EReal.coe_add]
  exact ⟨_, _, _, rfl, rfl, rfl, real_near hε i1 i2 j1 j3⟩

theorem weight_within (x0 x1 p0 p1 a s0 s1 : EReal) (a0 f0 a1 f1 : Fin 16 → EReal) (col : EReal)
    (h : room x0 x1 p0 p1 a s0 s1 a0 f0 a1 f1 * mag col ≠ ⊤) :
    Within (weight x0 x1 p0 p1 a s0 s1 a0 f0 a1 f1 * col) (weightC x0 x1 p0 p1 a s0 s1 a0 f0 a1 f1 * col) (room x0 x1 p0 p1 a s0 s1 a0 f0 a1 f1 * mag col) :=
  within_of _ _ _ _ _ _ _ _ (env_real _ _ _ _) h

theorem room_nonneg (x0 x1 p0 p1 a s0 s1 : EReal) (a0 f0 a1 f1 : Fin 16 → EReal) (col : EReal) :
    0 ≤ room x0 x1 p0 p1 a s0 s1 a0 f0 a1 f1 * mag col := by
  obtain ⟨e, he, h⟩ := env_real (turnX x0 x1 p0 p1 a) (turnY x0 x1 p0 p1 a) s0 s1
  unfold room
  rw [h, word_two, ← EReal.coe_mul]
  have h2 : (0 : EReal) ≤ ((2 * e : ℝ) : EReal) := by
    have : 0 ≤ 2 * e := by linarith
    exact_mod_cast this
  exact mul_nonneg (mul_nonneg h2 (add_nonneg (mul_nonneg (slip_nonneg _ _ _) (size_nonneg _)) (mul_nonneg (size_nonneg _) (slip_nonneg _ _ _)))) (mag_nonneg _)

/-- Sums of numbers that are each within a third wherever it is finite. -/
theorem sum_within {ι : Type} [Fintype ι] (w' w r : ι → EReal) (h0 : ∀ i, 0 ≤ r i) (h : ∀ i, r i ≠ ⊤ → Within (w' i) (w i) (r i)) :
    mag (∑ i, w' i - ∑ i, w i) ≤ ∑ i, r i := by
  by_cases ht : ∑ i, r i = ⊤
  · rw [ht]; exact le_top
  have hi := fun i => h i (term_finite r h0 ht i)
  choose p q ρ hp hq hr hd using hi
  rw [Finset.sum_congr rfl fun i _ => hp i, Finset.sum_congr rfl fun i _ => hq i, Finset.sum_congr rfl fun i _ => hr i, sum_coe, sum_coe, sum_coe,
    ← EReal.coe_sub, mag_coe, ← Finset.sum_sub_distrib]
  exact EReal.coe_le_coe_iff.mpr ((Finset.abs_sum_le_sum_abs _ _).trans (Finset.sum_le_sum fun i _ => hd i))

end Cert.Proof.Near

end
-- ==== Proof.PostNear.lean ====
/-
  The bound that is claimed of the kernel's picture against the one with the cosine itself, read at a point and a colour, and
  proved there of the picture with the kernel's waves.
-/
module

public import proofs.«01_k».proof.Post_near
public import proofs.«01_k».proof.Proof.RefPoint
public import proofs.«01_k».proof.Proof.Near

@[expose] public section

noncomputable section

namespace Cert.Proof.PostNear

open Idealize.ShloMosaic

/-- The shapes the bound's operations take fit. -/
instance facts : Cert.Post_near.Facts where
  sliceFits_S10000x2x1024_S10000x2x16 := by decide
  bcast_S_S10000x2x16 := by decide
  shapeCasts_S10000x2x16_S10000x2x16x1 := by decide
  bcast_S_S10000x2x16x1 := by decide
  bcast_S1_S1x1x1x1_3 := by decide
  bcast_S1x1x1x1_S10000x2x16x1_0_1_2_3 := by decide
  reducesTo_S10000x2x16x1_S10000x2x16_d3 := by decide
  h_S_ := by decide
  bcast_S512x2_S512x1x2_0_2 := by decide
  bcast_S10000x2_S1x10000x2_1_2 := by decide
  bcast_S512x1x2_S512x10000x2_0_1_2 := by decide
  bcast_S1x10000x2_S512x10000x2_0_1_2 := by decide
  shapeCasts_S10000x1_S10000 := by decide
  bcast_S10000_S1x10000_1 := by decide
  slices_S512x10000x2_S512x10000x1_0_0_0 := by decide
  shapeCasts_S512x10000x1_S512x10000 := by decide
  bcast_S1x10000_S512x10000_0_1 := by decide
  slices_S512x10000x2_S512x10000x1_0_0_1 := by decide
  slices_S10000x2_S10000x1_0_0 := by decide
  slices_S10000x2_S10000x1_0_1 := by decide
  bcast_S_S512x10000 := by decide
  slices_S10000x2x16_S10000x1x16_0_0_0 := by decide
  shapeCasts_S10000x1x16_S10000x16 := by decide
  bcast_S10000x16_S1x10000x16_1_2 := by decide
  bcast_S_S1x10000x16 := by decide
  bcast_S512x10000_S512x10000x1_0_1 := by decide
  bcast_S1x10000x16_S512x10000x16_0_1_2 := by decide
  bcast_S512x10000x1_S512x10000x16_0_1_2 := by decide
  reducesTo_S512x10000x16_S512x10000_d2 := by decide
  slices_S10000x2x16_S10000x1x16_0_1_0 := by decide
  bcast_S_S512x10000x16 := by decide
  reducesTo_S1x10000x16_S1x10000_d2 := by decide
  gather_S10000x2x1024_S10000x2x16x1_S10000x2x16_n_2_01_01_2_3_111_wf := by decide
  dot_S512x10000_S10000x3_S512x3_1_0_0_1_n_n_wf := by decide

open Cert.Post_near Cert.Post_near.Facts
open Cert.Proof.Ref (wide turnedX turnedY envs dimX dimY coefAt tops freqAt)
open Cert.Proof.Near (waveC size slip weightC room)

variable (x0 : FVec Ideal S512x2 .f32) (x1 : FVec Ideal S10000x3 .f32) (x2 x3 : FVec Ideal S10000x2 .f32) (x4 : FVec Ideal S10000x1 .f32)
  (C Q : FVec Ideal S10000x2x16 .f32)

/-- A number of every gaussian's every wave, alone and at every point; a number of every point and gaussian, at every wave. -/
def one (a : FVec Ideal S10000x16 .f32) : FVec Ideal S1x10000x16 .f32 := broadcastInDim S1x10000x16 ![1, 2] bcast_S10000x16_S1x10000x16_1_2 a
def all (a : FVec Ideal S1x10000x16 .f32) : FVec Ideal S512x10000x16 .f32 := broadcastInDim S512x10000x16 ![0, 1, 2] bcast_S1x10000x16_S512x10000x16_0_1_2 a
def deep (t : FVec Ideal S512x10000 .f32) : FVec Ideal S512x10000x16 .f32 :=
  broadcastInDim S512x10000x16 ![0, 1, 2] bcast_S512x10000x1_S512x10000x16_0_1_2 (broadcastInDim S512x10000x1 ![0, 1] bcast_S512x10000_S512x10000x1_0_1 t)

/-- The sums of the waves of the cosine itself. -/
def wavesC (a f : FVec Ideal S10000x16 .f32) (t : FVec Ideal S512x10000 .f32) : FVec Ideal S512x10000 .f32 :=
  Host.reduceAdd (mulf (all (one a))
    (Host.cos (mulf (all (mulf (broadcastInDim S1x10000x16 ![] bcast_S_S1x10000x16 (constant S_ .f32 0x40C90FDB#32)) (one f))) (deep t))))
    (constant S_ .f32 0x00000000#32) reducesTo_S512x10000x16_S512x10000_d2 h_S_

/-- The sums of the waves' sizes, and of how far each wave can be. -/
def sizes (a : FVec Ideal S10000x16 .f32) : FVec Ideal S1x10000 .f32 :=
  Host.reduceAdd (Host.absf (one a)) (constant S_ .f32 0x00000000#32) reducesTo_S1x10000x16_S1x10000_d2 h_S_
def sizesAll (a : FVec Ideal S10000x16 .f32) : FVec Ideal S512x10000 .f32 := broadcastInDim S512x10000 ![0, 1] bcast_S1x10000_S512x10000_0_1 (sizes a)
def slips (a f : FVec Ideal S10000x16 .f32) (t : FVec Ideal S512x10000 .f32) : FVec Ideal S512x10000 .f32 :=
  Host.reduceAdd (mulf (all (Host.absf (one a)))
    (addf (broadcastInDim S512x10000x16 ![] bcast_S_S512x10000x16 (constant S_ .f32 0x36800000#32))
      (mulf (broadcastInDim S512x10000x16 ![] bcast_S_S512x10000x16 (constant S_ .f32 0x34800000#32)) (Host.absf (mulf (all (one f)) (deep t))))))
    (constant S_ .f32 0x00000000#32) reducesTo_S512x10000x16_S512x10000_d2 h_S_

def weightsC : FVec Ideal S512x10000 .f32 :=
  mulf (mulf (envs x3 (turnedX x0 x2 x4) (turnedY x0 x2 x4)) (wavesC (dimX C) (dimX Q) (turnedX x0 x2 x4))) (wavesC (dimY C) (dimY Q) (turnedY x0 x2 x4))
def rooms : FVec Ideal S512x10000 .f32 :=
  mulf (mulf (broadcastInDim S512x10000 ![] bcast_S_S512x10000 (constant S_ .f32 0x40000000#32)) (envs x3 (turnedX x0 x2 x4) (turnedY x0 x2 x4)))
    (addf (mulf (slips (dimX C) (dimX Q) (turnedX x0 x2 x4)) (sizesAll (dimY C)))
      (mulf (sizesAll (dimX C)) (slips (dimY C) (dimY Q) (turnedY x0 x2 x4))))

/-- The picture with the cosine itself, and the bound. -/
def exact : FVec Ideal S512x3 .f32 := Host.dotGeneral dot_S512x10000_S10000x3_S512x3_1_0_0_1_n_n none (weightsC x0 x2 x3 x4 C Q) x1
def bound : FVec Ideal S512x3 .f32 := Host.dotGeneral dot_S512x10000_S10000x3_S512x3_1_0_0_1_n_n none (rooms x0 x2 x3 x4 C Q) (Host.absf x1)

theorem fn_eq (x5 : FVec Ideal S10000x2x1024 .f32) (y : FVec Ideal S512x3 .f32) :
    Cert.Post_near.fn (F := Ideal) x0 x1 x2 x3 x4 x5 y
      = cmpf .ole (Host.absf (subf y (exact x0 x1 x2 x3 x4 (coefAt x5 (tops x5)) (freqAt (tops x5)))))
          (bound x0 x1 x2 x3 x4 (coefAt x5 (tops x5)) (freqAt (tops x5))) := rfl

/-! ## Read at an element -/

variable (n : Fin 512) (g : Fin 10000)

theorem wavesC_at (a f : FVec Ideal S10000x16 .f32) (t : FVec Ideal S512x10000 .f32) :
    wavesC a f t (ix2 n g) = waveC (fun k => a (ix2 g k)) (fun k => f (ix2 g k)) (t (ix2 n g)) := by
  unfold waveC
  pointwise [wavesC, all, one, deep]

theorem sizes_at (a : FVec Ideal S10000x16 .f32) : sizesAll a (ix2 n g) = size (fun k => a (ix2 g k)) := by
  unfold size Near.mag
  pointwise [sizesAll, sizes, one]
  rfl

theorem slips_at (a f : FVec Ideal S10000x16 .f32) (t : FVec Ideal S512x10000 .f32) :
    slips a f t (ix2 n g) = slip (fun k => a (ix2 g k)) (fun k => f (ix2 g k)) (t (ix2 n g)) := by
  unfold slip Near.far Near.mag
  pointwise [slips, all, one, deep]
  rfl

theorem weightsC_at : weightsC x0 x2 x3 x4 C Q (ix2 n g) = weightC (x0 (ix2 n 0)) (x0 (ix2 n 1)) (x2 (ix2 g 0)) (x2 (ix2 g 1)) (x4 (ix2 g 0)) (x3 (ix2 g 0)) (x3 (ix2 g 1))
        (fun k => C (ix3 g 0 k)) (fun k => Q (ix3 g 0 k)) (fun k => C (ix3 g 1 k)) (fun k => Q (ix3 g 1 k)) := by
  show envs x3 _ _ (ix2 n g) * wavesC _ _ _ (ix2 n g) * wavesC _ _ _ (ix2 n g) = _
  simp only [Ref.envs_at, wavesC_at, Ref.turnedX_at, Ref.turnedY_at, Ref.dimX_at, Ref.dimY_at]
  rfl

theorem rooms_at : rooms x0 x2 x3 x4 C Q (ix2 n g) = room (x0 (ix2 n 0)) (x0 (ix2 n 1)) (x2 (ix2 g 0)) (x2 (ix2 g 1)) (x4 (ix2 g 0)) (x3 (ix2 g 0)) (x3 (ix2 g 1))
        (fun k => C (ix3 g 0 k)) (fun k => Q (ix3 g 0 k)) (fun k => C (ix3 g 1 k)) (fun k => Q (ix3 g 1 k)) := by
  show Ideal.ofBits .f32 0x40000000#32 * envs x3 _ _ (ix2 n g)
    * (slips _ _ _ (ix2 n g) * sizesAll _ (ix2 n g) + sizesAll _ (ix2 n g) * slips _ _ _ (ix2 n g)) = _
  simp only [Ref.envs_at, sizes_at, slips_at, Ref.turnedX_at, Ref.turnedY_at, Ref.dimX_at, Ref.dimY_at]
  rfl

theorem exact_at (c : Fin 3) : exact x0 x1 x2 x3 x4 C Q (ix2 n c) = ∑ g : Fin 10000, weightC (x0 (ix2 n 0)) (x0 (ix2 n 1)) (x2 (ix2 g 0)) (x2 (ix2 g 1)) (x4 (ix2 g 0)) (x3 (ix2 g 0)) (x3 (ix2 g 1))
        (fun k => C (ix3 g 0 k)) (fun k => Q (ix3 g 0 k)) (fun k => C (ix3 g 1 k)) (fun k => Q (ix3 g 1 k)) * x1 (ix2 g c) := by
  simp only [← weightsC_at]
  pointwise [exact]

theorem bound_at (c : Fin 3) : bound x0 x1 x2 x3 x4 C Q (ix2 n c) = ∑ g : Fin 10000, room (x0 (ix2 n 0)) (x0 (ix2 n 1)) (x2 (ix2 g 0)) (x2 (ix2 g 1)) (x4 (ix2 g 0)) (x3 (ix2 g 0)) (x3 (ix2 g 1))
        (fun k => C (ix3 g 0 k)) (fun k => Q (ix3 g 0 k)) (fun k => C (ix3 g 1 k)) (fun k => Q (ix3 g 1 k)) * Near.mag (x1 (ix2 g c)) := by
  simp only [← rooms_at]
  pointwise [bound]
  rfl

/-! ## The bound -/

/-- The kernel's picture is within the bound at every point and colour. -/
theorem within_at (c : Fin 3) : Near.mag (Ref.picture x0 x1 x2 x3 x4 C Q (ix2 n c) - exact x0 x1 x2 x3 x4 C Q (ix2 n c)) ≤ bound x0 x1 x2 x3 x4 C Q (ix2 n c) := by
  rw [Ref.picture_at, exact_at, bound_at]
  exact Near.sum_within _ _ _ (fun g => Near.room_nonneg _ _ _ _ _ _ _ _ _ _ _ _) fun g => Near.weight_within _ _ _ _ _ _ _ _ _ _ _ _

theorem cmp_ole {a b : EReal} (h : a ≤ b) : Ideal.cmp .ole a b = 1#1 := by simp [Ideal.cmp, h]

theorem cmpf_at {y e b : FVec Ideal S512x3 .f32} {j : S512x3.Idx} (h : Near.mag (y j - e j) ≤ b j) :
    cmpf .ole (Host.absf (subf y e)) b j = 1#1 := cmp_ole h

theorem ix2_eta (j : S512x3.Idx) : ∃ (n : Fin 512) (c : Fin 3), j = ix2 n c :=
  ⟨j 0, j 1, by
    funext d
    match d with
    | 0 => rfl
    | 1 => rfl⟩

theorem fn_picture (x5 : FVec Ideal S10000x2x1024 .f32) :
    Cert.Post_near.fn (F := Ideal) x0 x1 x2 x3 x4 x5 (Ref.picture x0 x1 x2 x3 x4 (coefAt x5 (tops x5)) (freqAt (tops x5))) = fun _ => 1#1 := by
  rw [fn_eq]
  funext j
  apply cmpf_at
  obtain ⟨n, c, rfl⟩ := ix2_eta j
  exact within_at x0 x1 x2 x3 x4 _ _ n c

end Cert.Proof.PostNear

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_no_tie
public import proofs.«01_k».proof.Proof.Gen.ReferenceIdeal.Run
public import proofs.«01_k».proof.Proof.Launch
public import proofs.«01_k».proof.Proof.Value
public import proofs.«01_k».proof.Proof.PostNear
public import Idealize.ShloMosaic.Adequacy
public import Idealize.ShloMosaic.Init

@[expose] public section

noncomputable section

namespace Cert.Proof

open Idealize.ShloMosaic Idealize.SL.Sem Cert.Kernel

variable {F : FTy → Type} [FloatOps F]

/-- What the kernel's run leaves: its result, and its arguments as they were. -/
theorem kernel_value (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : Tile.QC m r) (c : Dev Cert.KernelIdeal.nD) :
    r.2.mem ((c.tc : Thread Cert.KernelIdeal.nD Cert.KernelIdeal.τ).loc Cert.KernelIdeal.main_v6) = Tile.V7 m c (Proc.devRef .tc Cert.KernelIdeal.main_v6)
    ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  ⟨h.1 c (Proc.devRef .tc Cert.KernelIdeal.main_v6) (by decide),
    (h.1 c (Proc.devRef .tc Cert.KernelIdeal.main_arg0) (by decide)).trans
      (Tile.V7_keep m c _ (by decide) (by decide) (by decide) (by decide) (by decide) (by decide) (by decide) (by decide)),
    (h.1 c (Proc.devRef .tc Cert.KernelIdeal.main_arg1) (by decide)).trans
      (Tile.V7_keep m c _ (by decide) (by decide) (by decide) (by decide) (by decide) (by decide) (by decide) (by decide)),
    (h.1 c (Proc.devRef .tc Cert.KernelIdeal.main_arg2) (by decide)).trans
      (Tile.V7_keep m c _ (by decide) (by decide) (by decide) (by decide) (by decide) (by decide) (by decide) (by decide)),
    (h.1 c (Proc.devRef .tc Cert.KernelIdeal.main_arg3) (by decide)).trans
      (Tile.V7_keep m c _ (by decide) (by decide) (by decide) (by decide) (by decide) (by decide) (by decide) (by decide)),
    (h.1 c (Proc.devRef .tc Cert.KernelIdeal.main_arg4) (by decide)).trans
      (Tile.V7_keep m c _ (by decide) (by decide) (by decide) (by decide) (by decide) (by decide) (by decide) (by decide)),
    (h.1 c (Proc.devRef .tc Cert.KernelIdeal.main_arg5) (by decide)).trans
      (Tile.V7_keep m c _ (by decide) (by decide) (by decide) (by decide) (by decide) (by decide) (by decide) (by decide))⟩

/-! The kernel as printed and the one read over the reals are the same text: their bodies and tables agree. -/

theorem body0_eq : @Cert.Kernel.cc0__sc_topk_body Bits _ _ = @Cert.KernelIdeal.cc0__sc_topk_body Bits _ _ := rfl
theorem body1_eq : @Cert.Kernel.cc1__render_body Bits _ _ = @Cert.KernelIdeal.cc1__render_body Bits _ _ := rfl

theorem defs₀_eq : Cert.Kernel.defs₀ (F := Bits) = Cert.KernelIdeal.defs₀ (F := Bits) := by
  funext p l a
  unfold Cert.Kernel.defs₀ Cert.KernelIdeal.defs₀
  match p, l, a with
  | .tc, 0, a => rfl
  | .tc, 1, (t, s) => rfl
  | .scScalar c, 0, a => rfl
  | .scScalar c, 1, (t, s) => rfl
  | .scVector c u, 0, a => rfl
  | .scVector c u, 1, (t, s) => rfl

theorem defs_eq : Cert.Kernel.defs (F := Bits) = Cert.KernelIdeal.defs (F := Bits) :=
  congrArg (fun D : Defs Cert.KernelIdeal.nD Cert.KernelIdeal.τ Cert.KernelIdeal.sig (Elt Bits) Cert.KernelIdeal.Λ₀ =>
    Cert.KernelIdeal.sc.defs (Pipeline.defs Cert.KernelIdeal.pcfgs D)) defs₀_eq

/-- The kernel as printed: the launch's run, read at floats' bits. -/
theorem frame_kernel : Cert.quiescent_Kernel := fun m ρ _ => by
  have h := (θ_run (Cert.KernelIdeal.defs (F := Bits)) (Cert.KernelIdeal.threads (F := Bits)) ⟨m, fun _ => 0, ρ⟩).mono
    (fun r h => (⟨fun c => (kernel_value m r h c).2, h.2⟩ : (∀ c : Dev Cert.KernelIdeal.nD, _) ∧ _)) (Tile.run_main (F := Bits) m ρ)
  rw [← defs_eq] at h
  exact h

/-- The kernel over the reals. -/
theorem frame_kernelIdeal : Cert.quiescent_KernelIdeal := fun m ρ _ =>
  (θ_run Cert.KernelIdeal.defs _ _).mono (fun r h => ⟨fun c => (kernel_value m r h c).2, h.2⟩) (Tile.run_main (F := Ideal) m ρ)

/-- The reference: its run, read at its arguments; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_kernelIdeal_pre : Cert.quiescent_KernelIdeal_pre_no_tie := fun m ρ _ => frame_kernelIdeal m ρ trivial

theorem frame_reference_pre : Cert.quiescent_ReferenceIdeal_pre_no_tie := fun m ρ _ => frame_reference m ρ trivial

/-- The picture of the arguments, as the reference draws it. -/
def drawn (m : (ℓ : Loc Cert.KernelIdeal.nD Cert.KernelIdeal.τ Cert.KernelIdeal.sig) → Buf (Elt Ideal) ℓ) (c : Dev Cert.KernelIdeal.nD) : FVec Ideal Cert.KernelIdeal.S512x3 .f32 :=
  Ref.picture (Tile.arg0 m c) (Tile.arg1 m c) (Tile.arg2 m c) (Tile.arg3 m c) (Tile.arg4 m c)
    (Ref.coefAt (Tile.coefsIn m c) (Ref.tops (Tile.coefsIn m c))) (Ref.freqAt (Ref.tops (Tile.coefsIn m c)))

theorem algebraic : Cert.algebraic_KernelIdeal_ReferenceIdeal_pre_no_tie := fun m g m' g' hpre hm =>
  ⟨fun c => drawn m c,
    (θ_run Cert.KernelIdeal.defs _ _).mono (fun r h c =>
      ⟨(kernel_value m r h c).1.trans (Tile.out_eq m c (hpre c)), (kernel_value m r h c).2⟩) (Tile.run_main (F := Ideal) m g),
    (θ_run Cert.ReferenceIdeal.defs _ _).mono (fun r h c => by
      obtain ⟨e0, e1, e2, e3, e4, e5⟩ := hm c
      refine ⟨((h c).1.trans (Ref.res_eq (StableHlo.launchContents m' c))).trans ?_, (h c).2⟩
      change Ref.picture (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (Ref.coefAt (m' ((c.tc : Thread Cert.ReferenceIdeal.nD Cert.ReferenceIdeal.τ).loc Cert.ReferenceIdeal.main_arg5)) (Ref.tops (m' ((c.tc : Thread Cert.ReferenceIdeal.nD Cert.ReferenceIdeal.τ).loc Cert.ReferenceIdeal.main_arg5))))
        (Ref.freqAt (Ref.tops (m' ((c.tc : Thread Cert.ReferenceIdeal.nD Cert.ReferenceIdeal.τ).loc Cert.ReferenceIdeal.main_arg5)))) = drawn m c
      rw [e0, e1, e2, e3, e4, e5]
      rfl) (Cert.ReferenceIdeal.Value.run (F := Ideal) m' g')⟩

theorem near : Cert.holds_KernelIdeal_near_pre_no_tie := fun m g hpre =>
  (θ_run Cert.KernelIdeal.defs _ _).mono (fun r h c => by
    obtain ⟨hv, e0, e1, e2, e3, e4, e5⟩ := kernel_value m r h c
    refine ⟨e0, e1, e2, e3, e4, e5, ?_⟩
    rw [hv.trans (Tile.out_eq m c (hpre c))]
    exact PostNear.fn_picture _ _ _ _ _ _) (Tile.run_main (F := Ideal) m g)

theorem claim : Cert.Claim := ⟨Cert.Kernel.Gen.facts, Cert.KernelIdeal.Gen.facts, Cert.ReferenceIdeal.Gen.facts, Cert.Pre_no_tie.Gen.facts, PostNear.facts,
  frame_kernel, frame_kernelIdeal, frame_kernelIdeal_pre, frame_reference, frame_reference_pre, trivial, algebraic, near⟩

end Cert.Proof

end
